-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)) →
    ∃ (v0 : (c : Dev Cert.FfnIdeal.nD) → Buf (Elt Ideal) ((c.tc : Thread Cert.FfnIdeal.nD Cert.FfnIdeal.τ).loc Cert.FfnIdeal.main_v19_0)) (v1 : (c : Dev Cert.FfnIdeal.nD) → Buf (Elt Ideal) ((c.tc : Thread Cert.FfnIdeal.nD Cert.FfnIdeal.τ).loc Cert.FfnIdeal.main_v19_1)) (v2 : (c : Dev Cert.FfnIdeal.nD) → Buf (Elt Ideal) ((c.tc : Thread Cert.FfnIdeal.nD Cert.FfnIdeal.τ).loc Cert.FfnIdeal.main_v19_2)) (v3 : (c : Dev Cert.FfnIdeal.nD) → Buf (Elt Ideal) ((c.tc : Thread Cert.FfnIdeal.nD Cert.FfnIdeal.τ).loc Cert.FfnIdeal.main_v19_3)) (v4 : (c : Dev Cert.FfnIdeal.nD) → Buf (Elt Ideal) ((c.tc : Thread Cert.FfnIdeal.nD Cert.FfnIdeal.τ).loc Cert.FfnIdeal.main_v19_4)) (v5 : (c : Dev Cert.FfnIdeal.nD) → Buf (Elt Ideal) ((c.tc : Thread Cert.FfnIdeal.nD Cert.FfnIdeal.τ).loc Cert.FfnIdeal.main_v19_5)) (v6 : (c : Dev Cert.FfnIdeal.nD) → Buf (Elt Ideal) ((c.tc : Thread Cert.FfnIdeal.nD Cert.FfnIdeal.τ).loc Cert.FfnIdeal.main_v19_6)) (v7 : (c : Dev Cert.FfnIdeal.nD) → Buf (Elt Ideal) ((c.tc : Thread Cert.FfnIdeal.nD Cert.FfnIdeal.τ).loc Cert.FfnIdeal.main_v19_7)) (v8 : (c : Dev Cert.FfnIdeal.nD) → Buf (Elt Ideal) ((c.tc : Thread Cert.FfnIdeal.nD Cert.FfnIdeal.τ).loc Cert.FfnIdeal.main_v19_8)) (v9 : (c : Dev Cert.FfnIdeal.nD) → Buf (Elt Ideal) ((c.tc : Thread Cert.FfnIdeal.nD Cert.FfnIdeal.τ).loc Cert.FfnIdeal.main_v19_9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19_0) = v0 c
          ∧ r.2.mem ((c.tc : Thread Cert.FfnIdeal.nD Cert.FfnIdeal.τ).loc Cert.FfnIdeal.main_v19_1) = v1 c
          ∧ r.2.mem ((c.tc : Thread Cert.FfnIdeal.nD Cert.FfnIdeal.τ).loc Cert.FfnIdeal.main_v19_2) = v2 c
          ∧ r.2.mem ((c.tc : Thread Cert.FfnIdeal.nD Cert.FfnIdeal.τ).loc Cert.FfnIdeal.main_v19_3) = v3 c
          ∧ r.2.mem ((c.tc : Thread Cert.FfnIdeal.nD Cert.FfnIdeal.τ).loc Cert.FfnIdeal.main_v19_4) = v4 c
          ∧ r.2.mem ((c.tc : Thread Cert.FfnIdeal.nD Cert.FfnIdeal.τ).loc Cert.FfnIdeal.main_v19_5) = v5 c
          ∧ r.2.mem ((c.tc : Thread Cert.FfnIdeal.nD Cert.FfnIdeal.τ).loc Cert.FfnIdeal.main_v19_6) = v6 c
          ∧ r.2.mem ((c.tc : Thread Cert.FfnIdeal.nD Cert.FfnIdeal.τ).loc Cert.FfnIdeal.main_v19_7) = v7 c
          ∧ r.2.mem ((c.tc : Thread Cert.FfnIdeal.nD Cert.FfnIdeal.τ).loc Cert.FfnIdeal.main_v19_8) = v8 c
          ∧ r.2.mem ((c.tc : Thread Cert.FfnIdeal.nD Cert.FfnIdeal.τ).loc Cert.FfnIdeal.main_v19_9) = v9 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_v61) = v2 c
          ∧ r.2.mem ((c.tc : Thread Cert.FfnRefIdeal.nD Cert.FfnRefIdeal.τ).loc Cert.FfnRefIdeal.main_v62) = v3 c
          ∧ r.2.mem ((c.tc : Thread Cert.FfnRefIdeal.nD Cert.FfnRefIdeal.τ).loc Cert.FfnRefIdeal.main_v63) = v4 c
          ∧ r.2.mem ((c.tc : Thread Cert.FfnRefIdeal.nD Cert.FfnRefIdeal.τ).loc Cert.FfnRefIdeal.main_v64) = v5 c
          ∧ r.2.mem ((c.tc : Thread Cert.FfnRefIdeal.nD Cert.FfnRefIdeal.τ).loc Cert.FfnRefIdeal.main_v65) = v6 c
          ∧ r.2.mem ((c.tc : Thread Cert.FfnRefIdeal.nD Cert.FfnRefIdeal.τ).loc Cert.FfnRefIdeal.main_v66) = v7 c
          ∧ r.2.mem ((c.tc : Thread Cert.FfnRefIdeal.nD Cert.FfnRefIdeal.τ).loc Cert.FfnRefIdeal.main_v67) = v8 c
          ∧ r.2.mem ((c.tc : Thread Cert.FfnRefIdeal.nD Cert.FfnRefIdeal.τ).loc Cert.FfnRefIdeal.main_v68) = v9 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)
      ∧ m' ((c.tc : Thread Cert.MixRefIdeal.nD Cert.MixRefIdeal.τ).loc Cert.MixRefIdeal.main_arg18) = m ((c.tc : Thread Cert.MixIdeal.nD Cert.MixIdeal.τ).loc Cert.MixIdeal.main_arg18)
      ∧ m' ((c.tc : Thread Cert.MixRefIdeal.nD Cert.MixRefIdeal.τ).loc Cert.MixRefIdeal.main_arg19) = m ((c.tc : Thread Cert.MixIdeal.nD Cert.MixIdeal.τ).loc Cert.MixIdeal.main_arg19)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
          ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v77) = v0 c
          ∧ r.2.mem ((c.tc : Thread Cert.MixRefIdeal.nD Cert.MixRefIdeal.τ).loc Cert.MixRefIdeal.main_v123) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17)
          ∧ r.2.mem ((c.tc : Thread Cert.MixRefIdeal.nD Cert.MixRefIdeal.τ).loc Cert.MixRefIdeal.main_arg18) = m' ((c.tc : Thread Cert.MixRefIdeal.nD Cert.MixRefIdeal.τ).loc Cert.MixRefIdeal.main_arg18)
          ∧ r.2.mem ((c.tc : Thread Cert.MixRefIdeal.nD Cert.MixRefIdeal.τ).loc Cert.MixRefIdeal.main_arg19) = m' ((c.tc : Thread Cert.MixRefIdeal.nD Cert.MixRefIdeal.τ).loc Cert.MixRefIdeal.main_arg19))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
-- ==== Pre_finite_scores.lean ====
abbrev S768x32 : Shape := ⟨2, ![768, 32]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S512x32 : Shape := ⟨2, ![512, 32]⟩
abbrev S_ : Shape := ⟨0, ![]⟩
abbrev S1x32x128x1x4x64 : Shape := ⟨6, ![1, 32, 128, 1, 4, 64]⟩
abbrev S1x32x128x4x64 : Shape := ⟨5, ![1, 32, 128, 4, 64]⟩
abbrev S1x32x512x1x4x64 : Shape := ⟨6, ![1, 32, 512, 1, 4, 64]⟩
abbrev S1x32x512x4x64 : Shape := ⟨5, ![1, 32, 512, 4, 64]⟩
abbrev S1x32x2048x1x4x64 : Shape := ⟨6, ![1, 32, 2048, 1, 4, 64]⟩
abbrev S1x32x2048x4x64 : Shape := ⟨5, ![1, 32, 2048, 4, 64]⟩

class Facts : Prop where
  slices_S768x32_S512x32_0_0 : S768x32.Slices ![0, 0] S512x32
  bcast_S_S512x32 : S_.BroadcastsInDim S512x32 (![] : Fin 0 → Fin S512x32.rank)
  reducesTo_S512x32_S_d0_1 : S512x32.ReducesTo [0, 1] S_
  h_S_ : 0 < S_.numel
  slices_S1x32x128x2x4x64_S1x32x128x1x4x64_0_0_0_0_0_0 : S1x32x128x2x4x64.Slices ![0, 0, 0, 0, 0, 0] S1x32x128x1x4x64
  shapeCasts_S1x32x128x1x4x64_S1x32x128x4x64 : S1x32x128x1x4x64.ShapeCasts S1x32x128x4x64
  bcast_S_S1x32x128x4x64 : S_.BroadcastsInDim S1x32x128x4x64 (![] : Fin 0 → Fin S1x32x128x4x64.rank)
  reducesTo_S1x32x128x4x64_S_d0_1_2_3_4 : S1x32x128x4x64.ReducesTo [0, 1, 2, 3, 4] S_
  slices_S1x32x512x2x4x64_S1x32x512x1x4x64_0_0_0_0_0_0 : S1x32x512x2x4x64.Slices ![0, 0, 0, 0, 0, 0] S1x32x512x1x4x64
  shapeCasts_S1x32x512x1x4x64_S1x32x512x4x64 : S1x32x512x1x4x64.ShapeCasts S1x32x512x4x64
  bcast_S_S1x32x512x4x64 : S_.BroadcastsInDim S1x32x512x4x64 (![] : Fin 0 → Fin S1x32x512x4x64.rank)
  reducesTo_S1x32x512x4x64_S_d0_1_2_3_4 : S1x32x512x4x64.ReducesTo [0, 1, 2, 3, 4] S_
  slices_S1x32x2048x2x4x64_S1x32x2048x1x4x64_0_0_0_0_0_0 : S1x32x2048x2x4x64.Slices ![0, 0, 0, 0, 0, 0] S1x32x2048x1x4x64
  shapeCasts_S1x32x2048x1x4x64_S1x32x2048x4x64 : S1x32x2048x1x4x64.ShapeCasts S1x32x2048x4x64
  bcast_S_S1x32x2048x4x64 : S_.BroadcastsInDim S1x32x2048x4x64 (![] : Fin 0 → Fin S1x32x2048x4x64.rank)
  reducesTo_S1x32x2048x4x64_S_d0_1_2_3_4 : S1x32x2048x4x64.ReducesTo [0, 1, 2, 3, 4] S_

variable [Facts]

def fn_part2 {F : FTy → Type} [FloatOps F] (main_v31 : IVec S_ 1) (main_v34 : FVec F S1x32x2048x4x64 .f32) (main_v35 : FVec F S1x32x2048x4x64 .f32) : IVec S_ 1 :=
  let main_v36 : IVec S1x32x2048x4x64 1 := cmpf .olt main_v34 main_v35
  let main_c_10 : IVec S_ 1 := constantI S_ 1 1#1
  let main_v37 : IVec S_ 1 := (fun x v => Host.reduce IntOp.andi x v reducesTo_S1x32x2048x4x64_S_d0_1_2_3_4 h_S_) main_v36 main_c_10
  let main_v38 : IVec S_ 1 := andi main_v31 main_v37
  main_v38

def fn_part1 {F : FTy → Type} [FloatOps F] (main_arg2 : FVec F S768x32 .f32) (main_arg4 : FVec F S1x32x512x2x4x64 .f32) (main_arg5 : FVec F S1x32x2048x2x4x64 .f32) (main_v12 : IVec S_ 1) (main_v16 : IVec S512x32 1) (main_c_4 : IVec S_ 1) : IVec S_ 1 :=
  let main_v17 : IVec S_ 1 := (fun x v => Host.reduce IntOp.andi x v reducesTo_S512x32_S_d0_1 h_S_) main_v16 main_c_4
  let main_v18 : IVec S_ 1 := andi main_v12 main_v17
  let main_v19 : FVec F S1x32x512x1x4x64 .f32 := (extractStridedSlice S1x32x512x1x4x64 ![0, 0, 0, 0, 0, 0] · slices_S1x32x512x2x4x64_S1x32x512x1x4x64_0_0_0_0_0_0) main_arg4
  let main_v20 : FVec F S1x32x512x4x64 .f32 := shapeCast S1x32x512x4x64 main_v19 shapeCasts_S1x32x512x1x4x64_S1x32x512x4x64
  let main_v21 : FVec F S1x32x512x4x64 .f32 := Host.absf main_v20
  let main_cst_5 : FVec F S_ .f32 := constant S_ .f32 0x7F800000#32
  let main_v22 : FVec F S1x32x512x4x64 .f32 := broadcastInDim S1x32x512x4x64 ![] bcast_S_S1x32x512x4x64 main_cst_5
  let main_v23 : IVec S1x32x512x4x64 1 := cmpf .olt main_v21 main_v22
  let main_c_6 : IVec S_ 1 := constantI S_ 1 1#1
  let main_v24 : IVec S_ 1 := (fun x v => Host.reduce IntOp.andi x v reducesTo_S1x32x512x4x64_S_d0_1_2_3_4 h_S_) main_v23 main_c_6
  let main_v25 : IVec S_ 1 := andi main_v18 main_v24
  let main_v26 : FVec F S512x32 .f32 := (extractStridedSlice S512x32 ![0, 0] · slices_S768x32_S512x32_0_0) main_arg2
  let main_v27 : FVec F S512x32 .f32 := Host.absf main_v26
  let main_cst_7 : FVec F S_ .f32 := constant S_ .f32 0x7F800000#32
  let main_v28 : FVec F S512x32 .f32 := broadcastInDim S512x32 ![] bcast_S_S512x32 main_cst_7
  let main_v29 : IVec S512x32 1 := cmpf .olt main_v27 main_v28
  let main_c_8 : IVec S_ 1 := constantI S_ 1 1#1
  let main_v30 : IVec S_ 1 := (fun x v => Host.reduce IntOp.andi x v reducesTo_S512x32_S_d0_1 h_S_) main_v29 main_c_8
  let main_v31 : IVec S_ 1 := andi main_v25 main_v30
  let main_v32 : FVec F S1x32x2048x1x4x64 .f32 := (extractStridedSlice S1x32x2048x1x4x64 ![0, 0, 0, 0, 0, 0] · slices_S1x32x2048x2x4x64_S1x32x2048x1x4x64_0_0_0_0_0_0) main_arg5
  let main_v33 : FVec F S1x32x2048x4x64 .f32 := shapeCast S1x32x2048x4x64 main_v32 shapeCasts_S1x32x2048x1x4x64_S1x32x2048x4x64
  let main_v34 : FVec F S1x32x2048x4x64 .f32 := Host.absf main_v33
  let main_cst_9 : FVec F S_ .f32 := constant S_ .f32 0x7F800000#32
  let main_v35 : FVec F S1x32x2048x4x64 .f32 := broadcastInDim S1x32x2048x4x64 ![] bcast_S_S1x32x2048x4x64 main_cst_9
  fn_part2 (F := F) main_v31 main_v34 main_v35

def fn {F : FTy → Type} [FloatOps F] (main_arg0 : FVec F S768x32 .f32) (main_arg1 : FVec F S768x32 .f32) (main_arg2 : FVec F S768x32 .f32) (main_arg3 : FVec F S1x32x128x2x4x64 .f32) (main_arg4 : FVec F S1x32x512x2x4x64 .f32) (main_arg5 : FVec F S1x32x2048x2x4x64 .f32) : IVec S_ 1 :=
  let main_v0 : FVec F S512x32 .f32 := (extractStridedSlice S512x32 ![0, 0] · slices_S768x32_S512x32_0_0) main_arg0
  let main_v1 : FVec F S512x32 .f32 := Host.absf main_v0
  let main_cst : FVec F S_ .f32 := constant S_ .f32 0x7F800000#32
  let main_v2 : FVec F S512x32 .f32 := broadcastInDim S512x32 ![] bcast_S_S512x32 main_cst
  let main_v3 : IVec S512x32 1 := cmpf .olt main_v1 main_v2
  let main_c : IVec S_ 1 := constantI S_ 1 1#1
  let main_v4 : IVec S_ 1 := (fun x v => Host.reduce IntOp.andi x v reducesTo_S512x32_S_d0_1 h_S_) main_v3 main_c
  let main_c_0 : IVec S_ 1 := constantI S_ 1 1#1
  let main_v5 : IVec S_ 1 := andi main_c_0 main_v4
  let main_v6 : FVec F S1x32x128x1x4x64 .f32 := (extractStridedSlice S1x32x128x1x4x64 ![0, 0, 0, 0, 0, 0] · slices_S1x32x128x2x4x64_S1x32x128x1x4x64_0_0_0_0_0_0) main_arg3
  let main_v7 : FVec F S1x32x128x4x64 .f32 := shapeCast S1x32x128x4x64 main_v6 shapeCasts_S1x32x128x1x4x64_S1x32x128x4x64
  let main_v8 : FVec F S1x32x128x4x64 .f32 := Host.absf main_v7
  let main_cst_1 : FVec F S_ .f32 := constant S_ .f32 0x7F800000#32
  let main_v9 : FVec F S1x32x128x4x64 .f32 := broadcastInDim S1x32x128x4x64 ![] bcast_S_S1x32x128x4x64 main_cst_1
  let main_v10 : IVec S1x32x128x4x64 1 := cmpf .olt main_v8 main_v9
  let main_c_2 : IVec S_ 1 := constantI S_ 1 1#1
  let main_v11 : IVec S_ 1 := (fun x v => Host.reduce IntOp.andi x v reducesTo_S1x32x128x4x64_S_d0_1_2_3_4 h_S_) main_v10 main_c_2
  let main_v12 : IVec S_ 1 := andi main_v5 main_v11
  let main_v13 : FVec F S512x32 .f32 := (extractStridedSlice S512x32 ![0, 0] · slices_S768x32_S512x32_0_0) main_arg1
  let main_v14 : FVec F S512x32 .f32 := Host.absf main_v13
  let main_cst_3 : FVec F S_ .f32 := constant S_ .f32 0x7F800000#32
  let main_v15 : FVec F S512x32 .f32 := broadcastInDim S512x32 ![] bcast_S_S512x32 main_cst_3
  let main_v16 : IVec S512x32 1 := cmpf .olt main_v14 main_v15
  let main_c_4 : IVec S_ 1 := constantI S_ 1 1#1
  fn_part1 (F := F) main_arg2 main_arg4 main_arg5 main_v12 main_v16 main_c_4
-- ==== Kernel.lean ====
abbrev S768x32 : Shape := ⟨2, ![768, 32]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x128x2x4x64 : Shape := ⟨5, ![32, 128, 2, 4, 64]⟩
abbrev S32x2x4x64x128 : Shape := ⟨5, ![32, 2, 4, 64, 128]⟩
abbrev S32x512x128 : Shape := ⟨3, ![32, 512, 128]⟩
abbrev S32x512x2x4x64 : Shape := ⟨5, ![32, 512, 2, 4, 64]⟩
abbrev S32x2x4x64x512 : Shape := ⟨5, ![32, 2, 4, 64, 512]⟩
abbrev S32x512x512 : Shape := ⟨3, ![32, 512, 512]⟩
abbrev S32x2048x2x4x64 : Shape := ⟨5, ![32, 2048, 2, 4, 64]⟩
abbrev S32x2x4x64x2048 : Shape := ⟨5, ![32, 2, 4, 64, 2048]⟩
abbrev S32x512x2048 : Shape := ⟨3, ![32, 512, 2048]⟩
abbrev S256x32 : Shape := ⟨2, ![256, 32]⟩
abbrev S2x512x128 : Shape := ⟨3, ![2, 512, 128]⟩
abbrev S2x512x512 : Shape := ⟨3, ![2, 512, 512]⟩
abbrev S2x512x2048 : Shape := ⟨3, ![2, 512, 2048]⟩
abbrev S768 : Shape := ⟨1, ![768]⟩
abbrev S768x1 : Shape := ⟨2, ![768, 1]⟩
abbrev S1x128 : Shape := ⟨2, ![1, 128]⟩
abbrev S512x1 : Shape := ⟨2, ![512, 1]⟩
abbrev S1x512x128 : Shape := ⟨3, ![1, 512, 128]⟩
abbrev S512x128 : Shape := ⟨2, ![512, 128]⟩
abbrev S1x512 : Shape := ⟨2, ![1, 512]⟩
abbrev S1x512x512 : Shape := ⟨3, ![1, 512, 512]⟩
abbrev S512x512 : Shape := ⟨2, ![512, 512]⟩
abbrev S1x2048 : Shape := ⟨2, ![1, 2048]⟩
abbrev S1x512x2048 : Shape := ⟨3, ![1, 512, 2048]⟩
abbrev S512x2048 : Shape := ⟨2, ![512, 2048]⟩
abbrev S256x1 : Shape := ⟨2, ![256, 1]⟩
abbrev S1x256x128 : Shape := ⟨3, ![1, 256, 128]⟩
abbrev S256x128 : Shape := ⟨2, ![256, 128]⟩
abbrev S64x128 : Shape := ⟨2, ![64, 128]⟩
abbrev S128 : Shape := ⟨1, ![128]⟩
abbrev S4x128 : Shape := ⟨2, ![4, 128]⟩
abbrev S64x1 : Shape := ⟨2, ![64, 1]⟩
abbrev S1 : Shape := ⟨1, ![1]⟩
abbrev S1x1 : Shape := ⟨2, ![1, 1]⟩
abbrev S4x1 : Shape := ⟨2, ![4, 1]⟩
abbrev S4 : Shape := ⟨1, ![4]⟩
abbrev S256 : Shape := ⟨1, ![256]⟩
abbrev S1x256x512 : Shape := ⟨3, ![1, 256, 512]⟩
abbrev S256x512 : Shape := ⟨2, ![256, 512]⟩
abbrev S64x512 : Shape := ⟨2, ![64, 512]⟩
abbrev S512 : Shape := ⟨1, ![512]⟩
abbrev S4x512 : Shape := ⟨2, ![4, 512]⟩
abbrev S1x256x2048 : Shape := ⟨3, ![1, 256, 2048]⟩
abbrev S256x2048 : Shape := ⟨2, ![256, 2048]⟩
abbrev S64x2048 : Shape := ⟨2, ![64, 2048]⟩
abbrev S2048 : Shape := ⟨1, ![2048]⟩
abbrev S4x2048 : Shape := ⟨2, ![4, 2048]⟩

abbrev nBuf : Space → Nat
  | .hbm => 19
  | .vmem => 16
  | .smem => 0
  | _ => 0

abbrev bufTy : (tb : Table) → Fin (tcTables nBuf tb) → BufTy
  | .hbm, ⟨0, _⟩ => ⟨S768x32, .f32⟩
  | .hbm, ⟨1, _⟩ => ⟨S768x32, .f32⟩
  | .hbm, ⟨2, _⟩ => ⟨S768x32, .f32⟩
  | .hbm, ⟨3, _⟩ => ⟨S1x32x128x2x4x64, .f32⟩
  | .hbm, ⟨4, _⟩ => ⟨S1x32x512x2x4x64, .f32⟩
  | .hbm, ⟨5, _⟩ => ⟨S1x32x2048x2x4x64, .f32⟩
  | .hbm, ⟨6, _⟩ => ⟨S32x128x2x4x64, .f32⟩
  | .hbm, ⟨7, _⟩ => ⟨S32x2x4x64x128, .f32⟩
  | .hbm, ⟨8, _⟩ => ⟨S32x512x128, .f32⟩
  | .hbm, ⟨9, _⟩ => ⟨S32x512x2x4x64, .f32⟩
  | .hbm, ⟨10, _⟩ => ⟨S32x2x4x64x512, .f32⟩
  | .hbm, ⟨11, _⟩ => ⟨S32x512x512, .f32⟩
  | .hbm, ⟨12, _⟩ => ⟨S32x2048x2x4x64, .f32⟩
  | .hbm, ⟨13, _⟩ => ⟨S32x2x4x64x2048, .f32⟩
  | .hbm, ⟨14, _⟩ => ⟨S32x512x2048, .f32⟩
  | .hbm, ⟨15, _⟩ => ⟨S32x512x128, .f32⟩
  | .hbm, ⟨16, _⟩ => ⟨S32x512x512, .f32⟩
  | .hbm, ⟨17, _⟩ => ⟨S32x512x2048, .f32⟩
  | .hbm, ⟨18, _⟩ => ⟨S256x32, .f32⟩
  | .local _ .vmem, ⟨0, _⟩ => ⟨S768x32, .f32⟩
  | .local _ .vmem, ⟨1, _⟩ => ⟨S768x32, .f32⟩
  | .local _ .vmem, ⟨2, _⟩ => ⟨S768x32, .f32⟩
  | .local _ .vmem, ⟨3, _⟩ => ⟨S2x512x128, .f32⟩
  | .local _ .vmem, ⟨4, _⟩ => ⟨S2x512x128, .f32⟩
  | .local _ .vmem, ⟨5, _⟩ => ⟨S2x512x512, .f32⟩
  | .local _ .vmem, ⟨6, _⟩ => ⟨S2x512x512, .f32⟩
  | .local _ .vmem, ⟨7, _⟩ => ⟨S2x512x2048, .f32⟩
  | .local _ .vmem, ⟨8, _⟩ => ⟨S2x512x2048, .f32⟩
  | .local _ .vmem, ⟨9, _⟩ => ⟨S2x512x128, .f32⟩
  | .local _ .vmem, ⟨10, _⟩ => ⟨S2x512x128, .f32⟩
  | .local _ .vmem, ⟨11, _⟩ => ⟨S2x512x512, .f32⟩
  | .local _ .vmem, ⟨12, _⟩ => ⟨S2x512x512, .f32⟩
  | .local _ .vmem, ⟨13, _⟩ => ⟨S2x512x2048, .f32⟩
  | .local _ .vmem, ⟨14, _⟩ => ⟨S2x512x2048, .f32⟩
  | .local _ .vmem, ⟨15, _⟩ => ⟨S256x32, .f32⟩
  | _, _ => ⟨S768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S768x32 : Shape := ⟨2, ![768, 32]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x768 : Shape := ⟨2, ![32, 768]⟩
abbrev S32x3x4x64 : Shape := ⟨4, ![32, 3, 4, 64]⟩
abbrev S32x128x2x4x64 : Shape := ⟨5, ![32, 128, 2, 4, 64]⟩
abbrev S32x2x4x64 : Shape := ⟨4, ![32, 2, 4, 64]⟩
abbrev S32x1x2x4x64 : Shape := ⟨5, ![32, 1, 2, 4, 64]⟩
abbrev S32x129x2x4x64 : Shape := ⟨5, ![32, 129, 2, 4, 64]⟩
abbrev S32x1x4x64 : Shape := ⟨4, ![32, 1, 4, 64]⟩
abbrev S32x4x64 : Shape := ⟨3, ![32, 4, 64]⟩
abbrev S32x129x1x4x64 : Shape := ⟨5, ![32, 129, 1, 4, 64]⟩
abbrev S32x129x4x64 : Shape := ⟨4, ![32, 129, 4, 64]⟩
abbrev S32x4x129 : Shape := ⟨3, ![32, 4, 129]⟩
abbrev S_ : Shape := ⟨0, ![]⟩
abbrev S32x4 : Shape := ⟨2, ![32, 4]⟩
abbrev S32x4x1 : Shape := ⟨3, ![32, 4, 1]⟩
abbrev S32x512x2x4x64 : Shape := ⟨5, ![32, 512, 2, 4, 64]⟩
abbrev S32x513x2x4x64 : Shape := ⟨5, ![32, 513, 2, 4, 64]⟩
abbrev S32x2048x2x4x64 : Shape := ⟨5, ![32, 2048, 2, 4, 64]⟩
abbrev S32x2049x2x4x64 : Shape := ⟨5, ![32, 2049, 2, 4, 64]⟩
abbrev S1x32x4 : Shape := ⟨3, ![1, 32, 4]⟩
abbrev S3x32x4 : Shape := ⟨3, ![3, 32, 4]⟩
abbrev S1x32x4x64 : Shape := ⟨4, ![1, 32, 4, 64]⟩
abbrev S3x32x4x64 : Shape := ⟨4, ![3, 32, 4, 64]⟩
abbrev S32x2x4x64x128 : Shape := ⟨5, ![32, 2, 4, 64, 128]⟩
abbrev S32x512x128 : Shape := ⟨3, ![32, 512, 128]⟩
abbrev S32x2x4x64x512 : Shape := ⟨5, ![32, 2, 4, 64, 512]⟩
abbrev S32x512x512 : Shape := ⟨3, ![32, 512, 512]⟩
abbrev S32x2x4x64x2048 : Shape := ⟨5, ![32, 2, 4, 64, 2048]⟩
abbrev S32x512x2048 : Shape := ⟨3, ![32, 512, 2048]⟩
abbrev S32x256 : Shape := ⟨2, ![32, 256]⟩
abbrev S256x32 : Shape := ⟨2, ![256, 32]⟩

abbrev nBuf : Space → Nat
  | .hbm => 124
  | .vmem => 0
  | .smem => 0
  | _ => 0

abbrev bufTy : (tb : Table) → Fin (tcTables nBuf tb) → BufTy
  | .hbm, ⟨0, _⟩ => ⟨S768x32, .f32⟩
  | .hbm, ⟨1, _⟩ => ⟨S768x32, .f32⟩
  | .hbm, ⟨2, _⟩ => ⟨S768x32, .f32⟩
  | .hbm, ⟨3, _⟩ => ⟨S1x32x128x2x4x64, .f32⟩
  | .hbm, ⟨4, _⟩ => ⟨S1x32x512x2x4x64, .f32⟩
  | .hbm, ⟨5, _⟩ => ⟨S1x32x2048x2x4x64, .f32⟩
  | .hbm, ⟨6, _⟩ => ⟨S32x768, .f32⟩
  | .hbm, ⟨7, _⟩ => ⟨S32x3x4x64, .f32⟩
  | .hbm, ⟨8, _⟩ => ⟨S32x128x2x4x64, .f32⟩
  | .hbm, ⟨9, _⟩ => ⟨S32x2x4x64, .f32⟩
  | .hbm, ⟨10, _⟩ => ⟨S32x1x2x4x64, .f32⟩
  | .hbm, ⟨11, _⟩ => ⟨S32x129x2x4x64, .f32⟩
  | .hbm, ⟨12, _⟩ => ⟨S32x128x2x4x64, .f32⟩
  | .hbm, ⟨13, _⟩ => ⟨S32x1x4x64, .f32⟩
  | .hbm, ⟨14, _⟩ => ⟨S32x4x64, .f32⟩
  | .hbm, ⟨15, _⟩ => ⟨S32x129x1x4x64, .f32⟩
  | .hbm, ⟨16, _⟩ => ⟨S32x129x4x64, .f32⟩
  | .hbm, ⟨17, _⟩ => ⟨S32x129x1x4x64, .f32⟩
  | .hbm, ⟨18, _⟩ => ⟨S32x129x4x64, .f32⟩
  | .hbm, ⟨19, _⟩ => ⟨S32x4x129, .f32⟩
  | .hbm, ⟨20, _⟩ => ⟨S_, .f32⟩
  | .hbm, ⟨21, _⟩ => ⟨S32x4, .f32⟩
  | .hbm, ⟨22, _⟩ => ⟨S32x4x1, .f32⟩
  | .hbm, ⟨23, _⟩ => ⟨S32x4x129, .f32⟩
  | .hbm, ⟨24, _⟩ => ⟨S32x4x129, .f32⟩
  | .hbm, ⟨25, _⟩ => ⟨S32x4x129, .f32⟩
  | .hbm, ⟨26, _⟩ => ⟨S_, .f32⟩
  | .hbm, ⟨27, _⟩ => ⟨S32x4, .f32⟩
  | .hbm, ⟨28, _⟩ => ⟨S32x4x1, .f32⟩
  | .hbm, ⟨29, _⟩ => ⟨S32x4x129, .f32⟩
  | .hbm, ⟨30, _⟩ => ⟨S32x4x129, .f32⟩
  | .hbm, ⟨31, _⟩ => ⟨S32x4x1, .f32⟩
  | .hbm, ⟨32, _⟩ => ⟨S32x4x1, .f32⟩
  | .hbm, ⟨33, _⟩ => ⟨S32x4, .f32⟩
  | .hbm, ⟨34, _⟩ => ⟨S32x4x64, .f32⟩
  | .hbm, ⟨35, _⟩ => ⟨S32x768, .f32⟩
  | .hbm, ⟨36, _⟩ => ⟨S32x3x4x64, .f32⟩
  | .hbm, ⟨37, _⟩ => ⟨S32x512x2x4x64, .f32⟩
  | .hbm, ⟨38, _⟩ => ⟨S32x2x4x64, .f32⟩
  | .hbm, ⟨39, _⟩ => ⟨S32x1x2x4x64, .f32⟩
  | .hbm, ⟨40, _⟩ => ⟨S32x513x2x4x64, .f32⟩
  | .hbm, ⟨41, _⟩ => ⟨S32x512x2x4x64, .f32⟩
  | .hbm, ⟨42, _⟩ => ⟨S32x1x4x64, .f32⟩
  | .hbm, ⟨43, _⟩ => ⟨S32x4x64, .f32⟩
  | .hbm, ⟨44, _⟩ => ⟨S32x129x1x4x64, .f32⟩
  | .hbm, ⟨45, _⟩ => ⟨S32x129x4x64, .f32⟩
  | .hbm, ⟨46, _⟩ => ⟨S32x129x1x4x64, .f32⟩
  | .hbm, ⟨47, _⟩ => ⟨S32x129x4x64, .f32⟩
  | .hbm, ⟨48, _⟩ => ⟨S32x4x129, .f32⟩
  | .hbm, ⟨49, _⟩ => ⟨S_, .f32⟩
  | .hbm, ⟨50, _⟩ => ⟨S32x4, .f32⟩
  | .hbm, ⟨51, _⟩ => ⟨S32x4x1, .f32⟩
  | .hbm, ⟨52, _⟩ => ⟨S32x4x129, .f32⟩
  | .hbm, ⟨53, _⟩ => ⟨S32x4x129, .f32⟩
  | .hbm, ⟨54, _⟩ => ⟨S32x4x129, .f32⟩
  | .hbm, ⟨55, _⟩ => ⟨S_, .f32⟩
  | .hbm, ⟨56, _⟩ => ⟨S32x4, .f32⟩
  | .hbm, ⟨57, _⟩ => ⟨S32x4x1, .f32⟩
  | .hbm, ⟨58, _⟩ => ⟨S32x4x129, .f32⟩
  | .hbm, ⟨59, _⟩ => ⟨S32x4x129, .f32⟩
  | .hbm, ⟨60, _⟩ => ⟨S32x4x1, .f32⟩
  | .hbm, ⟨61, _⟩ => ⟨S32x4x1, .f32⟩
  | .hbm, ⟨62, _⟩ => ⟨S32x4, .f32⟩
  | .hbm, ⟨63, _⟩ => ⟨S32x4x64, .f32⟩
  | .hbm, ⟨64, _⟩ => ⟨S32x768, .f32⟩
  | .hbm, ⟨65, _⟩ => ⟨S32x3x4x64, .f32⟩
  | .hbm, ⟨66, _⟩ => ⟨S32x2048x2x4x64, .f32⟩
  | .hbm, ⟨67, _⟩ => ⟨S32x2x4x64, .f32⟩
  | .hbm, ⟨68, _⟩ => ⟨S32x1x2x4x64, .f32⟩
  | .hbm, ⟨69, _⟩ => ⟨S32x2049x2x4x64, .f32⟩
  | .hbm, ⟨70, _⟩ => ⟨S32x2048x2x4x64, .f32⟩
  | .hbm, ⟨71, _⟩ => ⟨S32x1x4x64, .f32⟩
  | .hbm, ⟨72, _⟩ => ⟨S32x4x64, .f32⟩
  | .hbm, ⟨73, _⟩ => ⟨S32x129x1x4x64, .f32⟩
  | .hbm, ⟨74, _⟩ => ⟨S32x129x4x64, .f32⟩
  | .hbm, ⟨75, _⟩ => ⟨S32x129x1x4x64, .f32⟩
  | .hbm, ⟨76, _⟩ => ⟨S32x129x4x64, .f32⟩
  | .hbm, ⟨77, _⟩ => ⟨S32x4x129, .f32⟩
  | .hbm, ⟨78, _⟩ => ⟨S_, .f32⟩
  | .hbm, ⟨79, _⟩ => ⟨S32x4, .f32⟩
  | .hbm, ⟨80, _⟩ => ⟨S32x4x1, .f32⟩
  | .hbm, ⟨81, _⟩ => ⟨S32x4x129, .f32⟩
  | .hbm, ⟨82, _⟩ => ⟨S32x4x129, .f32⟩
  | .hbm, ⟨83, _⟩ => ⟨S32x4x129, .f32⟩
  | .hbm, ⟨84, _⟩ => ⟨S_, .f32⟩
  | .hbm, ⟨85, _⟩ => ⟨S32x4, .f32⟩
  | .hbm, ⟨86, _⟩ => ⟨S32x4x1, .f32⟩
  | .hbm, ⟨87, _⟩ => ⟨S32x4x129, .f32⟩
  | .hbm, ⟨88, _⟩ => ⟨S32x4x129, .f32⟩
  | .hbm, ⟨89, _⟩ => ⟨S32x4x1, .f32⟩
  | .hbm, ⟨90, _⟩ => ⟨S32x4x1, .f32⟩
  | .hbm, ⟨91, _⟩ => ⟨S32x4, .f32⟩
  | .hbm, ⟨92, _⟩ => ⟨S32x4x64, .f32⟩
  | .hbm, ⟨93, _⟩ => ⟨S1x32x4, .f32⟩
  | .hbm, ⟨94, _⟩ => ⟨S1x32x4, .f32⟩
  | .hbm, ⟨95, _⟩ => ⟨S1x32x4, .f32⟩
  | .hbm, ⟨96, _⟩ => ⟨S3x32x4, .f32⟩
  | .hbm, ⟨97, _⟩ => ⟨S_, .f32⟩
  | .hbm, ⟨98, _⟩ => ⟨S32x4, .f32⟩
  | .hbm, ⟨99, _⟩ => ⟨S_, .f32⟩
  | .hbm, ⟨100, _⟩ => ⟨S32x4, .f32⟩
  | .hbm, ⟨101, _⟩ => ⟨S32x4, .f32⟩
  | .hbm, ⟨102, _⟩ => ⟨S1x32x4, .f32⟩
  | .hbm, ⟨103, _⟩ => ⟨S3x32x4, .f32⟩
  | .hbm, ⟨104, _⟩ => ⟨S3x32x4, .f32⟩
  | .hbm, ⟨105, _⟩ => ⟨S3x32x4, .f32⟩
  | .hbm, ⟨106, _⟩ => ⟨S_, .f32⟩
  | .hbm, ⟨107, _⟩ => ⟨S32x4, .f32⟩
  | .hbm, ⟨108, _⟩ => ⟨S1x32x4, .f32⟩
  | .hbm, ⟨109, _⟩ => ⟨S3x32x4, .f32⟩
  | .hbm, ⟨110, _⟩ => ⟨S3x32x4, .f32⟩
  | .hbm, ⟨111, _⟩ => ⟨S1x32x4x64, .f32⟩
  | .hbm, ⟨112, _⟩ => ⟨S1x32x4x64, .f32⟩
  | .hbm, ⟨113, _⟩ => ⟨S1x32x4x64, .f32⟩
  | .hbm, ⟨114, _⟩ => ⟨S3x32x4x64, .f32⟩
  | .hbm, ⟨115, _⟩ => ⟨S32x4x64, .f32⟩
  | .hbm, ⟨116, _⟩ => ⟨S32x2x4x64x128, .f32⟩
  | .hbm, ⟨117, _⟩ => ⟨S32x512x128, .f32⟩
  | .hbm, ⟨118, _⟩ => ⟨S32x2x4x64x512, .f32⟩
  | .hbm, ⟨119, _⟩ => ⟨S32x512x512, .f32⟩
  | .hbm, ⟨120, _⟩ => ⟨S32x2x4x64x2048, .f32⟩
  | .hbm, ⟨121, _⟩ => ⟨S32x512x2048, .f32⟩
  | .hbm, ⟨122, _⟩ => ⟨S32x256, .f32⟩
  | .hbm, ⟨123, _⟩ => ⟨S256x32, .f32⟩
  | _, _ => ⟨S768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_3 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_5 : Ref sig .tc := ⟨.hbm, 97, rfl⟩
abbrev main_v85 : Ref sig .tc := ⟨.hbm, 98, rfl⟩
abbrev main_cst_6 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_7 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩

abbrev nD : Nat := 1
abbrev τ : Topo := Topo.v7x

variable {F : FTy → Type} [FloatOps F]
-- ==== Ffn.lean ====
abbrev S16x2048x1024 : Shape := ⟨3, ![16, 2048, 1024]⟩
abbrev S32x1x1024 : Shape := ⟨3, ![32, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x4864 : Shape := ⟨3, ![1, 1024, 4864]⟩
abbrev S1x4x128x128 : Shape := ⟨4, ![1, 4, 128, 128]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1024 : Shape := ⟨1, ![1024]⟩
abbrev S1024x2816 : Shape := ⟨2, ![1024, 2816]⟩
abbrev S2816x1024 : Shape := ⟨2, ![2816, 1024]⟩
abbrev S1024x4864 : Shape := ⟨2, ![1024, 4864]⟩
abbrev S4x128x128 : Shape := ⟨3, ![4, 128, 128]⟩
abbrev S512x128 : Shape := ⟨2, ![512, 128]⟩
abbrev S512x1024 : Shape := ⟨2, ![512, 1024]⟩
abbrev S256x1024 : Shape := ⟨2, ![256, 1024]⟩
abbrev S1024x1024 : Shape := ⟨2, ![1024, 1024]⟩
abbrev S32768x1024 : Shape := ⟨2, ![32768, 1024]⟩
abbrev S32x1024 : Shape := ⟨2, ![32, 1024]⟩
abbrev S32x2816 : Shape := ⟨2, ![32, 2816]⟩
abbrev S128x1024 : Shape := ⟨2, ![128, 1024]⟩
abbrev S32x4864 : Shape := ⟨2, ![32, 4864]⟩
abbrev S16x128 : Shape := ⟨2, ![16, 128]⟩
abbrev S16x1024 : Shape := ⟨2, ![16, 1024]⟩
abbrev S32 : Shape := ⟨1, ![32]⟩
abbrev S32x1 : Shape := ⟨2, ![32, 1]⟩
abbrev S1024x1536 : Shape := ⟨2, ![1024, 1536]⟩
abbrev S32x1536 : Shape := ⟨2, ![32, 1536]⟩
abbrev S1536x1024 : Shape := ⟨2, ![1536, 1024]⟩
abbrev S1024x1280 : Shape := ⟨2, ![1024, 1280]⟩
abbrev S32x1280 : Shape := ⟨2, ![32, 1280]⟩
abbrev S1280x1024 : Shape := ⟨2, ![1280, 1024]⟩
abbrev S1024x1 : Shape := ⟨2, ![1024, 1]⟩

abbrev nBuf : Space → Nat
  | .hbm => 43
  | .vmem => 42
  | .smem => 0
  | _ => 0

abbrev bufTy : (tb : Table) → Fin (tcTables nBuf tb) → BufTy
  | .hbm, ⟨0, _⟩ => ⟨S16x2048x1024, .f32⟩
  | .hbm, ⟨1, _⟩ => ⟨S32x1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x4864, .f32⟩
  | .hbm, ⟨10, _⟩ => ⟨S1x4x128x128, .f32⟩
  | .hbm, ⟨11, _⟩ => ⟨S1x512x1024, .f32⟩
  | .hbm, ⟨12, _⟩ => ⟨S1x256x1024, .f32⟩
  | .hbm, ⟨13, _⟩ => ⟨S1x1024x1024, .f32⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S1024x4864, .f32⟩
  | .hbm, ⟨26, _⟩ => ⟨S4x128x128, .f32⟩
  | .hbm, ⟨27, _⟩ => ⟨S512x128, .f32⟩
  | .hbm, ⟨28, _⟩ => ⟨S512x1024, .f32⟩
  | .hbm, ⟨29, _⟩ => ⟨S256x1024, .f32⟩
  | .hbm, ⟨30, _⟩ => ⟨S1024x1024, .f32⟩
  | .hbm, ⟨31, _⟩ => ⟨S32768x1024, .f32⟩
  | .hbm, ⟨32, _⟩ => ⟨S32x1024, .f32⟩
  | .hbm, ⟨33, _⟩ => ⟨S32768x1024, .f32⟩
  | .hbm, ⟨34, _⟩ => ⟨S32x1024, .f32⟩
  | .hbm, ⟨35, _⟩ => ⟨S1024x2816, .bf16⟩
  | .hbm, ⟨36, _⟩ => ⟨S1024x2816, .bf16⟩
  | .hbm, ⟨37, _⟩ => ⟨S2816x1024, .bf16⟩
  | .hbm, ⟨38, _⟩ => ⟨S1024x4864, .bf16⟩
  | .hbm, ⟨39, _⟩ => ⟨S512x128, .bf16⟩
  | .hbm, ⟨40, _⟩ => ⟨S512x1024, .bf16⟩
  | .hbm, ⟨41, _⟩ => ⟨S256x1024, .bf16⟩
  | .hbm, ⟨42, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S32x2816, .f32⟩
  | .local _ .vmem, ⟨8, _⟩ => ⟨S32x2816, .f32⟩
  | .local _ .vmem, ⟨9, _⟩ => ⟨S32x2816, .f32⟩
  | .local _ .vmem, ⟨10, _⟩ => ⟨S32x2816, .f32⟩
  | .local _ .vmem, ⟨11, _⟩ => ⟨S128x1024, .f32⟩
  | .local _ .vmem, ⟨12, _⟩ => ⟨S128x1024, .f32⟩
  | .local _ .vmem, ⟨13, _⟩ => ⟨S32x4864, .f32⟩
  | .local _ .vmem, ⟨14, _⟩ => ⟨S32x4864, .f32⟩
  | .local _ .vmem, ⟨15, _⟩ => ⟨S16x128, .f32⟩
  | .local _ .vmem, ⟨16, _⟩ => ⟨S16x128, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x1024, .f32⟩
  | .local _ .vmem, ⟨21, _⟩ => ⟨S32x1024, .f32⟩
  | .local _ .vmem, ⟨22, _⟩ => ⟨S32x1024, .f32⟩
  | .local _ .vmem, ⟨23, _⟩ => ⟨S1024x1024, .f32⟩
  | .local _ .vmem, ⟨24, _⟩ => ⟨S1024x1024, .f32⟩
  | .local _ .vmem, ⟨25, _⟩ => ⟨S32x1024, .f32⟩
  | .local _ .vmem, ⟨26, _⟩ => ⟨S32x2816, .bf16⟩
  | .local _ .vmem, ⟨27, _⟩ => ⟨S32x2816, .bf16⟩
  | .local _ .vmem, ⟨28, _⟩ => ⟨S32x2816, .bf16⟩
  | .local _ .vmem, ⟨29, _⟩ => ⟨S32x2816, .bf16⟩
  | .local _ .vmem, ⟨30, _⟩ => ⟨S128x1024, .bf16⟩
  | .local _ .vmem, ⟨31, _⟩ => ⟨S128x1024, .bf16⟩
  | .local _ .vmem, ⟨32, _⟩ => ⟨S32x4864, .bf16⟩
  | .local _ .vmem, ⟨33, _⟩ => ⟨S32x4864, .bf16⟩
  | .local _ .vmem, ⟨34, _⟩ => ⟨S16x128, .bf16⟩
  | .local _ .vmem, ⟨35, _⟩ => ⟨S16x128, .bf16⟩
  | .local _ .vmem, ⟨36, _⟩ => ⟨S16x1024, .bf16⟩
  | .local _ .vmem, ⟨37, _⟩ => ⟨S16x1024, .bf16⟩
  | .local _ .vmem, ⟨38, _⟩ => ⟨S16x1024, .bf16⟩
  | .local _ .vmem, ⟨39, _⟩ => ⟨S16x1024, .bf16⟩
  | .local _ .vmem, ⟨40, _⟩ => ⟨S32x1024, .bf16⟩
  | .local _ .vmem, ⟨41, _⟩ => ⟨S32x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev main_v19_5 : Ref sig .tc := ⟨.hbm, 38, rfl⟩
abbrev main_v19_6 : Ref sig .tc := ⟨.hbm, 39, rfl⟩
abbrev main_v19_7 : Ref sig .tc := ⟨.hbm, 40, rfl⟩
abbrev main_v19_8 : Ref sig .tc := ⟨.hbm, 41, rfl⟩
abbrev main_v19_9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x4864 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x4864 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== FfnRefIdeal.lean ====
abbrev S16x2048x1024 : Shape := ⟨3, ![16, 2048, 1024]⟩
abbrev S32x1x1024 : Shape := ⟨3, ![32, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x4864 : Shape := ⟨3, ![1, 1024, 4864]⟩
abbrev S1x4x128x128 : Shape := ⟨4, ![1, 4, 128, 128]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1024x2816 : Shape := ⟨2, ![1024, 2816]⟩
abbrev S2816x1024 : Shape := ⟨2, ![2816, 1024]⟩
abbrev S1024x4864 : Shape := ⟨2, ![1024, 4864]⟩
abbrev S4x128x128 : Shape := ⟨3, ![4, 128, 128]⟩
abbrev S512x128 : Shape := ⟨2, ![512, 128]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩
abbrev S32x1 : Shape := ⟨2, ![32, 1]⟩
abbrev S32x1x1 : Shape := ⟨3, ![32, 1, 1]⟩
abbrev S32x1x2816 : Shape := ⟨3, ![32, 1, 2816]⟩
abbrev S32x1024 : Shape := ⟨2, ![32, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32x1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x4864, .f32⟩
  | .hbm, ⟨10, _⟩ => ⟨S1x4x128x128, .f32⟩
  | .hbm, ⟨11, _⟩ => ⟨S1x512x1024, .f32⟩
  | .hbm, ⟨12, _⟩ => ⟨S1x256x1024, .f32⟩
  | .hbm, ⟨13, _⟩ => ⟨S1x1024x1024, .f32⟩
  | .hbm, ⟨14, _⟩ => ⟨S1024x2816, .f32⟩
  | .hbm, ⟨15, _⟩ => ⟨S1024x2816, .f32⟩
  | .hbm, ⟨16, _⟩ => ⟨S2816x1024, .f32⟩
  | .hbm, ⟨17, _⟩ => ⟨S1024x4864, .f32⟩
  | .hbm, ⟨18, _⟩ => ⟨S4x128x128, .f32⟩
  | .hbm, ⟨19, _⟩ => ⟨S512x128, .f32⟩
  | .hbm, ⟨20, _⟩ => ⟨S512x1024, .f32⟩
  | .hbm, ⟨21, _⟩ => ⟨S256x1024, .f32⟩
  | .hbm, ⟨22, _⟩ => ⟨S1024x1024, .f32⟩
  | .hbm, ⟨23, _⟩ => ⟨S1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S1024x2816, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S_, .f32⟩
  | .hbm, ⟨45, _⟩ => ⟨S16x2048x2816, .f32⟩
  | .hbm, ⟨46, _⟩ => ⟨S16x2048x2816, .f32⟩
  | .hbm, ⟨47, _⟩ => ⟨S_, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S1024x2816, .f32⟩
  | .hbm, ⟨52, _⟩ => ⟨S16x2048x2816, .f32⟩
  | .hbm, ⟨53, _⟩ => ⟨S16x2048x2816, .f32⟩
  | .hbm, ⟨54, _⟩ => ⟨S2816x1024, .f32⟩
  | .hbm, ⟨55, _⟩ => ⟨S16x2048x1024, .f32⟩
  | .hbm, ⟨56, _⟩ => ⟨S_, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S32768x1024, .f32⟩
  | .hbm, ⟨61, _⟩ => ⟨S1024, .f32⟩
  | .hbm, ⟨62, _⟩ => ⟨S32x1x1024, .f32⟩
  | .hbm, ⟨63, _⟩ => ⟨S_, .f32⟩
  | .hbm, ⟨64, _⟩ => ⟨S32x1, .f32⟩
  | .hbm, ⟨65, _⟩ => ⟨S32x1x1, .f32⟩
  | .hbm, ⟨66, _⟩ => ⟨S_, .f32⟩
  | .hbm, ⟨67, _⟩ => ⟨S32x1x1, .f32⟩
  | .hbm, ⟨68, _⟩ => ⟨S32x1x1, .f32⟩
  | .hbm, ⟨69, _⟩ => ⟨S_, .f32⟩
  | .hbm, ⟨70, _⟩ => ⟨S32x1x1, .f32⟩
  | .hbm, ⟨71, _⟩ => ⟨S32x1x1, .f32⟩
  | .hbm, ⟨72, _⟩ => ⟨S32x1x1, .f32⟩
  | .hbm, ⟨73, _⟩ => ⟨S32x1x1024, .f32⟩
  | .hbm, ⟨74, _⟩ => ⟨S32x1x1024, .f32⟩
  | .hbm, ⟨75, _⟩ => ⟨S1x1x1024, .f32⟩
  | .hbm, ⟨76, _⟩ => ⟨S32x1x1024, .f32⟩
  | .hbm, ⟨77, _⟩ => ⟨S32x1x1024, .f32⟩
  | .hbm, ⟨78, _⟩ => ⟨S1024x2816, .f32⟩
  | .hbm, ⟨79, _⟩ => ⟨S32x1x2816, .f32⟩
  | .hbm, ⟨80, _⟩ => ⟨S32x1x2816, .f32⟩
  | .hbm, ⟨81, _⟩ => ⟨S32x1x2816, .f32⟩
  | .hbm, ⟨82, _⟩ => ⟨S_, .f32⟩
  | .hbm, ⟨83, _⟩ => ⟨S32x1x2816, .f32⟩
  | .hbm, ⟨84, _⟩ => ⟨S32x1x2816, .f32⟩
  | .hbm, ⟨85, _⟩ => ⟨S_, .f32⟩
  | .hbm, ⟨86, _⟩ => ⟨S32x1x2816, .f32⟩
  | .hbm, ⟨87, _⟩ => ⟨S32x1x2816, .f32⟩
  | .hbm, ⟨88, _⟩ => ⟨S32x1x2816, .f32⟩
  | .hbm, ⟨89, _⟩ => ⟨S1024x2816, .f32⟩
  | .hbm, ⟨90, _⟩ => ⟨S32x1x2816, .f32⟩
  | .hbm, ⟨91, _⟩ => ⟨S32x1x2816, .f32⟩
  | .hbm, ⟨92, _⟩ => ⟨S2816x1024, .f32⟩
  | .hbm, ⟨93, _⟩ => ⟨S32x1x1024, .f32⟩
  | .hbm, ⟨94, _⟩ => ⟨S_, .f32⟩
  | .hbm, ⟨95, _⟩ => ⟨S32x1x1024, .f32⟩
  | .hbm, ⟨96, _⟩ => ⟨S32x1x1024, .f32⟩
  | .hbm, ⟨97, _⟩ => ⟨S32x1x1024, .f32⟩
  | .hbm, ⟨98, _⟩ => ⟨S32x1024, .f32⟩
  | .hbm, ⟨99, _⟩ => ⟨S1024x2816, .bf16⟩
  | .hbm, ⟨100, _⟩ => ⟨S1024x2816, .bf16⟩
  | .hbm, ⟨101, _⟩ => ⟨S2816x1024, .bf16⟩
  | .hbm, ⟨102, _⟩ => ⟨S1024x4864, .bf16⟩
  | .hbm, ⟨103, _⟩ => ⟨S512x128, .bf16⟩
  | .hbm, ⟨104, _⟩ => ⟨S512x1024, .bf16⟩
  | .hbm, ⟨105, _⟩ => ⟨S256x1024, .bf16⟩
  | .hbm, ⟨106, _⟩ => ⟨S1024x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_6 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== Mix.lean ====
abbrev S32768x1024 : Shape := ⟨2, ![32768, 1024]⟩
abbrev S16x2048x1024 : Shape := ⟨3, ![16, 2048, 1024]⟩
abbrev S16x2x1x2048x128 : Shape := ⟨5, ![16, 2, 1, 2048, 128]⟩
abbrev S16x2x4x512x128 : Shape := ⟨5, ![16, 2, 4, 512, 128]⟩
abbrev S16x2x16x128x128 : Shape := ⟨5, ![16, 2, 16, 128, 128]⟩
abbrev S32x1024 : Shape := ⟨2, ![32, 1024]⟩
abbrev S256x32 : Shape := ⟨2, ![256, 32]⟩
abbrev S256x1024 : Shape := ⟨2, ![256, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S32x256 : Shape := ⟨2, ![32, 256]⟩
abbrev S512x1024 : Shape := ⟨2, ![512, 1024]⟩
abbrev S1x2x1x512x128 : Shape := ⟨5, ![1, 2, 1, 512, 128]⟩
abbrev S1x2x4x128x128 : Shape := ⟨5, ![1, 2, 4, 128, 128]⟩
abbrev S1x2x16x32x128 : Shape := ⟨5, ![1, 2, 16, 32, 128]⟩
abbrev S7x512x128 : Shape := ⟨3, ![7, 512, 128]⟩
abbrev S32 : Shape := ⟨1, ![32]⟩
abbrev S32x1 : Shape := ⟨2, ![32, 1]⟩
abbrev S1024x1536 : Shape := ⟨2, ![1024, 1536]⟩
abbrev S32x1536 : Shape := ⟨2, ![32, 1536]⟩
abbrev S1536x1024 : Shape := ⟨2, ![1536, 1024]⟩
abbrev S1024x1280 : Shape := ⟨2, ![1024, 1280]⟩
abbrev S32x1280 : Shape := ⟨2, ![32, 1280]⟩
abbrev S1280x1024 : Shape := ⟨2, ![1280, 1024]⟩
abbrev S1x1x1x512x128 : Shape := ⟨5, ![1, 1, 1, 512, 128]⟩
abbrev S512x128 : Shape := ⟨2, ![512, 128]⟩
abbrev S1x1x1x128x128 : Shape := ⟨5, ![1, 1, 1, 128, 128]⟩
abbrev S128x128 : Shape := ⟨2, ![128, 128]⟩
abbrev S1x128x128 : Shape := ⟨3, ![1, 128, 128]⟩
abbrev S1x512x128 : Shape := ⟨3, ![1, 512, 128]⟩
abbrev S1x1x1x32x128 : Shape := ⟨5, ![1, 1, 1, 32, 128]⟩
abbrev S32x128 : Shape := ⟨2, ![32, 128]⟩
abbrev S1x32x128 : Shape := ⟨3, ![1, 32, 128]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩
abbrev S512x1280 : Shape := ⟨2, ![512, 1280]⟩

abbrev nBuf : Space → Nat
  | .hbm => 29
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S16x2048x1024, .f32⟩
  | .hbm, ⟨2, _⟩ => ⟨S16x2048x1024, .f32⟩
  | .hbm, ⟨3, _⟩ => ⟨S16x2x1x2048x128, .f32⟩
  | .hbm, ⟨4, _⟩ => ⟨S16x2x1x2048x128, .f32⟩
  | .hbm, ⟨5, _⟩ => ⟨S16x2x4x512x128, .f32⟩
  | .hbm, ⟨6, _⟩ => ⟨S16x2x4x512x128, .f32⟩
  | .hbm, ⟨7, _⟩ => ⟨S16x2x16x128x128, .f32⟩
  | .hbm, ⟨8, _⟩ => ⟨S16x2x16x128x128, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S256x32, .f32⟩
  | .hbm, ⟨13, _⟩ => ⟨S256x1024, .bf16⟩
  | .hbm, ⟨14, _⟩ => ⟨S1024x1024, .bf16⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1024, .f32⟩
  | .hbm, ⟨20, _⟩ => ⟨S32768x1024, .f32⟩
  | .hbm, ⟨21, _⟩ => ⟨S32768x1024, .f32⟩
  | .hbm, ⟨22, _⟩ => ⟨S32x256, .f32⟩
  | .hbm, ⟨23, _⟩ => ⟨S32x256, .bf16⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S32768x1024, .f32⟩
  | .hbm, ⟨28, _⟩ => ⟨S32x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x2x1x512x128, .f32⟩
  | .local _ .vmem, ⟨7, _⟩ => ⟨S1x2x1x512x128, .f32⟩
  | .local _ .vmem, ⟨8, _⟩ => ⟨S1x2x1x512x128, .f32⟩
  | .local _ .vmem, ⟨9, _⟩ => ⟨S1x2x1x512x128, .f32⟩
  | .local _ .vmem, ⟨10, _⟩ => ⟨S1x2x4x128x128, .f32⟩
  | .local _ .vmem, ⟨11, _⟩ => ⟨S1x2x4x128x128, .f32⟩
  | .local _ .vmem, ⟨12, _⟩ => ⟨S1x2x4x128x128, .f32⟩
  | .local _ .vmem, ⟨13, _⟩ => ⟨S1x2x4x128x128, .f32⟩
  | .local _ .vmem, ⟨14, _⟩ => ⟨S1x2x16x32x128, .f32⟩
  | .local _ .vmem, ⟨15, _⟩ => ⟨S1x2x16x32x128, .f32⟩
  | .local _ .vmem, ⟨16, _⟩ => ⟨S1x2x16x32x128, .f32⟩
  | .local _ .vmem, ⟨17, _⟩ => ⟨S1x2x16x32x128, .f32⟩
  | .local _ .vmem, ⟨18, _⟩ => ⟨S256x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S1x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x256, .bf16⟩
  | .local _ .vmem, ⟨29, _⟩ => ⟨S512x1024, .f32⟩
  | .local _ .vmem, ⟨30, _⟩ => ⟨S512x1024, .f32⟩
  | .local _ .vmem, ⟨31, _⟩ => ⟨S32x1024, .f32⟩
  | .local _ .vmem, ⟨32, _⟩ => ⟨S7x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_4 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_5 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_6 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_7 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_8 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x16x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x16x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MixRefIdeal.lean ====
abbrev S32768x1024 : Shape := ⟨2, ![32768, 1024]⟩
abbrev S16x2048x1024 : Shape := ⟨3, ![16, 2048, 1024]⟩
abbrev S16x2x1x2048x128 : Shape := ⟨5, ![16, 2, 1, 2048, 128]⟩
abbrev S16x2x4x512x128 : Shape := ⟨5, ![16, 2, 4, 512, 128]⟩
abbrev S16x2x16x128x128 : Shape := ⟨5, ![16, 2, 16, 128, 128]⟩
abbrev S32x1024 : Shape := ⟨2, ![32, 1024]⟩
abbrev S256x32 : Shape := ⟨2, ![256, 32]⟩
abbrev S256x1024 : Shape := ⟨2, ![256, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S16x2048x1x2x128 : Shape := ⟨5, ![16, 2048, 1, 2, 128]⟩
abbrev S32768x256 : Shape := ⟨2, ![32768, 256]⟩
abbrev S16x512x4x2x128 : Shape := ⟨5, ![16, 512, 4, 2, 128]⟩
abbrev S16x128x16x2x128 : Shape := ⟨5, ![16, 128, 16, 2, 128]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩
abbrev S32x256 : Shape := ⟨2, ![32, 256]⟩
abbrev S32 : Shape := ⟨1, ![32]⟩
abbrev S32x1 : Shape := ⟨2, ![32, 1]⟩
abbrev S32x2816 : Shape := ⟨2, ![32, 2816]⟩

abbrev nBuf : Space → Nat
  | .hbm => 177
  | .vmem => 0
  | .smem => 0
  | _ => 0

abbrev hbmTy0_0 (i : Nat) : BufTy := match i % 128 with
  | 0 => ⟨S32768x1024, .f32⟩
  | 1 => ⟨S16x2048x1024, .f32⟩
  | 2 => ⟨S16x2048x1024, .f32⟩
  | 3 => ⟨S16x2x1x2048x128, .f32⟩
  | 4 => ⟨S16x2x1x2048x128, .f32⟩
  | 5 => ⟨S16x2x4x512x128, .f32⟩
  | 6 => ⟨S16x2x4x512x128, .f32⟩
  | 7 => ⟨S16x2x16x128x128, .f32⟩
  | 8 => ⟨S16x2x16x128x128, .f32⟩
  | 9 => ⟨S32x1024, .f32⟩
  | 10 => ⟨S32x1024, .f32⟩
  | 11 => ⟨S32x1024, .f32⟩
  | 12 => ⟨S256x32, .f32⟩
  | 13 => ⟨S256x1024, .bf16⟩
  | 14 => ⟨S1024x1024, .bf16⟩
  | 15 => ⟨S1x1024, .f32⟩
  | 16 => ⟨S1024x2816, .bf16⟩
  | 17 => ⟨S1024x2816, .bf16⟩
  | 18 => ⟨S2816x1024, .bf16⟩
  | 19 => ⟨S1024, .f32⟩
  | 20 => ⟨S16x2048x1x2x128, .f32⟩
  | 21 => ⟨S32768x256, .f32⟩
  | 22 => ⟨S16x512x4x2x128, .f32⟩
  | 23 => ⟨S32768x256, .f32⟩
  | 24 => ⟨S16x128x16x2x128, .f32⟩
  | 25 => ⟨S32768x256, .f32⟩
  | 26 => ⟨S32768x256, .f32⟩
  | 27 => ⟨S32768x256, .f32⟩
  | 28 => ⟨S32768x256, .f32⟩
  | 29 => ⟨S_, .f32⟩
  | 30 => ⟨S32768x256, .f32⟩
  | 31 => ⟨S32768x256, .f32⟩
  | 32 => ⟨S32768x256, .f32⟩
  | 33 => ⟨S_, .f32⟩
  | 34 => ⟨S32768x256, .f32⟩
  | 35 => ⟨S32768x256, .f32⟩
  | 36 => ⟨S32768x256, .f32⟩
  | 37 => ⟨S_, .f32⟩
  | 38 => ⟨S32768x256, .f32⟩
  | 39 => ⟨S32768x256, .f32⟩
  | 40 => ⟨S32768x256, .f32⟩
  | 41 => ⟨S32768x256, .f32⟩
  | 42 => ⟨S16x2048x1x2x128, .f32⟩
  | 43 => ⟨S32768x256, .f32⟩
  | 44 => ⟨S32768x256, .f32⟩
  | 45 => ⟨S16x512x4x2x128, .f32⟩
  | 46 => ⟨S32768x256, .f32⟩
  | 47 => ⟨S32768x256, .f32⟩
  | 48 => ⟨S32768x256, .f32⟩
  | 49 => ⟨S16x128x16x2x128, .f32⟩
  | 50 => ⟨S32768x256, .f32⟩
  | 51 => ⟨S32768x256, .f32⟩
  | 52 => ⟨S32768x256, .f32⟩
  | 53 => ⟨S32768x256, .f32⟩
  | 54 => ⟨S32768x1024, .f32⟩
  | 55 => ⟨S32768x1024, .f32⟩
  | 56 => ⟨S256x1024, .f32⟩
  | 57 => ⟨S32768x1024, .f32⟩
  | 58 => ⟨S32768x1024, .f32⟩
  | 59 => ⟨S32768x1024, .f32⟩
  | 60 => ⟨S1024x1024, .f32⟩
  | 61 => ⟨S32768x1024, .f32⟩
  | 62 => ⟨S32768x1024, .f32⟩
  | 63 => ⟨S1024, .f32⟩
  | 64 => ⟨S32768x1024, .f32⟩
  | 65 => ⟨S_, .f32⟩
  | 66 => ⟨S32768, .f32⟩
  | 67 => ⟨S32768x1, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x1, .f32⟩
  | 75 => ⟨S32768x1024, .f32⟩
  | 76 => ⟨S32768x1024, .f32⟩
  | 77 => ⟨S1x1024, .f32⟩
  | 78 => ⟨S32768x1024, .f32⟩
  | 79 => ⟨S32768x1024, .f32⟩
  | 80 => ⟨S1024x2816, .f32⟩
  | 81 => ⟨S32768x2816, .f32⟩
  | 82 => ⟨S32768x2816, .f32⟩
  | 83 => ⟨S32768x2816, .f32⟩
  | 84 => ⟨S_, .f32⟩
  | 85 => ⟨S32768x2816, .f32⟩
  | 86 => ⟨S32768x2816, .f32⟩
  | 87 => ⟨S_, .f32⟩
  | 88 => ⟨S32768x2816, .f32⟩
  | 89 => ⟨S32768x2816, .f32⟩
  | 90 => ⟨S32768x2816, .f32⟩
  | 91 => ⟨S1024x2816, .f32⟩
  | 92 => ⟨S32768x2816, .f32⟩
  | 93 => ⟨S32768x2816, .f32⟩
  | 94 => ⟨S2816x1024, .f32⟩
  | 95 => ⟨S32768x1024, .f32⟩
  | 96 => ⟨S_, .f32⟩
  | 97 => ⟨S32768x1024, .f32⟩
  | 98 => ⟨S32768x1024, .f32⟩
  | 99 => ⟨S32768x1024, .f32⟩
  | 100 => ⟨S32768x1024, .f32⟩
  | 101 => ⟨S_, .f32⟩
  | 102 => ⟨S32768, .f32⟩
  | 103 => ⟨S32768x1, .f32⟩
  | 104 => ⟨S_, .f32⟩
  | 105 => ⟨S32768x1, .f32⟩
  | 106 => ⟨S32768x1, .f32⟩
  | 107 => ⟨S_, .f32⟩
  | 108 => ⟨S32768x1, .f32⟩
  | 109 => ⟨S32768x1, .f32⟩
  | 110 => ⟨S32768x1, .f32⟩
  | 111 => ⟨S32768x1024, .f32⟩
  | 112 => ⟨S32768x1024, .f32⟩
  | 113 => ⟨S1x1024, .f32⟩
  | 114 => ⟨S32768x1024, .f32⟩
  | 115 => ⟨S32768x1024, .f32⟩
  | 116 => ⟨S32x256, .f32⟩
  | 117 => ⟨S256x1024, .f32⟩
  | 118 => ⟨S32x1024, .f32⟩
  | 119 => ⟨S32x1024, .f32⟩
  | 120 => ⟨S32x1024, .f32⟩
  | 121 => ⟨S1024x1024, .f32⟩
  | 122 => ⟨S32x1024, .f32⟩
  | 123 => ⟨S32x1024, .f32⟩
  | 124 => ⟨S1024, .f32⟩
  | 125 => ⟨S32x1024, .f32⟩
  | 126 => ⟨S_, .f32⟩
  | 127 => ⟨S32, .f32⟩
  | _ => ⟨S32768x1024, .f32⟩

abbrev hbmTy0_1 (i : Nat) : BufTy := match i % 128 with
  | 0 => ⟨S32x1, .f32⟩
  | 1 => ⟨S_, .f32⟩
  | 2 => ⟨S32x1, .f32⟩
  | 3 => ⟨S32x1, .f32⟩
  | 4 => ⟨S_, .f32⟩
  | 5 => ⟨S32x1, .f32⟩
  | 6 => ⟨S32x1, .f32⟩
  | 7 => ⟨S32x1, .f32⟩
  | 8 => ⟨S32x1024, .f32⟩
  | 9 => ⟨S32x1024, .f32⟩
  | 10 => ⟨S1x1024, .f32⟩
  | 11 => ⟨S32x1024, .f32⟩
  | 12 => ⟨S32x1024, .f32⟩
  | 13 => ⟨S1024x2816, .f32⟩
  | 14 => ⟨S32x2816, .f32⟩
  | 15 => ⟨S32x2816, .f32⟩
  | 16 => ⟨S32x2816, .f32⟩
  | 17 => ⟨S_, .f32⟩
  | 18 => ⟨S32x2816, .f32⟩
  | 19 => ⟨S32x2816, .f32⟩
  | 20 => ⟨S_, .f32⟩
  | 21 => ⟨S32x2816, .f32⟩
  | 22 => ⟨S32x2816, .f32⟩
  | 23 => ⟨S32x2816, .f32⟩
  | 24 => ⟨S1024x2816, .f32⟩
  | 25 => ⟨S32x2816, .f32⟩
  | 26 => ⟨S32x2816, .f32⟩
  | 27 => ⟨S2816x1024, .f32⟩
  | 28 => ⟨S32x1024, .f32⟩
  | 29 => ⟨S_, .f32⟩
  | 30 => ⟨S32x1024, .f32⟩
  | 31 => ⟨S32x1024, .f32⟩
  | 32 => ⟨S32x1024, .f32⟩
  | 33 => ⟨S32x1024, .f32⟩
  | 34 => ⟨S_, .f32⟩
  | 35 => ⟨S32, .f32⟩
  | 36 => ⟨S32x1, .f32⟩
  | 37 => ⟨S_, .f32⟩
  | 38 => ⟨S32x1, .f32⟩
  | 39 => ⟨S32x1, .f32⟩
  | 40 => ⟨S_, .f32⟩
  | 41 => ⟨S32x1, .f32⟩
  | 42 => ⟨S32x1, .f32⟩
  | 43 => ⟨S32x1, .f32⟩
  | 44 => ⟨S32x1024, .f32⟩
  | 45 => ⟨S32x1024, .f32⟩
  | 46 => ⟨S1x1024, .f32⟩
  | 47 => ⟨S32x1024, .f32⟩
  | 48 => ⟨S32x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_2 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_5 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_6 : Ref sig .tc := ⟨.hbm, 101, rfl⟩
abbrev main_v66 : Ref sig .tc := ⟨.hbm, 102, rfl⟩
abbrev main_v67 : Ref sig .tc := ⟨.hbm, 103, rfl⟩
abbrev main_cst_7 : Ref sig .tc := ⟨.hbm, 104, rfl⟩
abbrev main_v68 : Ref sig .tc := ⟨.hbm, 105, rfl⟩
abbrev main_v69 : Ref sig .tc := ⟨.hbm, 106, rfl⟩
abbrev main_cst_8 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_9 : Ref sig .tc := ⟨.hbm, 126, rfl⟩
abbrev main_v88 : Ref sig .tc := ⟨.hbm, 127, rfl⟩
abbrev main_v89 : Ref sig .tc := ⟨.hbm, 128, rfl⟩
abbrev main_cst_10 : Ref sig .tc := ⟨.hbm, 129, rfl⟩
abbrev main_v90 : Ref sig .tc := ⟨.hbm, 130, rfl⟩
abbrev main_v91 : Ref sig .tc := ⟨.hbm, 131, rfl⟩
abbrev main_cst_11 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_call1_v5 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_12 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_13 : Ref sig .tc := ⟨.hbm, 162, rfl⟩
abbrev main_v112 : Ref sig .tc := ⟨.hbm, 163, rfl⟩
abbrev main_v113 : Ref sig .tc := ⟨.hbm, 164, rfl⟩
abbrev main_cst_14 : Ref sig .tc := ⟨.hbm, 165, rfl⟩
abbrev main_v114 : Ref sig .tc := ⟨.hbm, 166, rfl⟩
abbrev main_v115 : Ref sig .tc := ⟨.hbm, 167, rfl⟩
abbrev main_cst_15 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩

abbrev nD : Nat := 1
abbrev τ : Topo := Topo.v7x

variable {F : FTy → Type} [FloatOps F]
-- ==== Proof.Columns.lean ====
module

public import proofs.«01_k».proof.Proof.Gen.KernelIdeal.Value
public import Idealize.ShloMosaic.Lib.Pointwise
public import Idealize.ShloMosaic.Lib.WordCmp
public import Idealize.ShloMosaic.Lib.Claim
public import Idealize.ShloMosaic.Lib.Pipeline.ValueKit

/-!
# The decode step's column reads and the shifted caches

The kernel takes the column of one request out of a `768 × 32` array by masking every other column with zero and
summing over the columns. The first theorems say that this sum is the column. The theorems after them read the
three new key/value windows: every lane moves down by one and the last lane takes the new token's key or value.
-/

@[expose] public section
set_option maxRecDepth 16384
noncomputable section
namespace Cert.Step

open Cert.KernelIdeal Cert.KernelIdeal.Gen Idealize.ShloMosaic Idealize.ShloMosaic.TcCoe Idealize.SL.Sem
open Idealize.ShloMosaic.Pipeline (Dat)

/-- Choosing by "is lane `a` equal to the word `w`" is choosing by `a = b` when `w` is the word of `b`. -/
theorem select_lane {α : Type} (a b : Nat) (w : BitVec 32) (ha : a < 2 ^ 32) (hb : b < 2 ^ 32)
    (hw : w = BitVec.ofNat 32 b) (x y : α) :
    Scalar.select (IntOp.cmpi CmpIPredicate.eq (BitVec.ofNat 32 a) w) x y = if a = b then x else y := by
  rw [hw, WordCmp.cmpi_eq_ofNat ha hb, WordCmp.select_decide]

/-- The word of the first of a step's two requests. -/
theorem word0 (a : Nat) : Scalar.addi (Scalar.muli (BitVec.ofNat 32 a) 2#32) 0#32 = BitVec.ofNat 32 (2 * a) := by
  apply BitVec.eq_of_toNat_eq
  simp [Scalar.addi, Scalar.muli, IntOp.addi, IntOp.muli, Nat.mul_comm]

/-- The word of the second of a step's two requests. -/
theorem word1 (a : Nat) : Scalar.addi (Scalar.muli (BitVec.ofNat 32 a) 2#32) 1#32 = BitVec.ofNat 32 (2 * a + 1) := by
  apply BitVec.eq_of_toNat_eq
  simp [Scalar.addi, Scalar.muli, IntOp.addi, IntOp.muli, Nat.mul_comm]

/-- A sum over the 32 columns in which only column `n` is kept is that column. -/
theorem sum_column (f : Fin 32 → EReal) (n : Fin 32) (w : BitVec 32) (hw : w = BitVec.ofNat 32 n.val) :
    (∑ k : Fin 32, Scalar.select (IntOp.cmpi CmpIPredicate.eq (BitVec.ofNat 32 k.val) w) (f k) 0) = f n := by
  rw [Finset.sum_eq_single n]
  · rw [select_lane n.val n.val w (by omega) (by omega) hw, if_pos rfl]
  · intro k _ hk
    rw [select_lane k.val n.val w (by omega) (by omega) hw, if_neg (fun h => hk (Fin.ext h))]
  · intro h; exact absurd (Finset.mem_univ n) h

/-- The request handled first at step `i`. -/
def req0 (i : grid0.Coords) : Fin 32 := ⟨2 * (i 0).val, by have := (i 0).isLt; have : (i 0).val < 16 := this; omega⟩
/-- The request handled second at step `i`. -/
def req1 (i : grid0.Coords) : Fin 32 := ⟨2 * (i 0).val + 1, by have := (i 0).isLt; have : (i 0).val < 16 := this; omega⟩

/-- The first request's column of group 0. -/
theorem pay4_apply (i : grid0.Coords) (x : Vec Ideal S768x32 .f32) (y : S768x1.Idx) :
    k0_pay4 i x y = x (ix2 (y 0) (req0 i)) := by
  unfold k0_pay4 k0_pay3
  pointwise
  exact sum_column (fun k => x (ix2 (y 0) k)) (req0 i) _ (word0 _)
/-- The first request's column of group 1. -/
theorem pay5_apply (i : grid0.Coords) (x : Vec Ideal S768x32 .f32) (y : S768x1.Idx) :
    k0_pay5 i x y = x (ix2 (y 0) (req0 i)) := by
  unfold k0_pay5 k0_pay3
  pointwise
  exact sum_column (fun k => x (ix2 (y 0) k)) (req0 i) _ (word0 _)
/-- The first request's column of group 2. -/
theorem pay6_apply (i : grid0.Coords) (x : Vec Ideal S768x32 .f32) (y : S768x1.Idx) :
    k0_pay6 i x y = x (ix2 (y 0) (req0 i)) := by
  unfold k0_pay6 k0_pay3
  pointwise
  exact sum_column (fun k => x (ix2 (y 0) k)) (req0 i) _ (word0 _)
/-- The second request's column of group 0. -/
theorem pay70_apply (i : grid0.Coords) (x : Vec Ideal S768x32 .f32) (y : S768x1.Idx) :
    k0_pay70 (BitVec.ofNat 32 (i 0).val) x y = x (ix2 (y 0) (req1 i)) := by
  unfold k0_pay70 k0_pay69
  pointwise
  exact sum_column (fun k => x (ix2 (y 0) k)) (req1 i) _ (word1 _)
/-- The second request's column of group 1. -/
theorem pay71_apply (i : grid0.Coords) (x : Vec Ideal S768x32 .f32) (y : S768x1.Idx) :
    k0_pay71 (BitVec.ofNat 32 (i 0).val) x y = x (ix2 (y 0) (req1 i)) := by
  unfold k0_pay71 k0_pay69
  pointwise
  exact sum_column (fun k => x (ix2 (y 0) k)) (req1 i) _ (word1 _)
/-- The second request's column of group 2. -/
theorem pay72_apply (i : grid0.Coords) (x : Vec Ideal S768x32 .f32) (y : S768x1.Idx) :
    k0_pay72 (BitVec.ofNat 32 (i 0).val) x y = x (ix2 (y 0) (req1 i)) := by
  unfold k0_pay72 k0_pay69
  pointwise
  exact sum_column (fun k => x (ix2 (y 0) k)) (req1 i) _ (word1 _)

/-! ## The three new windows, block by block -/

/-- What step `i` leaves of a cache of `W` lanes: lane `l` takes lane `l + 1`, the last lane the new column. -/
def rolled {W : Nat} (i : grid0.Coords) (x : (⟨2, ![768, 32]⟩ : Shape).Idx → EReal)
    (cc : (⟨3, ![2, 512, W]⟩ : Shape).Idx → EReal) (y : (⟨3, ![2, 512, W]⟩ : Shape).Idx) : EReal :=
  if h : (y 2).val + 1 < W then cc (ix3 (y 0) (y 1) ⟨(y 2).val + 1, h⟩)
  else x (ix2 ⟨256 + (y 1).val, by have : (y 1).val < 512 := (y 1).isLt; omega⟩
    ⟨2 * (i 0).val + (y 0).val, by have h1 : (i 0).val < 16 := (i 0).isLt; have h2 : (y 0).val < 2 := (y 0).isLt; omega⟩)

/-- The kernel's choice between the rotated cache and the new column, at one entry, is `rolled`. -/
theorem rolled_entry {W : Nat} (i : grid0.Coords) (x : (⟨2, ![768, 32]⟩ : Shape).Idx → EReal)
    (cc : (⟨3, ![2, 512, W]⟩ : Shape).Idx → EReal) (y : (⟨3, ![2, 512, W]⟩ : Shape).Idx)
    (b : Fin 2) (r : Fin 512) (l l' : Fin W) (n : Fin 32) (r' : Fin 768)
    (h0 : (y 0).val = b.val) (h1 : (y 1).val = r.val) (h2 : (y 2).val = l.val)
    (hl : l'.val = (l.val + 1) % W) (hr : r'.val = 256 + r.val) (hn : n.val = 2 * (i 0).val + b.val) :
    (if l.val = W - 1 then x (ix2 r' n) else cc (ix3 b r l')) = rolled i x cc y := by
  have hb := l.isLt
  unfold rolled
  by_cases e : l.val = W - 1
  · rw [if_pos e, dif_neg (by omega)]
    refine congrArg x ?_
    congr 1
    · exact Fin.ext (by simp only [hr, h1])
    · exact Fin.ext (by simp only [hn, h0])
  · rw [if_neg e, dif_pos (by omega)]
    refine congrArg cc ?_
    rw [Nat.mod_eq_of_lt (by omega)] at hl
    congr 1
    · exact Fin.ext h0.symm
    · exact Fin.ext h1.symm
    · exact Fin.ext (by simp only [hl, h2])

variable (m : (ℓ : Loc nD τ sig) → Buf (Elt Ideal) ℓ)

/-- What a step leaves in the block of the new window of 128 lanes. -/
theorem window6 (c : Dev nD) (t : Fin cfg0.N) :
    (outsAt0 m c t.val t.isLt).1 = rolled (grid0.coords t) (iblk m c 0 t) (iblk m c 3 t) := by
  by_cases h : t.val % 16 = 0
  · rw [outsAt0_A m c t h]
    dsimp only
    frame_out
    funext y
    canon_tiles x hx
    · unfold k0_pay73 k0_pay74
      pointwise
      rw [pay70_apply, select_lane _ 127 _ (by omega) (by omega) rfl]
      exact rolled_entry _ _ _ y 1 (x 1) (x 2) _ _ _ (by rw [hx0]; simp only [Fin.isValue]; omega) hx1 hx2 (by simp only []; omega) rfl rfl
    · unfold k0_pay10 k0_pay7 k0_pay8 k0_pay9
      pointwise
      rw [pay4_apply, select_lane _ 127 _ (by omega) (by omega) rfl]
      exact rolled_entry _ _ _ y 0 (x 1) (x 2) _ _ _ (by rw [hx0]; simp only [Fin.isValue]; omega) hx1 hx2 (by simp only []; omega) rfl rfl
  · rw [outsAt0_B m c t h]
    dsimp only
    frame_out
    funext y
    canon_tiles x hx
    · unfold k0_pay73 k0_pay74
      pointwise
      rw [pay70_apply, select_lane _ 127 _ (by omega) (by omega) rfl]
      exact rolled_entry _ _ _ y 1 (x 1) (x 2) _ _ _ (by rw [hx0]; simp only [Fin.isValue]; omega) hx1 hx2 (by simp only []; omega) rfl rfl
    · unfold k0_pay10 k0_pay7 k0_pay8 k0_pay9
      pointwise
      rw [pay4_apply, select_lane _ 127 _ (by omega) (by omega) rfl]
      exact rolled_entry _ _ _ y 0 (x 1) (x 2) _ _ _ (by rw [hx0]; simp only [Fin.isValue]; omega) hx1 hx2 (by simp only []; omega) rfl rfl

/-- What a step leaves in the block of the new window of 512 lanes. -/
theorem window7 (c : Dev nD) (t : Fin cfg0.N) :
    (outsAt0 m c t.val t.isLt).2.1 = rolled (grid0.coords t) (iblk m c 1 t) (iblk m c 4 t) := by
  by_cases h : t.val % 16 = 0
  · rw [outsAt0_A m c t h]
    dsimp only
    frame_out
    funext y
    canon_tiles x hx
    · unfold k0_pay75
      pointwise
      rw [pay71_apply, select_lane _ 511 _ (by omega) (by omega) rfl]
      exact rolled_entry _ _ _ y 1 (x 1) (x 2) _ _ _ (by rw [hx0]; simp only [Fin.isValue]; omega) hx1 hx2 (by simp only []; omega) rfl rfl
    · unfold k0_pay11
      pointwise
      rw [pay5_apply, select_lane _ 511 _ (by omega) (by omega) rfl]
      exact rolled_entry _ _ _ y 0 (x 1) (x 2) _ _ _ (by rw [hx0]; simp only [Fin.isValue]; omega) hx1 hx2 (by simp only []; omega) rfl rfl
  · rw [outsAt0_B m c t h]
    dsimp only
    frame_out
    funext y
    canon_tiles x hx
    · unfold k0_pay75
      pointwise
      rw [pay71_apply, select_lane _ 511 _ (by omega) (by omega) rfl]
      exact rolled_entry _ _ _ y 1 (x 1) (x 2) _ _ _ (by rw [hx0]; simp only [Fin.isValue]; omega) hx1 hx2 (by simp only []; omega) rfl rfl
    · unfold k0_pay11
      pointwise
      rw [pay5_apply, select_lane _ 511 _ (by omega) (by omega) rfl]
      exact rolled_entry _ _ _ y 0 (x 1) (x 2) _ _ _ (by rw [hx0]; simp only [Fin.isValue]; omega) hx1 hx2 (by simp only []; omega) rfl rfl

/-- What a step leaves in the block of the new window of 2048 lanes. -/
theorem window8 (c : Dev nD) (t : Fin cfg0.N) :
    (outsAt0 m c t.val t.isLt).2.2.1 = rolled (grid0.coords t) (iblk m c 2 t) (iblk m c 5 t) := by
  by_cases h : t.val % 16 = 0
  · rw [outsAt0_A m c t h]
    dsimp only
    frame_out
    funext y
    canon_tiles x hx
    · unfold k0_pay76
      pointwise
      rw [pay72_apply, select_lane _ 2047 _ (by omega) (by omega) rfl]
      exact rolled_entry _ _ _ y 1 (x 1) (x 2) _ _ _ (by rw [hx0]; simp only [Fin.isValue]; omega) hx1 hx2 (by simp only []; omega) rfl rfl
    · unfold k0_pay12
      pointwise
      rw [pay6_apply, select_lane _ 2047 _ (by omega) (by omega) rfl]
      exact rolled_entry _ _ _ y 0 (x 1) (x 2) _ _ _ (by rw [hx0]; simp only [Fin.isValue]; omega) hx1 hx2 (by simp only []; omega) rfl rfl
  · rw [outsAt0_B m c t h]
    dsimp only
    frame_out
    funext y
    canon_tiles x hx
    · unfold k0_pay76
      pointwise
      rw [pay72_apply, select_lane _ 2047 _ (by omega) (by omega) rfl]
      exact rolled_entry _ _ _ y 1 (x 1) (x 2) _ _ _ (by rw [hx0]; simp only [Fin.isValue]; omega) hx1 hx2 (by simp only []; omega) rfl rfl
    · unfold k0_pay12
      pointwise
      rw [pay6_apply, select_lane _ 2047 _ (by omega) (by omega) rfl]
      exact rolled_entry _ _ _ y 0 (x 1) (x 2) _ _ _ (by rw [hx0]; simp only [Fin.isValue]; omega) hx1 hx2 (by simp only []; omega) rfl rfl

end Cert.Step
-- ==== Proof.Heads.lean ====
module

public import Idealize.ShloMosaic.Lib.Pointwise
public import Idealize.ShloMosaic.PureOps.Ideal.Laws

/-!
# One request's attention over one cache, as scalars

A request attends with four heads of 64 lanes to a cache of `W` slots, of which every `dil`-th counts, and to its own
new token. `Grp` holds what is read, the definitions after it the scalar formulas in the order in which they are
computed (scores, their maximum, the exponentials, their sum, the output, the log of the sum), and the capital ones
the same as arrays with the layouts in which the kernel holds them.
-/

@[expose] public section
set_option maxRecDepth 16384
noncomputable section
namespace Cert.Step
open Idealize.ShloMosaic

/-- What one request reads of one cache of `W` slots: rows are `64 * head + lane`. -/
structure Grp (W : Nat) where
  /-- every `dil`-th slot is attended to -/
  dil : Nat
  /-- the query -/
  q : Fin 256 → EReal
  /-- the new token's key -/
  nk : Fin 256 → EReal
  /-- the new token's value -/
  nv : Fin 256 → EReal
  /-- the keys in the cache -/
  k : Fin 256 → Fin W → EReal
  /-- the values in the cache -/
  v : Fin 256 → Fin W → EReal

/-- The head of a row. -/
def hd (r : Fin 256) : Fin 4 := ⟨r.val / 64, by omega⟩

/-- The sum over the 64 rows of a head. -/
def hsum (f : Fin 256 → EReal) (h : Fin 4) : EReal := ∑ d : Fin 64, f ⟨64 * h.val + d.val, by omega⟩

namespace Grp
variable {W : Nat} (g : Grp W)

/-- The score of slot `l`, minus infinity for the slots that do not count. -/
def sc (h : Fin 4) (l : Fin W) : EReal := if l.val % g.dil = 0 then hsum (fun r => g.k r l * g.q r) h else ⊥
/-- The score of the new token. -/
def sn (h : Fin 4) : EReal := hsum (fun r => g.nk r * g.q r) h
/-- The greatest score. -/
def mx (h : Fin 4) : EReal := max (Finset.univ.fold max ⊥ (fun l => g.sc h l)) (g.sn h)
/-- The weight of slot `l` before division. -/
def e (h : Fin 4) (l : Fin W) : EReal := Ideal.exp (g.sc h l - g.mx h)
/-- The weight of the new token before division. -/
def en (h : Fin 4) : EReal := Ideal.exp (g.sn h - g.mx h)
/-- The sum of the weights. -/
def den (h : Fin 4) : EReal := (∑ l, g.e h l) + g.en h
/-- The weighted sum of the cached values. -/
def num (r : Fin 256) : EReal := ∑ l, g.v r l * g.e (hd r) l
/-- The attention's output row. -/
def out (r : Fin 256) : EReal := Ideal.div (g.num r + g.en (hd r) * g.nv r) (g.den (hd r))
/-- The logarithm of the sum of the exponentials of the scores. -/
def ls (h : Fin 4) : EReal := g.mx h + Ideal.log (g.den h)

end Grp

/-- Three outputs joined with the weights that their `ls` give them. -/
def merge (o0 o1 o2 l0 l1 l2 : EReal) : EReal :=
  Ideal.div (Ideal.exp (l0 - max (max l0 l1) l2) * o0 + Ideal.exp (l1 - max (max l0 l1) l2) * o1
      + Ideal.exp (l2 - max (max l0 l1) l2) * o2)
    (Ideal.exp (l0 - max (max l0 l1) l2) + Ideal.exp (l1 - max (max l0 l1) l2) + Ideal.exp (l2 - max (max l0 l1) l2))

/-- The array with one column whose rows are `f`. -/
def Col (f : Fin 256 → EReal) : (⟨2, ![256, 1]⟩ : Shape).Idx → EReal := fun y => f (y 0)
/-- The array with one column of four heads. -/
def Hds (f : Fin 4 → EReal) : (⟨2, ![4, 1]⟩ : Shape).Idx → EReal := fun y => f (y 0)
/-- The array of four heads and `W` slots. -/
def HdL {W : Nat} (f : Fin 4 → Fin W → EReal) : (⟨2, ![4, W]⟩ : Shape).Idx → EReal := fun y => f (y 0) (y 1)
/-- The array of 256 rows and `W` slots. -/
def RowL {W : Nat} (f : Fin 256 → Fin W → EReal) : (⟨2, ![256, W]⟩ : Shape).Idx → EReal := fun y => f (y 0) (y 1)
/-- One head's row of `W` slots. -/
def RowOne {W : Nat} (f : Fin W → EReal) : (⟨2, ![1, W]⟩ : Shape).Idx → EReal := fun y => f (y 1)
/-- A constant column of 64 rows. -/
def Rep (x : EReal) : (⟨2, ![64, 1]⟩ : Shape).Idx → EReal := fun _ => x
/-- A single number as an array. -/
def One (x : EReal) : (⟨2, ![1, 1]⟩ : Shape).Idx → EReal := fun _ => x

/-- What a request reads of a cache, from its column and the two halves of the cache block. -/
def grp {W : Nat} (dil : Nat) (c : (⟨2, ![768, 1]⟩ : Shape).Idx → EReal)
    (K V : (⟨3, ![1, 256, W]⟩ : Shape).Idx → EReal) : Grp W where
  dil := dil
  q r := c (ix2 ⟨r.val, by omega⟩ 0)
  nk r := c (ix2 ⟨256 + r.val, by omega⟩ 0)
  nv r := c (ix2 ⟨512 + r.val, by omega⟩ 0)
  k r l := K (ix3 0 r l)
  v r l := V (ix3 0 r l)

/-- Four sums of 64 rows, chosen by the head, are the sum over the head's rows. -/
theorem hsum_ladder (f : Fin 256 → EReal) (y : Fin 4) :
    (if h : y.val < 1 then ∑ x : Fin 64, f ⟨x.val, by omega⟩
      else if h : y.val - 1 < 1 then ∑ x : Fin 64, f ⟨64 + x.val, by omega⟩
      else if h : y.val - 1 - 1 < 1 then ∑ x : Fin 64, f ⟨128 + x.val, by omega⟩
      else ∑ x : Fin 64, f ⟨192 + x.val, by omega⟩) = hsum f y := by
  unfold hsum
  split_ifs <;> refine Finset.sum_congr rfl fun x _ => congrArg f (Fin.ext ?_) <;> simp only [] <;> omega

/-- The sum over the rows of head 0. -/
theorem hsum_0 (f : Fin 256 → EReal) : (∑ x : Fin 64, f ⟨x.val, by omega⟩) = hsum f 0 :=
  Finset.sum_congr rfl fun x _ => congrArg f (Fin.ext (by show x.val = 64 * 0 + x.val; omega))

/-- The sum over the rows of head 1. -/
theorem hsum_1 (f : Fin 256 → EReal) : (∑ x : Fin 64, f ⟨64 + x.val, by omega⟩) = hsum f 1 :=
  Finset.sum_congr rfl fun x _ => congrArg f (Fin.ext (by show 64 + x.val = 64 * 1 + x.val; omega))

/-- The sum over the rows of head 2. -/
theorem hsum_2 (f : Fin 256 → EReal) : (∑ x : Fin 64, f ⟨128 + x.val, by omega⟩) = hsum f 2 :=
  Finset.sum_congr rfl fun x _ => congrArg f (Fin.ext (by show 128 + x.val = 64 * 2 + x.val; omega))

/-- Three of the sums given, the fourth written out: chosen by the head they are the sum over the head's rows. -/
theorem hsum_chosen (f : Fin 256 → EReal) (y : Fin 4) :
    (if h : y.val < 1 then hsum f 0 else if h : y.val - 1 < 1 then hsum f 1 else if h : y.val - 1 - 1 < 1 then hsum f 2
      else ∑ x : Fin 64, f ⟨192 + x.val, by omega⟩) = hsum f y := by
  split_ifs with h0 h1 h2
  · exact congrArg (hsum f) (Fin.ext (by show 0 = y.val; omega))
  · exact congrArg (hsum f) (Fin.ext (by show 1 = y.val; omega))
  · exact congrArg (hsum f) (Fin.ext (by show 2 = y.val; omega))
  · exact Finset.sum_congr rfl fun x _ => congrArg f (Fin.ext (by show 192 + x.val = 64 * y.val + x.val; omega))

/-- The head of a row, by the four ranges of rows. -/
theorem hd_cases (r : Fin 256) : (hd r = 0 ∧ r.val < 64) ∨ (hd r = 1 ∧ 64 ≤ r.val ∧ r.val < 128)
    ∨ (hd r = 2 ∧ 128 ≤ r.val ∧ r.val < 192) ∨ (hd r = 3 ∧ 192 ≤ r.val) := by
  have := r.isLt
  by_cases a : r.val < 64
  · exact Or.inl ⟨Fin.ext (by show r.val / 64 = 0; omega), a⟩
  by_cases b : r.val < 128
  · exact Or.inr (Or.inl ⟨Fin.ext (by show r.val / 64 = 1; omega), by omega, b⟩)
  by_cases c : r.val < 192
  · exact Or.inr (Or.inr (Or.inl ⟨Fin.ext (by show r.val / 64 = 2; omega), by omega, c⟩))
  · exact Or.inr (Or.inr (Or.inr ⟨Fin.ext (by show r.val / 64 = 3; omega), by omega⟩))

end Cert.Step
-- ==== Proof.Masks.lean ====
module

public import proofs.«01_k».proof.Proof.Columns
public import proofs.«01_k».proof.Proof.Heads

/-!
# The masks of the slots that do not count

The kernel computes the remainder of the slot number by the dilation with a correction for negative remainders, and
compares it with zero. Slot numbers are not negative, so this is the remainder of the natural numbers.
-/

@[expose] public section
set_option maxRecDepth 16384
noncomputable section
namespace Cert.Step
open Cert.KernelIdeal Cert.KernelIdeal.Gen Idealize.ShloMosaic Idealize.ShloMosaic.TcCoe Idealize.SL.Sem

/-- Whether the remainder of the slot `l` by `d` is zero, as the kernel computes it. -/
def maskW (l : Nat) (d : BitVec 32) : BitVec 1 :=
  IntOp.cmpi CmpIPredicate.eq
    (Scalar.select
      (IntOp.andi
        (IntOp.xori (IntOp.cmpi CmpIPredicate.slt (IntOp.remsi ArithUnit.vector (BitVec.ofNat 32 l) d) 0#32)
          (Scalar.cmpi CmpIPredicate.slt d 0#32))
        (IntOp.cmpi CmpIPredicate.ne (IntOp.remsi ArithUnit.vector (BitVec.ofNat 32 l) d) 0#32))
      (IntOp.addi (IntOp.remsi ArithUnit.vector (BitVec.ofNat 32 l) d) d)
      (IntOp.remsi ArithUnit.vector (BitVec.ofNat 32 l) d))
    0#32

/-- Every slot counts when the dilation is one. -/
theorem mask_1 : ∀ l : Fin 128, maskW l.val 1#32 = BitVec.ofBool (decide (l.val % 1 = 0)) := by decide +kernel
/-- Every fourth slot counts. -/
theorem mask_4 : ∀ l : Fin 512, maskW l.val 4#32 = BitVec.ofBool (decide (l.val % 4 = 0)) := by decide +kernel
/-- Every sixteenth slot counts. -/
theorem mask_16 : ∀ l : Fin 2048, maskW l.val 16#32 = BitVec.ofBool (decide (l.val % 16 = 0)) := by decide +kernel

/-- The mask of the third cache, for the first request. -/
theorem mask53 (l : Fin 2048) : k0_pay53 (ix2 0 l) = BitVec.ofBool (decide (l.val % 16 = 0)) := by
  unfold k0_pay53
  pointwise
  exact mask_16 l

/-- The mask of the third cache, for the second request. -/
theorem mask118 (l : Fin 2048) : k0_pay118 (ix2 0 l) = BitVec.ofBool (decide (l.val % 16 = 0)) := by
  unfold k0_pay118
  pointwise
  exact mask_16 l

/-- The remainder by four. -/
theorem pay35_at (y : S1x512.Idx) :
    k0_pay35 y = IntOp.remsi ArithUnit.vector (BitVec.ofNat 32 (y 1).val) 4#32 := by
  unfold k0_pay35
  pointwise
  rfl
/-- Whether the remainder is not zero. -/
theorem pay36_at (y : S1x512.Idx) :
    k0_pay36 y = IntOp.cmpi CmpIPredicate.ne (IntOp.remsi ArithUnit.vector (BitVec.ofNat 32 (y 1).val) 4#32) 0#32 := by
  unfold k0_pay36
  pointwise
  rw [pay35_at]
/-- Whether the remainder is negative. -/
theorem pay37_at (y : S1x512.Idx) :
    k0_pay37 y = IntOp.cmpi CmpIPredicate.slt (IntOp.remsi ArithUnit.vector (BitVec.ofNat 32 (y 1).val) 4#32) 0#32 := by
  unfold k0_pay37
  pointwise
  rw [pay35_at]
/-- The remainder by four, for the second request. -/
theorem pay101_at (y : S1x512.Idx) :
    k0_pay101 y = IntOp.remsi ArithUnit.vector (BitVec.ofNat 32 (y 1).val) 4#32 := by
  unfold k0_pay101
  pointwise
  rfl
/-- Whether the remainder has to be corrected, for the second request. -/
theorem pay102_at (y : S1x512.Idx) :
    k0_pay102 y = IntOp.andi
      (IntOp.xori (IntOp.cmpi CmpIPredicate.slt (IntOp.remsi ArithUnit.vector (BitVec.ofNat 32 (y 1).val) 4#32) 0#32)
        (Scalar.cmpi CmpIPredicate.slt 4#32 0#32))
      (IntOp.cmpi CmpIPredicate.ne (IntOp.remsi ArithUnit.vector (BitVec.ofNat 32 (y 1).val) 4#32) 0#32) := by
  unfold k0_pay102
  pointwise
  rw [pay101_at]
  rfl
/-- The corrected remainder, for the second request. -/
theorem pay103_at (y : S1x512.Idx) :
    k0_pay103 y = IntOp.addi (IntOp.remsi ArithUnit.vector (BitVec.ofNat 32 (y 1).val) 4#32) 4#32 := by
  unfold k0_pay103
  pointwise
  rw [pay101_at]
  rfl

/-- A choice by a mask. -/
theorem select_mask {p : Prop} [Decidable p] {w : BitVec 1} {s s' b : EReal}
    (hw : w = BitVec.ofBool (decide p)) (hs : s = s') (hb : b = ⊥) :
    Scalar.select w s b = if p then s' else ⊥ := by
  rw [hw, hs, hb, WordCmp.select_decide]

/-- The greatest of a row, started from minus infinity. -/
theorem fold_bot {n : Nat} (f : Fin n → EReal) :
    Finset.fold max (Ideal.ofBits .f32 4286578688#32) f Finset.univ = Finset.univ.fold max ⊥ f := by
  rw [show Ideal.ofBits .f32 4286578688#32 = ⊥ by decide]

/-- The value named `mask` is minus infinity. -/
theorem mask_bot : (Named.named κ "mask" (4048155338#32 : BitVec (FTy.bits .f32)) : Ideal .f32) = ⊥ :=
  IdealRules.named_const.ideal_named_scalar _ _ _ _ rfl

end Cert.Step
-- ==== Proof.First.lean ====
module

public import proofs.«01_k».proof.Proof.Masks

/-!
# The first request of a step, its first two caches

One theorem for each array the kernel's body computes: it is the scalar formula of `Heads` in the kernel's layout.
-/

@[expose] public section
set_option maxRecDepth 16384
noncomputable section
namespace Cert.Step
open Cert.KernelIdeal Cert.KernelIdeal.Gen Idealize.ShloMosaic Idealize.ShloMosaic.TcCoe Idealize.SL.Sem

/-- The payload `13`, of every slot. -/
theorem pay13_eq (c : Vec Ideal S768x1 .f32) (K V : Vec Ideal S1x256x128 .f32) :
    (k0_pay13 (F := Ideal) c : FVec Ideal S256x1 .f32) =
      (Col (grp 1 c K V).q) := by
  funext y
  unfold k0_pay13
  pointwise
  rfl

/-- The payload `14`, of every slot. -/
theorem pay14_eq (c : Vec Ideal S768x1 .f32) (K V : Vec Ideal S1x256x128 .f32) :
    (k0_pay14 (F := Ideal) c : FVec Ideal S256x1 .f32) =
      (Col (grp 1 c K V).nk) := by
  funext y
  unfold k0_pay14
  pointwise
  rfl

/-- The payload `15`, of every slot. -/
theorem pay15_eq (c : Vec Ideal S768x1 .f32) (K V : Vec Ideal S1x256x128 .f32) :
    (k0_pay15 (F := Ideal) c : FVec Ideal S256x1 .f32) =
      (Col (grp 1 c K V).nv) := by
  funext y
  unfold k0_pay15
  pointwise
  rfl

/-- The payload `16`, of every slot. -/
theorem pay16_eq (c : Vec Ideal S768x1 .f32) (K V : Vec Ideal S1x256x128 .f32) :
    (k0_pay16 (F := Ideal) V : FVec Ideal S256x128 .f32) =
      (RowL (grp 1 c K V).v) := by
  funext y
  unfold k0_pay16
  pointwise
  rfl

/-- The payload `17`, of every slot. -/
theorem pay17_eq (c : Vec Ideal S768x1 .f32) (K V : Vec Ideal S1x256x128 .f32) :
    (k0_pay17 (F := Ideal) (Col (grp 1 c K V).q) K : FVec Ideal S4x128 .f32) =
      (HdL (grp 1 c K V).sc) := by
  funext y
  unfold k0_pay17
  pointwise
  exact select_mask (mask_1 (y 1)) (hsum_ladder (fun r => (grp 1 c K V).k r (y 1) * (grp 1 c K V).q r) (y 0)) mask_bot

/-- The payload `18`, of every slot. -/
theorem pay18_eq (c : Vec Ideal S768x1 .f32) (K V : Vec Ideal S1x256x128 .f32) :
    (k0_pay18 (F := Ideal) (Col (grp 1 c K V).q) (Col (grp 1 c K V).nk) : FVec Ideal S4x1 .f32) =
      (Hds (grp 1 c K V).sn) := by
  funext y
  unfold k0_pay18
  pointwise
  exact hsum_ladder (fun r => (grp 1 c K V).nk r * (grp 1 c K V).q r) (y 0)

/-- The payload `19`, of every slot. -/
theorem pay19_eq (c : Vec Ideal S768x1 .f32) (K V : Vec Ideal S1x256x128 .f32) :
    (k0_pay19 (F := Ideal) (Col (grp 1 c K V).q) (Col (grp 1 c K V).nk) (HdL (grp 1 c K V).sc) : FVec Ideal S4x1 .f32) =
      (Hds (grp 1 c K V).mx) := by
  funext y
  unfold k0_pay19
  try simp only [pay18_eq]
  pointwise
  try simp only [pay18_eq]
  exact congrArg (fun z => max z _) (fold_bot _)

/-- The payload `20`, of every slot. -/
theorem pay20_eq (c : Vec Ideal S768x1 .f32) (K V : Vec Ideal S1x256x128 .f32) :
    (k0_pay20 (F := Ideal) (Col (grp 1 c K V).q) (Col (grp 1 c K V).nk) (HdL (grp 1 c K V).sc) : FVec Ideal S4x128 .f32) =
      (HdL (grp 1 c K V).e) := by
  funext y
  unfold k0_pay20
  try simp only [pay18_eq, pay19_eq]
  pointwise
  try simp only [pay18_eq, pay19_eq]
  rfl

/-- The payload `21`, of every slot. -/
theorem pay21_eq (c : Vec Ideal S768x1 .f32) (K V : Vec Ideal S1x256x128 .f32) :
    (k0_pay21 (F := Ideal) (Col (grp 1 c K V).q) (Col (grp 1 c K V).nk) (HdL (grp 1 c K V).sc) : FVec Ideal S4x1 .f32) =
      (Hds (grp 1 c K V).en) := by
  funext y
  unfold k0_pay21
  try simp only [pay18_eq, pay19_eq]
  pointwise
  try simp only [pay18_eq, pay19_eq]
  rfl

/-- The payload `22`, of every slot. -/
theorem pay22_eq (c : Vec Ideal S768x1 .f32) (K V : Vec Ideal S1x256x128 .f32) :
    (k0_pay22 (F := Ideal) (Col (grp 1 c K V).q) (Col (grp 1 c K V).nk) (HdL (grp 1 c K V).sc) : FVec Ideal S4x1 .f32) =
      (Hds (grp 1 c K V).den) := by
  funext y
  unfold k0_pay22
  try simp only [pay18_eq, pay19_eq, pay20_eq, pay21_eq]
  pointwise
  try simp only [pay18_eq, pay19_eq, pay20_eq, pay21_eq]
  rfl

/-- The payload `23`, of every slot. -/
theorem pay23_eq (c : Vec Ideal S768x1 .f32) (K V : Vec Ideal S1x256x128 .f32) :
    (k0_pay23 (F := Ideal) (Col (grp 1 c K V).q) (Col (grp 1 c K V).nk) (RowL (grp 1 c K V).v) (HdL (grp 1 c K V).sc) : FVec Ideal S256x1 .f32) =
      (Col (grp 1 c K V).num) := by
  funext y
  unfold k0_pay23
  try simp only [pay18_eq, pay19_eq, pay20_eq, pay21_eq, pay22_eq]
  pointwise
  try simp only [pay18_eq, pay19_eq, pay20_eq, pay21_eq, pay22_eq]
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `24`, of every slot. -/
theorem pay24_eq (c : Vec Ideal S768x1 .f32) (K V : Vec Ideal S1x256x128 .f32) :
    (k0_pay24 (F := Ideal) (Col (grp 1 c K V).q) (Col (grp 1 c K V).nk) (HdL (grp 1 c K V).sc) : FVec Ideal S64x1 .f32) =
      (Rep ((grp 1 c K V).en 0)) := by
  funext y
  unfold k0_pay24
  try simp only [pay18_eq, pay19_eq, pay20_eq, pay21_eq]
  pointwise
  try simp only [pay18_eq, pay19_eq, pay20_eq, pay21_eq]
  rfl

/-- The payload `25`, of every slot. -/
theorem pay25_eq (c : Vec Ideal S768x1 .f32) (K V : Vec Ideal S1x256x128 .f32) :
    (k0_pay25 (F := Ideal) (Col (grp 1 c K V).q) (Col (grp 1 c K V).nk) (HdL (grp 1 c K V).sc) : FVec Ideal S64x1 .f32) =
      (Rep ((grp 1 c K V).en 1)) := by
  funext y
  unfold k0_pay25
  try simp only [pay18_eq, pay19_eq, pay20_eq, pay21_eq]
  pointwise
  try simp only [pay18_eq, pay19_eq, pay20_eq, pay21_eq]
  rfl

/-- The payload `26`, of every slot. -/
theorem pay26_eq (c : Vec Ideal S768x1 .f32) (K V : Vec Ideal S1x256x128 .f32) :
    (k0_pay26 (F := Ideal) (Col (grp 1 c K V).q) (Col (grp 1 c K V).nk) (HdL (grp 1 c K V).sc) : FVec Ideal S64x1 .f32) =
      (Rep ((grp 1 c K V).en 2)) := by
  funext y
  unfold k0_pay26
  try simp only [pay18_eq, pay19_eq, pay20_eq, pay21_eq]
  pointwise
  try simp only [pay18_eq, pay19_eq, pay20_eq, pay21_eq]
  rfl

/-- The payload `27`, of every slot. -/
theorem pay27_eq (c : Vec Ideal S768x1 .f32) (K V : Vec Ideal S1x256x128 .f32) :
    (k0_pay27 (F := Ideal) (Col (grp 1 c K V).q) (Col (grp 1 c K V).nk) (HdL (grp 1 c K V).sc) : FVec Ideal S64x1 .f32) =
      (Rep ((grp 1 c K V).en 3)) := by
  funext y
  unfold k0_pay27
  try simp only [pay18_eq, pay19_eq, pay20_eq, pay21_eq]
  pointwise
  try simp only [pay18_eq, pay19_eq, pay20_eq, pay21_eq]
  rfl

/-- The payload `28`, of every slot. -/
theorem pay28_eq (c : Vec Ideal S768x1 .f32) (K V : Vec Ideal S1x256x128 .f32) :
    (k0_pay28 (F := Ideal) (Col (grp 1 c K V).nv) (Hds (grp 1 c K V).den) (Col (grp 1 c K V).num) (Rep ((grp 1 c K V).en 0)) (Rep ((grp 1 c K V).en 1)) (Rep ((grp 1 c K V).en 2)) (Rep ((grp 1 c K V).en 3)) : FVec Ideal S256x1 .f32) =
      (Col (grp 1 c K V).out) := by
  funext y
  unfold k0_pay28
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `29`, of every slot. -/
theorem pay29_eq (c : Vec Ideal S768x1 .f32) (K V : Vec Ideal S1x256x128 .f32) :
    (k0_pay29 (F := Ideal) (Hds (grp 1 c K V).mx) (Hds (grp 1 c K V).den) : FVec Ideal S256x1 .f32) =
      (Col fun r => (grp 1 c K V).ls (hd r)) := by
  funext y
  unfold k0_pay29
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `30`, of every fourth slot. -/
theorem pay30_eq (c : Vec Ideal S768x1 .f32) (K V : Vec Ideal S1x256x512 .f32) :
    (k0_pay30 (F := Ideal) c : FVec Ideal S256x1 .f32) =
      (Col (grp 4 c K V).q) := by
  funext y
  unfold k0_pay30
  pointwise
  rfl

/-- The payload `31`, of every fourth slot. -/
theorem pay31_eq (c : Vec Ideal S768x1 .f32) (K V : Vec Ideal S1x256x512 .f32) :
    (k0_pay31 (F := Ideal) c : FVec Ideal S256x1 .f32) =
      (Col (grp 4 c K V).nk) := by
  funext y
  unfold k0_pay31
  pointwise
  rfl

/-- The payload `32`, of every fourth slot. -/
theorem pay32_eq (c : Vec Ideal S768x1 .f32) (K V : Vec Ideal S1x256x512 .f32) :
    (k0_pay32 (F := Ideal) c : FVec Ideal S256x1 .f32) =
      (Col (grp 4 c K V).nv) := by
  funext y
  unfold k0_pay32
  pointwise
  rfl

/-- The payload `33`, of every fourth slot. -/
theorem pay33_eq (c : Vec Ideal S768x1 .f32) (K V : Vec Ideal S1x256x512 .f32) :
    (k0_pay33 (F := Ideal) K : FVec Ideal S256x512 .f32) =
      (RowL (grp 4 c K V).k) := by
  funext y
  unfold k0_pay33
  pointwise
  rfl

/-- The payload `34`, of every fourth slot. -/
theorem pay34_eq (c : Vec Ideal S768x1 .f32) (K V : Vec Ideal S1x256x512 .f32) :
    (k0_pay34 (F := Ideal) V : FVec Ideal S256x512 .f32) =
      (RowL (grp 4 c K V).v) := by
  funext y
  unfold k0_pay34
  pointwise
  rfl

/-- The payload `38`, of every fourth slot. -/
theorem pay38_eq (c : Vec Ideal S768x1 .f32) (K V : Vec Ideal S1x256x512 .f32) :
    (k0_pay38 (F := Ideal) (Col (grp 4 c K V).q) (RowL (grp 4 c K V).k) 4#32 k0_pay35 k0_pay36 k0_pay37 0#32 : FVec Ideal S4x512 .f32) =
      (HdL (grp 4 c K V).sc) := by
  funext y
  unfold k0_pay38
  try simp only [pay35_at, pay36_at, pay37_at]
  pointwise
  try simp only [pay35_at, pay36_at, pay37_at]
  exact select_mask (mask_4 (y 1)) (hsum_ladder (fun r => (grp 4 c K V).k r (y 1) * (grp 4 c K V).q r) (y 0)) mask_bot

/-- The payload `39`, of every fourth slot. -/
theorem pay39_eq (c : Vec Ideal S768x1 .f32) (K V : Vec Ideal S1x256x512 .f32) :
    (k0_pay39 (F := Ideal) (Col (grp 4 c K V).q) (Col (grp 4 c K V).nk) : FVec Ideal S4x1 .f32) =
      (Hds (grp 4 c K V).sn) := by
  funext y
  unfold k0_pay39
  pointwise
  exact hsum_ladder (fun r => (grp 4 c K V).nk r * (grp 4 c K V).q r) (y 0)

/-- The payload `40`, of every fourth slot. -/
theorem pay40_eq (c : Vec Ideal S768x1 .f32) (K V : Vec Ideal S1x256x512 .f32) :
    (k0_pay40 (F := Ideal) (Col (grp 4 c K V).q) (Col (grp 4 c K V).nk) (RowL (grp 4 c K V).k) 4#32 k0_pay35 k0_pay36 k0_pay37 0#32 : FVec Ideal S4x1 .f32) =
      (Hds (grp 4 c K V).mx) := by
  funext y
  unfold k0_pay40
  try simp only [pay38_eq, pay39_eq]
  pointwise
  try simp only [pay38_eq, pay39_eq]
  exact congrArg (fun z => max z _) (fold_bot _)

/-- The payload `41`, of every fourth slot. -/
theorem pay41_eq (c : Vec Ideal S768x1 .f32) (K V : Vec Ideal S1x256x512 .f32) :
    (k0_pay41 (F := Ideal) (Col (grp 4 c K V).q) (Col (grp 4 c K V).nk) (RowL (grp 4 c K V).k) 4#32 k0_pay35 k0_pay36 k0_pay37 0#32 : FVec Ideal S4x512 .f32) =
      (HdL (grp 4 c K V).e) := by
  funext y
  unfold k0_pay41
  try simp only [pay38_eq, pay39_eq, pay40_eq]
  pointwise
  try simp only [pay38_eq, pay39_eq, pay40_eq]
  rfl

/-- The payload `42`, of every fourth slot. -/
theorem pay42_eq (c : Vec Ideal S768x1 .f32) (K V : Vec Ideal S1x256x512 .f32) :
    (k0_pay42 (F := Ideal) (Hds (grp 4 c K V).sn) (Hds (grp 4 c K V).mx) : FVec Ideal S4x1 .f32) =
      (Hds (grp 4 c K V).en) := by
  funext y
  unfold k0_pay42
  pointwise
  rfl

/-- The payload `43`, of every fourth slot. -/
theorem pay43_eq (c : Vec Ideal S768x1 .f32) (K V : Vec Ideal S1x256x512 .f32) :
    (k0_pay43 (F := Ideal) (Hds (grp 4 c K V).sn) (Hds (grp 4 c K V).mx) (HdL (grp 4 c K V).e) : FVec Ideal S4x1 .f32) =
      (Hds (grp 4 c K V).den) := by
  funext y
  unfold k0_pay43
  try simp only [pay42_eq]
  pointwise
  try simp only [pay42_eq]
  rfl

/-- The payload `44`, of every fourth slot. -/
theorem pay44_eq (c : Vec Ideal S768x1 .f32) (K V : Vec Ideal S1x256x512 .f32) :
    (k0_pay44 (F := Ideal) (Col (grp 4 c K V).nv) (RowL (grp 4 c K V).v) (Hds (grp 4 c K V).sn) (Hds (grp 4 c K V).mx) (HdL (grp 4 c K V).e) : FVec Ideal S256x1 .f32) =
      (Col (grp 4 c K V).out) := by
  funext y
  unfold k0_pay44
  try simp only [pay42_eq, pay43_eq]
  pointwise
  try simp only [pay42_eq, pay43_eq]
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `45`, of every fourth slot. -/
theorem pay45_eq (c : Vec Ideal S768x1 .f32) (K V : Vec Ideal S1x256x512 .f32) :
    (k0_pay45 (F := Ideal) (Hds (grp 4 c K V).sn) (Hds (grp 4 c K V).mx) (HdL (grp 4 c K V).e) : FVec Ideal S4x1 .f32) =
      (Hds (grp 4 c K V).ls) := by
  funext y
  unfold k0_pay45
  try simp only [pay42_eq, pay43_eq]
  pointwise
  try simp only [pay42_eq, pay43_eq]
  rfl

/-- The payload `46`, of every fourth slot. -/
theorem pay46_eq (c : Vec Ideal S768x1 .f32) (K V : Vec Ideal S1x256x512 .f32) :
    (k0_pay46 (F := Ideal) (Hds (grp 4 c K V).sn) (Hds (grp 4 c K V).mx) (HdL (grp 4 c K V).e) : FVec Ideal S64x1 .f32) =
      (Rep ((grp 4 c K V).ls 0)) := by
  funext y
  unfold k0_pay46
  try simp only [pay42_eq, pay43_eq, pay45_eq]
  pointwise
  try simp only [pay42_eq, pay43_eq, pay45_eq]
  rfl

/-- The payload `47`, of every fourth slot. -/
theorem pay47_eq (c : Vec Ideal S768x1 .f32) (K V : Vec Ideal S1x256x512 .f32) :
    (k0_pay47 (F := Ideal) (Hds (grp 4 c K V).sn) (Hds (grp 4 c K V).mx) (HdL (grp 4 c K V).e) : FVec Ideal S64x1 .f32) =
      (Rep ((grp 4 c K V).ls 1)) := by
  funext y
  unfold k0_pay47
  try simp only [pay42_eq, pay43_eq, pay45_eq]
  pointwise
  try simp only [pay42_eq, pay43_eq, pay45_eq]
  rfl

/-- The payload `48`, of every fourth slot. -/
theorem pay48_eq (c : Vec Ideal S768x1 .f32) (K V : Vec Ideal S1x256x512 .f32) :
    (k0_pay48 (F := Ideal) (Hds (grp 4 c K V).ls) (Rep ((grp 4 c K V).ls 0)) (Rep ((grp 4 c K V).ls 1)) : FVec Ideal S256x1 .f32) =
      (Col fun r => (grp 4 c K V).ls (hd r)) := by
  funext y
  unfold k0_pay48
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

end Cert.Step
-- ==== Proof.FirstC.lean ====
module

public import proofs.«01_k».proof.Proof.Masks

/-!
# The first request of a step, its third cache

One theorem for each array the kernel's body computes: it is the scalar formula of `Heads` in the kernel's layout.
-/

@[expose] public section
set_option maxRecDepth 16384
noncomputable section
namespace Cert.Step
open Cert.KernelIdeal Cert.KernelIdeal.Gen Idealize.ShloMosaic Idealize.ShloMosaic.TcCoe Idealize.SL.Sem

/-- The payload `49`, of every sixteenth slot. -/
theorem pay49_eq (c : Vec Ideal S768x1 .f32) (K V : Vec Ideal S1x256x2048 .f32) :
    (k0_pay49 (F := Ideal) c : FVec Ideal S256x1 .f32) =
      (Col (grp 16 c K V).q) := by
  funext y
  unfold k0_pay49
  pointwise
  rfl

/-- The payload `50`, of every sixteenth slot. -/
theorem pay50_eq (c : Vec Ideal S768x1 .f32) (K V : Vec Ideal S1x256x2048 .f32) :
    (k0_pay50 (F := Ideal) c : FVec Ideal S256x1 .f32) =
      (Col (grp 16 c K V).nk) := by
  funext y
  unfold k0_pay50
  pointwise
  rfl

/-- The payload `51`, of every sixteenth slot. -/
theorem pay51_eq (c : Vec Ideal S768x1 .f32) (K V : Vec Ideal S1x256x2048 .f32) :
    (k0_pay51 (F := Ideal) c : FVec Ideal S256x1 .f32) =
      (Col (grp 16 c K V).nv) := by
  funext y
  unfold k0_pay51
  pointwise
  rfl

/-- The payload `52`, of every sixteenth slot. -/
theorem pay52_eq (c : Vec Ideal S768x1 .f32) (K V : Vec Ideal S1x256x2048 .f32) :
    (k0_pay52 (F := Ideal) V : FVec Ideal S256x2048 .f32) =
      (RowL (grp 16 c K V).v) := by
  funext y
  unfold k0_pay52
  pointwise
  rfl

/-- The payload `54`, of every sixteenth slot. -/
theorem pay54_eq (c : Vec Ideal S768x1 .f32) (K V : Vec Ideal S1x256x2048 .f32) :
    (k0_pay54 (F := Ideal) c K : FVec Ideal S256x2048 .f32) =
      (RowL fun r l => (grp 16 c K V).k r l * (grp 16 c K V).q r) := by
  funext y
  unfold k0_pay54
  try simp only [pay49_eq c K V]
  pointwise
  try simp only [pay49_eq c K V]
  rfl

/-- The payload `55`, of every sixteenth slot. -/
theorem pay55_eq (c : Vec Ideal S768x1 .f32) (K V : Vec Ideal S1x256x2048 .f32) :
    (k0_pay55 (F := Ideal) c K : FVec Ideal S1x2048 .f32) =
      (RowOne fun l => hsum (fun r => (grp 16 c K V).k r l * (grp 16 c K V).q r) 0) := by
  funext y
  unfold k0_pay55
  try simp only [pay54_eq c K V]
  pointwise
  try simp only [pay54_eq c K V]
  exact hsum_0 (fun r => (grp 16 c K V).k r (y 1) * (grp 16 c K V).q r)

/-- The payload `56`, of every sixteenth slot. -/
theorem pay56_eq (c : Vec Ideal S768x1 .f32) (K V : Vec Ideal S1x256x2048 .f32) :
    (k0_pay56 (F := Ideal) c K : FVec Ideal S1x2048 .f32) =
      (RowOne fun l => hsum (fun r => (grp 16 c K V).k r l * (grp 16 c K V).q r) 1) := by
  funext y
  unfold k0_pay56
  try simp only [pay54_eq c K V]
  pointwise
  try simp only [pay54_eq c K V]
  exact hsum_1 (fun r => (grp 16 c K V).k r (y 1) * (grp 16 c K V).q r)

/-- The payload `57`, of every sixteenth slot. -/
theorem pay57_eq (c : Vec Ideal S768x1 .f32) (K V : Vec Ideal S1x256x2048 .f32) :
    (k0_pay57 (F := Ideal) c K : FVec Ideal S1x2048 .f32) =
      (RowOne fun l => hsum (fun r => (grp 16 c K V).k r l * (grp 16 c K V).q r) 2) := by
  funext y
  unfold k0_pay57
  try simp only [pay54_eq c K V]
  pointwise
  try simp only [pay54_eq c K V]
  exact hsum_2 (fun r => (grp 16 c K V).k r (y 1) * (grp 16 c K V).q r)

/-- The payload `58`, of every sixteenth slot. -/
theorem pay58_eq (c : Vec Ideal S768x1 .f32) (K V : Vec Ideal S1x256x2048 .f32) :
    (k0_pay58 (F := Ideal) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S4x2048 .f32) =
      (HdL (grp 16 c K V).sc) := by
  funext y
  unfold k0_pay58
  pointwise
  exact select_mask (mask53 (y 1)) (hsum_chosen (fun r => (grp 16 c K V).k r (y 1) * (grp 16 c K V).q r) (y 0)) mask_bot

/-- The payload `59`, of every sixteenth slot. -/
theorem pay59_eq (c : Vec Ideal S768x1 .f32) (K V : Vec Ideal S1x256x2048 .f32) :
    (k0_pay59 (F := Ideal) (Col (grp 16 c K V).q) (Col (grp 16 c K V).nk) : FVec Ideal S4x1 .f32) =
      (Hds (grp 16 c K V).sn) := by
  funext y
  unfold k0_pay59
  pointwise
  exact hsum_ladder (fun r => (grp 16 c K V).nk r * (grp 16 c K V).q r) (y 0)

/-- The payload `60`, of every sixteenth slot. -/
theorem pay60_eq (c : Vec Ideal S768x1 .f32) (K V : Vec Ideal S1x256x2048 .f32) :
    (k0_pay60 (F := Ideal) (Col (grp 16 c K V).q) (Col (grp 16 c K V).nk) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S4x1 .f32) =
      (Hds (grp 16 c K V).mx) := by
  funext y
  unfold k0_pay60
  try simp only [pay58_eq, pay59_eq]
  pointwise
  try simp only [pay58_eq, pay59_eq]
  exact congrArg (fun z => max z _) (fold_bot _)

/-- The payload `61`, of every sixteenth slot. -/
theorem pay61_eq (c : Vec Ideal S768x1 .f32) (K V : Vec Ideal S1x256x2048 .f32) :
    (k0_pay61 (F := Ideal) (Col (grp 16 c K V).q) (Col (grp 16 c K V).nk) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S4x2048 .f32) =
      (HdL (grp 16 c K V).e) := by
  funext y
  unfold k0_pay61
  try simp only [pay58_eq, pay59_eq, pay60_eq]
  pointwise
  try simp only [pay58_eq, pay59_eq, pay60_eq]
  rfl

/-- The payload `62`, of every sixteenth slot. -/
theorem pay62_eq (c : Vec Ideal S768x1 .f32) (K V : Vec Ideal S1x256x2048 .f32) :
    (k0_pay62 (F := Ideal) (Col (grp 16 c K V).q) (Col (grp 16 c K V).nk) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S4x1 .f32) =
      (Hds (grp 16 c K V).en) := by
  funext y
  unfold k0_pay62
  try simp only [pay58_eq, pay59_eq, pay60_eq]
  pointwise
  try simp only [pay58_eq, pay59_eq, pay60_eq]
  rfl

/-- The payload `63`, of every sixteenth slot. -/
theorem pay63_eq (c : Vec Ideal S768x1 .f32) (K V : Vec Ideal S1x256x2048 .f32) :
    (k0_pay63 (F := Ideal) (Col (grp 16 c K V).q) (Col (grp 16 c K V).nk) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S4x1 .f32) =
      (Hds (grp 16 c K V).den) := by
  funext y
  unfold k0_pay63
  try simp only [pay58_eq, pay59_eq, pay60_eq, pay61_eq, pay62_eq]
  pointwise
  try simp only [pay58_eq, pay59_eq, pay60_eq, pay61_eq, pay62_eq]
  rfl

/-- The payload `64`, of every sixteenth slot. -/
theorem pay64_eq (c : Vec Ideal S768x1 .f32) (K V : Vec Ideal S1x256x2048 .f32) :
    (k0_pay64 (F := Ideal) (Col (grp 16 c K V).q) (Col (grp 16 c K V).nk) (RowL (grp 16 c K V).v) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S256x1 .f32) =
      (Col (grp 16 c K V).num) := by
  funext y
  unfold k0_pay64
  try simp only [pay58_eq, pay59_eq, pay60_eq, pay61_eq, pay62_eq, pay63_eq]
  pointwise
  try simp only [pay58_eq, pay59_eq, pay60_eq, pay61_eq, pay62_eq, pay63_eq]
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `65`, of every sixteenth slot. -/
theorem pay65_eq (c : Vec Ideal S768x1 .f32) (K V : Vec Ideal S1x256x2048 .f32) :
    (k0_pay65 (F := Ideal) (Col (grp 16 c K V).q) (Col (grp 16 c K V).nk) k0_pay53 (RowL fun r l => (grp 16 c K V).k r l * (grp 16 c K V).q r) (RowOne fun l => hsum (fun r => (grp 16 c K V).k r l * (grp 16 c K V).q r) 0) (RowOne fun l => hsum (fun r => (grp 16 c K V).k r l * (grp 16 c K V).q r) 1) (RowOne fun l => hsum (fun r => (grp 16 c K V).k r l * (grp 16 c K V).q r) 2) : FVec Ideal S1x1 .f32) =
      (One ((grp 16 c K V).en 0)) := by
  funext y
  unfold k0_pay65
  try simp only [pay58_eq, pay59_eq, pay60_eq, pay61_eq, pay62_eq]
  pointwise
  try simp only [pay58_eq, pay59_eq, pay60_eq, pay61_eq, pay62_eq]
  rfl

end Cert.Step
-- ==== Proof.Second.lean ====
module

public import proofs.«01_k».proof.Proof.Masks

/-!
# The second request of a step, its first two caches

One theorem for each array the kernel's body computes: it is the scalar formula of `Heads` in the kernel's layout.
-/

@[expose] public section
set_option maxRecDepth 16384
noncomputable section
namespace Cert.Step
open Cert.KernelIdeal Cert.KernelIdeal.Gen Idealize.ShloMosaic Idealize.ShloMosaic.TcCoe Idealize.SL.Sem

/-- The payload `77`, of every slot. -/
theorem pay77_eq (c : Vec Ideal S768x1 .f32) (K V : Vec Ideal S1x256x128 .f32) :
    (k0_pay77 (F := Ideal) c : FVec Ideal S256x1 .f32) =
      (Col (grp 1 c K V).q) := by
  funext y
  unfold k0_pay77
  pointwise
  rfl

/-- The payload `78`, of every slot. -/
theorem pay78_eq (c : Vec Ideal S768x1 .f32) (K V : Vec Ideal S1x256x128 .f32) :
    (k0_pay78 (F := Ideal) c : FVec Ideal S256x1 .f32) =
      (Col (grp 1 c K V).nk) := by
  funext y
  unfold k0_pay78
  pointwise
  rfl

/-- The payload `79`, of every slot. -/
theorem pay79_eq (c : Vec Ideal S768x1 .f32) (K V : Vec Ideal S1x256x128 .f32) :
    (k0_pay79 (F := Ideal) c : FVec Ideal S256x1 .f32) =
      (Col (grp 1 c K V).nv) := by
  funext y
  unfold k0_pay79
  pointwise
  rfl

/-- The payload `80`, of every slot. -/
theorem pay80_eq (c : Vec Ideal S768x1 .f32) (K V : Vec Ideal S1x256x128 .f32) :
    (k0_pay80 (F := Ideal) K : FVec Ideal S256x128 .f32) =
      (RowL (grp 1 c K V).k) := by
  funext y
  unfold k0_pay80
  pointwise
  rfl

/-- The payload `81`, of every slot. -/
theorem pay81_eq (c : Vec Ideal S768x1 .f32) (K V : Vec Ideal S1x256x128 .f32) :
    (k0_pay81 (F := Ideal) V : FVec Ideal S256x128 .f32) =
      (RowL (grp 1 c K V).v) := by
  funext y
  unfold k0_pay81
  pointwise
  rfl

/-- The payload `82`, of every slot. -/
theorem pay82_eq (c : Vec Ideal S768x1 .f32) (K V : Vec Ideal S1x256x128 .f32) :
    (k0_pay82 (F := Ideal) (Col (grp 1 c K V).q) (RowL (grp 1 c K V).k) : FVec Ideal S4x128 .f32) =
      (HdL (grp 1 c K V).sc) := by
  funext y
  unfold k0_pay82
  pointwise
  exact select_mask (mask_1 (y 1)) (hsum_ladder (fun r => (grp 1 c K V).k r (y 1) * (grp 1 c K V).q r) (y 0)) mask_bot

/-- The payload `83`, of every slot. -/
theorem pay83_eq (c : Vec Ideal S768x1 .f32) (K V : Vec Ideal S1x256x128 .f32) :
    (k0_pay83 (F := Ideal) (Col (grp 1 c K V).q) (Col (grp 1 c K V).nk) : FVec Ideal S256x1 .f32) =
      (Col fun r => (grp 1 c K V).nk r * (grp 1 c K V).q r) := by
  funext y
  unfold k0_pay83
  pointwise
  rfl

/-- The payload `84`, of every slot. -/
theorem pay84_eq (c : Vec Ideal S768x1 .f32) (K V : Vec Ideal S1x256x128 .f32) :
    (k0_pay84 (F := Ideal) (Col (grp 1 c K V).q) (Col (grp 1 c K V).nk) : FVec Ideal S1x1 .f32) =
      (One ((grp 1 c K V).sn 0)) := by
  funext y
  unfold k0_pay84
  try simp only [pay83_eq]
  pointwise
  try simp only [pay83_eq]
  exact hsum_0 (fun r => (grp 1 c K V).nk r * (grp 1 c K V).q r)

/-- The payload `85`, of every slot. -/
theorem pay85_eq (c : Vec Ideal S768x1 .f32) (K V : Vec Ideal S1x256x128 .f32) :
    (k0_pay85 (F := Ideal) (Col (grp 1 c K V).q) (Col (grp 1 c K V).nk) : FVec Ideal S64x1 .f32) =
      (fun y => (grp 1 c K V).nk ⟨64 + (y 0).val, by have : (y 0).val < 64 := (y 0).isLt; omega⟩ * (grp 1 c K V).q ⟨64 + (y 0).val, by have : (y 0).val < 64 := (y 0).isLt; omega⟩) := by
  funext y
  unfold k0_pay85
  try simp only [pay83_eq]
  pointwise
  try simp only [pay83_eq]
  rfl

/-- The payload `86`, of every slot. -/
theorem pay86_eq (c : Vec Ideal S768x1 .f32) (K V : Vec Ideal S1x256x128 .f32) :
    (k0_pay86 (F := Ideal) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S4x1 .f32) =
      (Hds (grp 1 c K V).sn) := by
  funext y
  unfold k0_pay86
  pointwise
  exact hsum_ladder (fun r => (grp 1 c K V).nk r * (grp 1 c K V).q r) (y 0)

/-- The payload `87`, of every slot. -/
theorem pay87_eq (c : Vec Ideal S768x1 .f32) (K V : Vec Ideal S1x256x128 .f32) :
    (k0_pay87 (F := Ideal) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S4x1 .f32) =
      (Hds (grp 1 c K V).mx) := by
  funext y
  unfold k0_pay87
  try simp only [pay86_eq]
  pointwise
  try simp only [pay86_eq]
  exact congrArg (fun z => max z _) (fold_bot _)

/-- The payload `88`, of every slot. -/
theorem pay88_eq (c : Vec Ideal S768x1 .f32) (K V : Vec Ideal S1x256x128 .f32) :
    (k0_pay88 (F := Ideal) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S4x128 .f32) =
      (HdL (grp 1 c K V).e) := by
  funext y
  unfold k0_pay88
  try simp only [pay86_eq, pay87_eq]
  pointwise
  try simp only [pay86_eq, pay87_eq]
  rfl

/-- The payload `89`, of every slot. -/
theorem pay89_eq (c : Vec Ideal S768x1 .f32) (K V : Vec Ideal S1x256x128 .f32) :
    (k0_pay89 (F := Ideal) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S4x1 .f32) =
      (Hds (grp 1 c K V).en) := by
  funext y
  unfold k0_pay89
  try simp only [pay86_eq, pay87_eq]
  pointwise
  try simp only [pay86_eq, pay87_eq]
  rfl

/-- The payload `90`, of every slot. -/
theorem pay90_eq (c : Vec Ideal S768x1 .f32) (K V : Vec Ideal S1x256x128 .f32) :
    (k0_pay90 (F := Ideal) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S4x1 .f32) =
      (Hds (grp 1 c K V).den) := by
  funext y
  unfold k0_pay90
  try simp only [pay86_eq, pay87_eq, pay88_eq, pay89_eq]
  pointwise
  try simp only [pay86_eq, pay87_eq, pay88_eq, pay89_eq]
  rfl

/-- The payload `91`, of every slot. -/
theorem pay91_eq (c : Vec Ideal S768x1 .f32) (K V : Vec Ideal S1x256x128 .f32) :
    (k0_pay91 (F := Ideal) (Col (grp 1 c K V).nv) (RowL (grp 1 c K V).v) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S256x1 .f32) =
      (Col fun r => (grp 1 c K V).num r + (grp 1 c K V).en (hd r) * (grp 1 c K V).nv r) := by
  funext y
  unfold k0_pay91
  try simp only [pay86_eq, pay87_eq, pay88_eq, pay89_eq, pay90_eq]
  pointwise
  try simp only [pay86_eq, pay87_eq, pay88_eq, pay89_eq, pay90_eq]
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `92`, of every slot. -/
theorem pay92_eq (c : Vec Ideal S768x1 .f32) (K V : Vec Ideal S1x256x128 .f32) :
    (k0_pay92 (F := Ideal) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S64x1 .f32) =
      (Rep ((grp 1 c K V).den 0)) := by
  funext y
  unfold k0_pay92
  try simp only [pay86_eq, pay87_eq, pay88_eq, pay89_eq, pay90_eq]
  pointwise
  try simp only [pay86_eq, pay87_eq, pay88_eq, pay89_eq, pay90_eq]
  rfl

/-- The payload `93`, of every slot. -/
theorem pay93_eq (c : Vec Ideal S768x1 .f32) (K V : Vec Ideal S1x256x128 .f32) :
    (k0_pay93 (F := Ideal) (HdL (grp 1 c K V).sc) (Col fun r => (grp 1 c K V).nk r * (grp 1 c K V).q r) (One ((grp 1 c K V).sn 0)) (fun y => (grp 1 c K V).nk ⟨64 + (y 0).val, by have : (y 0).val < 64 := (y 0).isLt; omega⟩ * (grp 1 c K V).q ⟨64 + (y 0).val, by have : (y 0).val < 64 := (y 0).isLt; omega⟩) : FVec Ideal S1x1 .f32) =
      (One ((grp 1 c K V).den 1)) := by
  funext y
  unfold k0_pay93
  try simp only [pay86_eq, pay87_eq, pay88_eq, pay89_eq, pay90_eq]
  pointwise
  try simp only [pay86_eq, pay87_eq, pay88_eq, pay89_eq, pay90_eq]
  rfl

/-- The payload `94`, of every slot. -/
theorem pay94_eq (c : Vec Ideal S768x1 .f32) (K V : Vec Ideal S1x256x128 .f32) :
    (k0_pay94 (F := Ideal) (Hds (grp 1 c K V).den) (Col fun r => (grp 1 c K V).num r + (grp 1 c K V).en (hd r) * (grp 1 c K V).nv r) (Rep ((grp 1 c K V).den 0)) (One ((grp 1 c K V).den 1)) : FVec Ideal S256x1 .f32) =
      (Col (grp 1 c K V).out) := by
  funext y
  unfold k0_pay94
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `95`, of every slot. -/
theorem pay95_eq (c : Vec Ideal S768x1 .f32) (K V : Vec Ideal S1x256x128 .f32) :
    (k0_pay95 (F := Ideal) (Hds (grp 1 c K V).mx) (Hds (grp 1 c K V).den) : FVec Ideal S256x1 .f32) =
      (Col fun r => (grp 1 c K V).ls (hd r)) := by
  funext y
  unfold k0_pay95
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `96`, of every fourth slot. -/
theorem pay96_eq (c : Vec Ideal S768x1 .f32) (K V : Vec Ideal S1x256x512 .f32) :
    (k0_pay96 (F := Ideal) c : FVec Ideal S256x1 .f32) =
      (Col (grp 4 c K V).q) := by
  funext y
  unfold k0_pay96
  pointwise
  rfl

/-- The payload `97`, of every fourth slot. -/
theorem pay97_eq (c : Vec Ideal S768x1 .f32) (K V : Vec Ideal S1x256x512 .f32) :
    (k0_pay97 (F := Ideal) c : FVec Ideal S256x1 .f32) =
      (Col (grp 4 c K V).nk) := by
  funext y
  unfold k0_pay97
  pointwise
  rfl

/-- The payload `98`, of every fourth slot. -/
theorem pay98_eq (c : Vec Ideal S768x1 .f32) (K V : Vec Ideal S1x256x512 .f32) :
    (k0_pay98 (F := Ideal) c : FVec Ideal S256x1 .f32) =
      (Col (grp 4 c K V).nv) := by
  funext y
  unfold k0_pay98
  pointwise
  rfl

/-- The payload `99`, of every fourth slot. -/
theorem pay99_eq (c : Vec Ideal S768x1 .f32) (K V : Vec Ideal S1x256x512 .f32) :
    (k0_pay99 (F := Ideal) K : FVec Ideal S256x512 .f32) =
      (RowL (grp 4 c K V).k) := by
  funext y
  unfold k0_pay99
  pointwise
  rfl

/-- The payload `100`, of every fourth slot. -/
theorem pay100_eq (c : Vec Ideal S768x1 .f32) (K V : Vec Ideal S1x256x512 .f32) :
    (k0_pay100 (F := Ideal) V : FVec Ideal S256x512 .f32) =
      (RowL (grp 4 c K V).v) := by
  funext y
  unfold k0_pay100
  pointwise
  rfl

/-- The payload `104`, of every fourth slot. -/
theorem pay104_eq (c : Vec Ideal S768x1 .f32) (K V : Vec Ideal S1x256x512 .f32) :
    (k0_pay104 (F := Ideal) (Col (grp 4 c K V).q) (RowL (grp 4 c K V).k) k0_pay101 k0_pay102 k0_pay103 : FVec Ideal S4x512 .f32) =
      (HdL (grp 4 c K V).sc) := by
  funext y
  unfold k0_pay104
  try simp only [pay101_at, pay102_at, pay103_at]
  pointwise
  try simp only [pay101_at, pay102_at, pay103_at]
  exact select_mask (mask_4 (y 1)) (hsum_ladder (fun r => (grp 4 c K V).k r (y 1) * (grp 4 c K V).q r) (y 0)) mask_bot

/-- The payload `105`, of every fourth slot. -/
theorem pay105_eq (c : Vec Ideal S768x1 .f32) (K V : Vec Ideal S1x256x512 .f32) :
    (k0_pay105 (F := Ideal) (Col (grp 4 c K V).q) (Col (grp 4 c K V).nk) : FVec Ideal S4x1 .f32) =
      (Hds (grp 4 c K V).sn) := by
  funext y
  unfold k0_pay105
  pointwise
  exact hsum_ladder (fun r => (grp 4 c K V).nk r * (grp 4 c K V).q r) (y 0)

/-- The payload `106`, of every fourth slot. -/
theorem pay106_eq (c : Vec Ideal S768x1 .f32) (K V : Vec Ideal S1x256x512 .f32) :
    (k0_pay106 (F := Ideal) (Col (grp 4 c K V).q) (Col (grp 4 c K V).nk) (RowL (grp 4 c K V).k) k0_pay101 k0_pay102 k0_pay103 : FVec Ideal S4x1 .f32) =
      (Hds (grp 4 c K V).mx) := by
  funext y
  unfold k0_pay106
  try simp only [pay104_eq, pay105_eq]
  pointwise
  try simp only [pay104_eq, pay105_eq]
  exact congrArg (fun z => max z _) (fold_bot _)

/-- The payload `107`, of every fourth slot. -/
theorem pay107_eq (c : Vec Ideal S768x1 .f32) (K V : Vec Ideal S1x256x512 .f32) :
    (k0_pay107 (F := Ideal) (Col (grp 4 c K V).q) (Col (grp 4 c K V).nk) (RowL (grp 4 c K V).k) k0_pay101 k0_pay102 k0_pay103 : FVec Ideal S4x512 .f32) =
      (HdL (grp 4 c K V).e) := by
  funext y
  unfold k0_pay107
  try simp only [pay104_eq, pay105_eq, pay106_eq]
  pointwise
  try simp only [pay104_eq, pay105_eq, pay106_eq]
  rfl

/-- The payload `108`, of every fourth slot. -/
theorem pay108_eq (c : Vec Ideal S768x1 .f32) (K V : Vec Ideal S1x256x512 .f32) :
    (k0_pay108 (F := Ideal) (Col (grp 4 c K V).q) (Col (grp 4 c K V).nk) (RowL (grp 4 c K V).k) k0_pay101 k0_pay102 k0_pay103 : FVec Ideal S4x1 .f32) =
      (Hds (grp 4 c K V).en) := by
  funext y
  unfold k0_pay108
  try simp only [pay104_eq, pay105_eq, pay106_eq]
  pointwise
  try simp only [pay104_eq, pay105_eq, pay106_eq]
  rfl

/-- The payload `109`, of every fourth slot. -/
theorem pay109_eq (c : Vec Ideal S768x1 .f32) (K V : Vec Ideal S1x256x512 .f32) :
    (k0_pay109 (F := Ideal) (Col (grp 4 c K V).q) (Col (grp 4 c K V).nk) (RowL (grp 4 c K V).k) k0_pay101 k0_pay102 k0_pay103 : FVec Ideal S4x1 .f32) =
      (Hds (grp 4 c K V).den) := by
  funext y
  unfold k0_pay109
  try simp only [pay104_eq, pay105_eq, pay106_eq, pay107_eq, pay108_eq]
  pointwise
  try simp only [pay104_eq, pay105_eq, pay106_eq, pay107_eq, pay108_eq]
  rfl

/-- The payload `110`, of every fourth slot. -/
theorem pay110_eq (c : Vec Ideal S768x1 .f32) (K V : Vec Ideal S1x256x512 .f32) :
    (k0_pay110 (F := Ideal) (Col (grp 4 c K V).q) (Col (grp 4 c K V).nk) (RowL (grp 4 c K V).k) k0_pay101 k0_pay102 k0_pay103 : FVec Ideal S1x512 .f32) =
      (RowOne ((grp 4 c K V).e 0)) := by
  funext y
  unfold k0_pay110
  try simp only [pay104_eq, pay105_eq, pay106_eq, pay107_eq]
  pointwise
  try simp only [pay104_eq, pay105_eq, pay106_eq, pay107_eq]
  rfl

/-- The payload `111`, of every fourth slot. -/
theorem pay111_eq (c : Vec Ideal S768x1 .f32) (K V : Vec Ideal S1x256x512 .f32) :
    (k0_pay111 (F := Ideal) (Col (grp 4 c K V).nv) (RowL (grp 4 c K V).v) (HdL (grp 4 c K V).e) (Hds (grp 4 c K V).en) (Hds (grp 4 c K V).den) (RowOne ((grp 4 c K V).e 0)) : FVec Ideal S256x1 .f32) =
      (Col (grp 4 c K V).out) := by
  funext y
  unfold k0_pay111
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `112`, of every fourth slot. -/
theorem pay112_eq (c : Vec Ideal S768x1 .f32) (K V : Vec Ideal S1x256x512 .f32) :
    (k0_pay112 (F := Ideal) (Hds (grp 4 c K V).mx) (Hds (grp 4 c K V).den) : FVec Ideal S256x1 .f32) =
      (Col fun r => (grp 4 c K V).ls (hd r)) := by
  funext y
  unfold k0_pay112
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

end Cert.Step
-- ==== Proof.SecondC.lean ====
module

public import proofs.«01_k».proof.Proof.Masks

/-!
# The second request of a step, its third cache

One theorem for each array the kernel's body computes: it is the scalar formula of `Heads` in the kernel's layout.
-/

@[expose] public section
set_option maxRecDepth 16384
noncomputable section
namespace Cert.Step
open Cert.KernelIdeal Cert.KernelIdeal.Gen Idealize.ShloMosaic Idealize.ShloMosaic.TcCoe Idealize.SL.Sem

/-- The payload `113`, of every sixteenth slot. -/
theorem pay113_eq (c : Vec Ideal S768x1 .f32) (K V : Vec Ideal S1x256x2048 .f32) :
    (k0_pay113 (F := Ideal) c : FVec Ideal S256x1 .f32) =
      (Col (grp 16 c K V).q) := by
  funext y
  unfold k0_pay113
  pointwise
  rfl

/-- The payload `114`, of every sixteenth slot. -/
theorem pay114_eq (c : Vec Ideal S768x1 .f32) (K V : Vec Ideal S1x256x2048 .f32) :
    (k0_pay114 (F := Ideal) c : FVec Ideal S256x1 .f32) =
      (Col (grp 16 c K V).nk) := by
  funext y
  unfold k0_pay114
  pointwise
  rfl

/-- The payload `115`, of every sixteenth slot. -/
theorem pay115_eq (c : Vec Ideal S768x1 .f32) (K V : Vec Ideal S1x256x2048 .f32) :
    (k0_pay115 (F := Ideal) c : FVec Ideal S256x1 .f32) =
      (Col (grp 16 c K V).nv) := by
  funext y
  unfold k0_pay115
  pointwise
  rfl

/-- The payload `116`, of every sixteenth slot. -/
theorem pay116_eq (c : Vec Ideal S768x1 .f32) (K V : Vec Ideal S1x256x2048 .f32) :
    (k0_pay116 (F := Ideal) V : FVec Ideal S256x2048 .f32) =
      (RowL (grp 16 c K V).v) := by
  funext y
  unfold k0_pay116
  pointwise
  rfl

/-- The payload `117`, of every sixteenth slot. -/
theorem pay117_eq (c : Vec Ideal S768x1 .f32) (K V : Vec Ideal S1x256x2048 .f32) :
    (k0_pay117 (F := Ideal) c K : FVec Ideal S4x2048 .f32) =
      (HdL fun h l => hsum (fun r => (grp 16 c K V).k r l * (grp 16 c K V).q r) h) := by
  funext y
  unfold k0_pay117
  try simp only [pay113_eq c K V]
  pointwise
  try simp only [pay113_eq c K V]
  exact hsum_ladder (fun r => (grp 16 c K V).k r (y 1) * (grp 16 c K V).q r) (y 0)

/-- The payload `119`, of every sixteenth slot. -/
theorem pay119_eq (c : Vec Ideal S768x1 .f32) (K V : Vec Ideal S1x256x2048 .f32) :
    (k0_pay119 (F := Ideal) (HdL fun h l => hsum (fun r => (grp 16 c K V).k r l * (grp 16 c K V).q r) h) (Named.named (F := Ideal) (φ := .f32) κ "mask" 4048155338#32) k0_pay118 : FVec Ideal S4x2048 .f32) =
      (HdL (grp 16 c K V).sc) := by
  funext y
  unfold k0_pay119
  pointwise
  exact select_mask (mask118 (y 1)) rfl mask_bot

/-- The payload `120`, of every sixteenth slot. -/
theorem pay120_eq (c : Vec Ideal S768x1 .f32) (K V : Vec Ideal S1x256x2048 .f32) :
    (k0_pay120 (F := Ideal) (Col (grp 16 c K V).q) (Col (grp 16 c K V).nk) : FVec Ideal S4x1 .f32) =
      (Hds (grp 16 c K V).sn) := by
  funext y
  unfold k0_pay120
  pointwise
  exact hsum_ladder (fun r => (grp 16 c K V).nk r * (grp 16 c K V).q r) (y 0)

/-- The payload `121`, of every sixteenth slot. -/
theorem pay121_eq (c : Vec Ideal S768x1 .f32) (K V : Vec Ideal S1x256x2048 .f32) :
    (k0_pay121 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S4x1 .f32) =
      (Hds (grp 16 c K V).mx) := by
  funext y
  unfold k0_pay121
  try simp only [pay119_eq, pay120_eq]
  pointwise
  try simp only [pay119_eq, pay120_eq]
  exact congrArg (fun z => max z _) (fold_bot _)

/-- The payload `122`, of every sixteenth slot. -/
theorem pay122_eq (c : Vec Ideal S768x1 .f32) (K V : Vec Ideal S1x256x2048 .f32) :
    (k0_pay122 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S4x2048 .f32) =
      (HdL (grp 16 c K V).e) := by
  funext y
  unfold k0_pay122
  try simp only [pay119_eq, pay120_eq, pay121_eq]
  pointwise
  try simp only [pay119_eq, pay120_eq, pay121_eq]
  rfl

/-- The payload `123`, of every sixteenth slot. -/
theorem pay123_eq (c : Vec Ideal S768x1 .f32) (K V : Vec Ideal S1x256x2048 .f32) :
    (k0_pay123 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S4x1 .f32) =
      (Hds (grp 16 c K V).en) := by
  funext y
  unfold k0_pay123
  try simp only [pay119_eq, pay120_eq, pay121_eq]
  pointwise
  try simp only [pay119_eq, pay120_eq, pay121_eq]
  rfl

/-- The payload `124`, of every sixteenth slot. -/
theorem pay124_eq (c : Vec Ideal S768x1 .f32) (K V : Vec Ideal S1x256x2048 .f32) :
    (k0_pay124 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S4x1 .f32) =
      (Hds (grp 16 c K V).den) := by
  funext y
  unfold k0_pay124
  try simp only [pay119_eq, pay120_eq, pay121_eq, pay122_eq, pay123_eq]
  pointwise
  try simp only [pay119_eq, pay120_eq, pay121_eq, pay122_eq, pay123_eq]
  rfl

/-- The payload `125`, of every sixteenth slot. -/
theorem pay125_eq (c : Vec Ideal S768x1 .f32) (K V : Vec Ideal S1x256x2048 .f32) :
    (k0_pay125 (F := Ideal) (Col (grp 16 c K V).q) (Col (grp 16 c K V).nk) (RowL (grp 16 c K V).v) (HdL fun h l => hsum (fun r => (grp 16 c K V).k r l * (grp 16 c K V).q r) h) (Named.named (F := Ideal) (φ := .f32) κ "mask" 4048155338#32) k0_pay118 : FVec Ideal S256x1 .f32) =
      (Col (grp 16 c K V).num) := by
  funext y
  unfold k0_pay125
  try simp only [pay119_eq, pay120_eq, pay121_eq, pay122_eq, pay123_eq, pay124_eq]
  pointwise
  try simp only [pay119_eq, pay120_eq, pay121_eq, pay122_eq, pay123_eq, pay124_eq]
  rcases hd_cases (y 0) with ⟨e, a⟩ | ⟨e, a, a'⟩ | ⟨e, a, a'⟩ | ⟨e, a⟩ <;>
    simp (disch := omega) only [Col, Rep, Hds, HdL, RowL, One, RowOne, dif_pos, dif_neg, Grp.out, Grp.num, e] <;> rfl

/-- The payload `126`, of every sixteenth slot. -/
theorem pay126_eq (c : Vec Ideal S768x1 .f32) (K V : Vec Ideal S1x256x2048 .f32) :
    (k0_pay126 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S64x1 .f32) =
      (Rep ((grp 16 c K V).en 0)) := by
  funext y
  unfold k0_pay126
  try simp only [pay119_eq, pay120_eq, pay121_eq, pay122_eq, pay123_eq]
  pointwise
  try simp only [pay119_eq, pay120_eq, pay121_eq, pay122_eq, pay123_eq]
  rfl

/-- The payload `127`, of every sixteenth slot. -/
theorem pay127_eq (c : Vec Ideal S768x1 .f32) (K V : Vec Ideal S1x256x2048 .f32) :
    (k0_pay127 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S64x1 .f32) =
      (Rep ((grp 16 c K V).en 1)) := by
  funext y
  unfold k0_pay127
  try simp only [pay119_eq, pay120_eq, pay121_eq, pay122_eq, pay123_eq]
  pointwise
  try simp only [pay119_eq, pay120_eq, pay121_eq, pay122_eq, pay123_eq]
  rfl

/-- The payload `128`, of every sixteenth slot. -/
theorem pay128_eq (c : Vec Ideal S768x1 .f32) (K V : Vec Ideal S1x256x2048 .f32) :
    (k0_pay128 (F := Ideal) (Col (grp 16 c K V).q) (Col (grp 16 c K V).nk) (HdL fun h l => hsum (fun r => (grp 16 c K V).k r l * (grp 16 c K V).q r) h) (Named.named (F := Ideal) (φ := .f32) κ "mask" 4048155338#32) k0_pay118 : FVec Ideal S64x1 .f32) =
      (Rep ((grp 16 c K V).en 2)) := by
  funext y
  unfold k0_pay128
  try simp only [pay119_eq, pay120_eq, pay121_eq, pay122_eq, pay123_eq]
  pointwise
  try simp only [pay119_eq, pay120_eq, pay121_eq, pay122_eq, pay123_eq]
  rfl

end Cert.Step
-- ==== Proof.Caches.lean ====
module

public import proofs.«01_k».proof.Proof.Columns

/-!
# The new key/value windows as whole arrays

The blocks of `Columns.lean` put together: each of the three results is `newWindow` of the argument arrays.
-/

@[expose] public section
set_option maxRecDepth 16384
noncomputable section
namespace Cert.Step

open Cert.KernelIdeal Cert.KernelIdeal.Gen Idealize.ShloMosaic Idealize.ShloMosaic.TcCoe Idealize.SL.Sem
open Idealize.ShloMosaic.Pipeline (Dat)

/-- The place in a cache of `W` slots (keys and values, four heads of 64 lanes) that holds row `r` of slot `l` of request `n`. -/
def cacheIdx {W : Nat} (n : Fin 32) (l : Fin W) (r : Fin 512) : (⟨6, ![1, 32, W, 2, 4, 64]⟩ : Shape).Idx :=
  ix6 0 n l ⟨r.val / 256, by omega⟩ ⟨r.val / 64 % 4, by omega⟩ ⟨r.val % 64, by omega⟩

/-- The new window: slot `l` holds what slot `l + 1` held, the last slot the new token's keys and values. -/
def newWindow {W : Nat} (x : (⟨2, ![768, 32]⟩ : Shape).Idx → EReal) (cc : (⟨6, ![1, 32, W, 2, 4, 64]⟩ : Shape).Idx → EReal)
    (y : (⟨3, ![32, 512, W]⟩ : Shape).Idx) : EReal :=
  if h : (y 2).val + 1 < W then cc (cacheIdx (y 0) ⟨(y 2).val + 1, h⟩ (y 1))
  else x (ix2 ⟨256 + (y 1).val, by have : (y 1).val < 512 := (y 1).isLt; omega⟩ (y 0))

/-- A block that is `rolled` is the part of `newWindow` at its place. -/
theorem rolled_eq_newWindow {W : Nat} (i : grid0.Coords) (x : (⟨2, ![768, 32]⟩ : Shape).Idx → EReal)
    (b : (⟨3, ![2, 512, W]⟩ : Shape).Idx → EReal) (cc : (⟨6, ![1, 32, W, 2, 4, 64]⟩ : Shape).Idx → EReal)
    (y : (⟨3, ![2, 512, W]⟩ : Shape).Idx) (z : (⟨3, ![32, 512, W]⟩ : Shape).Idx)
    (h0 : (z 0).val = 2 * (i 0).val + (y 0).val) (h1 : (z 1).val = (y 1).val) (h2 : (z 2).val = (y 2).val)
    (hb : ∀ (y : (⟨3, ![2, 512, W]⟩ : Shape).Idx) (n : Fin 32), n.val = 2 * (i 0).val + (y 0).val → b y = cc (cacheIdx n (y 2) (y 1))) :
    rolled i x b y = newWindow x cc z := by
  unfold rolled newWindow
  by_cases h : (y 2).val + 1 < W
  · have h' : (z 2).val + 1 < W := by omega
    rw [dif_pos h, dif_pos h']
    refine (hb (ix3 (y 0) (y 1) ⟨(y 2).val + 1, h⟩) (z 0) h0).trans (congrArg cc ?_)
    congr 1
    · exact Fin.ext (by show (y 2).val + 1 = (z 2).val + 1; omega)
    · exact Fin.ext h1.symm
  · have h' : ¬ (z 2).val + 1 < W := by omega
    rw [dif_neg h, dif_neg h']
    refine congrArg x ?_
    congr 1
    · exact Fin.ext (by show 256 + (y 1).val = 256 + (z 1).val; omega)
    · exact Fin.ext h0.symm

variable (m : (ℓ : Loc nD τ sig) → Buf (Elt Ideal) ℓ)

theorem idx0 : ∀ t : Fin cfg0.N, win0_0.index t = ![0, 0] := by decide +kernel
/-- Every step sees the whole array of new columns of group 0. -/
theorem iblk0 (c : Dev nD) (t : Fin cfg0.N) : iblk m c 0 t = m ((c : Thread nD τ).loc main_arg0) := by
  funext y
  blk_ext [iblk, V, idx0 t]
theorem idx1 : ∀ t : Fin cfg0.N, win0_1.index t = ![0, 0] := by decide +kernel
/-- Every step sees the whole array of new columns of group 1. -/
theorem iblk1 (c : Dev nD) (t : Fin cfg0.N) : iblk m c 1 t = m ((c : Thread nD τ).loc main_arg1) := by
  funext y
  blk_ext [iblk, V, idx1 t]
theorem idx2 : ∀ t : Fin cfg0.N, win0_2.index t = ![0, 0] := by decide +kernel
/-- Every step sees the whole array of new columns of group 2. -/
theorem iblk2 (c : Dev nD) (t : Fin cfg0.N) : iblk m c 2 t = m ((c : Thread nD τ).loc main_arg2) := by
  funext y
  blk_ext [iblk, V, idx2 t]

theorem idx3 : ∀ t : Fin cfg0.N, win0_3.index t = ![(grid0.coords t 0).val, 0, 0] := by decide +kernel
theorem idx6 : ∀ t : Fin cfg0.N, win0_6.index t = ![(grid0.coords t 0).val, 0, 0] := by decide +kernel
/-- The cache block of a step: two requests' part of the cache of 128 slots. -/
theorem iblk3 (c : Dev nD) (t : Fin cfg0.N) (y : S2x512x128.Idx) (n : Fin 32)
    (hn : n.val = 2 * (grid0.coords t 0).val + (y 0).val) :
    iblk m c 3 t y = m ((c : Thread nD τ).loc main_arg3) (cacheIdx n (y 2) (y 1)) := by
  unfold iblk cacheIdx
  entry_read
  blk_simp [idx3 t]
  pointwise
  blk_ext [idx3 t]
/-- The result 0 after the run. -/
theorem final6 (c : Dev nD) : (dats m 0 c).arrAt 6 cfg0.N
    = newWindow (m ((c : Thread nD τ).loc main_arg0)) (m ((c : Thread nD τ).loc main_arg3)) := by
  refine (dats m 0 c).arrAt_eq_of_covers 6 _ (by decide +kernel) fun t hf y => ?_
  blk_simp
  rw [after0_6, window6, iblk0]
  refine rolled_eq_newWindow _ _ _ _ _ _ ?_ ?_ ?_ (iblk3 m c t)
  · blk_simp [idx6 t]; omega
  · blk_simp [idx6 t]
  · blk_simp [idx6 t]

theorem idx4 : ∀ t : Fin cfg0.N, win0_4.index t = ![(grid0.coords t 0).val, 0, 0] := by decide +kernel
theorem idx7 : ∀ t : Fin cfg0.N, win0_7.index t = ![(grid0.coords t 0).val, 0, 0] := by decide +kernel
/-- The cache block of a step: two requests' part of the cache of 512 slots. -/
theorem iblk4 (c : Dev nD) (t : Fin cfg0.N) (y : S2x512x512.Idx) (n : Fin 32)
    (hn : n.val = 2 * (grid0.coords t 0).val + (y 0).val) :
    iblk m c 4 t y = m ((c : Thread nD τ).loc main_arg4) (cacheIdx n (y 2) (y 1)) := by
  unfold iblk cacheIdx
  entry_read
  blk_simp [idx4 t]
  pointwise
  blk_ext [idx4 t]
/-- The result 1 after the run. -/
theorem final7 (c : Dev nD) : (dats m 0 c).arrAt 7 cfg0.N
    = newWindow (m ((c : Thread nD τ).loc main_arg1)) (m ((c : Thread nD τ).loc main_arg4)) := by
  refine (dats m 0 c).arrAt_eq_of_covers 7 _ (by decide +kernel) fun t hf y => ?_
  blk_simp
  rw [after0_7, window7, iblk1]
  refine rolled_eq_newWindow _ _ _ _ _ _ ?_ ?_ ?_ (iblk4 m c t)
  · blk_simp [idx7 t]; omega
  · blk_simp [idx7 t]
  · blk_simp [idx7 t]

theorem idx5 : ∀ t : Fin cfg0.N, win0_5.index t = ![(grid0.coords t 0).val, 0, 0] := by decide +kernel
theorem idx8 : ∀ t : Fin cfg0.N, win0_8.index t = ![(grid0.coords t 0).val, 0, 0] := by decide +kernel
/-- The cache block of a step: two requests' part of the cache of 2048 slots. -/
theorem iblk5 (c : Dev nD) (t : Fin cfg0.N) (y : S2x512x2048.Idx) (n : Fin 32)
    (hn : n.val = 2 * (grid0.coords t 0).val + (y 0).val) :
    iblk m c 5 t y = m ((c : Thread nD τ).loc main_arg5) (cacheIdx n (y 2) (y 1)) := by
  unfold iblk cacheIdx
  entry_read
  blk_simp [idx5 t]
  pointwise
  blk_ext [idx5 t]
/-- The result 2 after the run. -/
theorem final8 (c : Dev nD) : (dats m 0 c).arrAt 8 cfg0.N
    = newWindow (m ((c : Thread nD τ).loc main_arg2)) (m ((c : Thread nD τ).loc main_arg5)) := by
  refine (dats m 0 c).arrAt_eq_of_covers 8 _ (by decide +kernel) fun t hf y => ?_
  blk_simp
  rw [after0_8, window8, iblk2]
  refine rolled_eq_newWindow _ _ _ _ _ _ ?_ ?_ ?_ (iblk5 m c t)
  · blk_simp [idx8 t]; omega
  · blk_simp [idx8 t]
  · blk_simp [idx8 t]
end Cert.Step
-- ==== Proof.Attn.lean ====
module

public import proofs.«01_k».proof.Proof.First
public import proofs.«01_k».proof.Proof.FirstC
public import proofs.«01_k».proof.Proof.Second
public import proofs.«01_k».proof.Proof.SecondC
public import proofs.«01_k».proof.Proof.Caches

/-!
# The attention of a step

The three groups' outputs of a request are merged and stored in the request's column; the other columns stay.
-/

@[expose] public section
set_option maxRecDepth 16384
noncomputable section
namespace Cert.Step
open Cert.KernelIdeal Cert.KernelIdeal.Gen Idealize.ShloMosaic Idealize.ShloMosaic.TcCoe Idealize.SL.Sem
open Idealize.ShloMosaic.Pipeline (Dat)

/-- The merged output row of one request. -/
def merged (g0 : Grp 128) (g1 : Grp 512) (g2 : Grp 2048) (r : Fin 256) : EReal :=
  merge (g0.out r) (g1.out r) (g2.out r) (g0.ls (hd r)) (g1.ls (hd r)) (g2.ls (hd r))

/-- The merge of the first request. -/
theorem pay66_eq (g0 : Grp 128) (g1 : Grp 512) (g2 : Grp 2048) :
    (k0_pay66 (F := Ideal) (Col g0.out) (Col fun r => g0.ls (hd r)) (Col g1.out) (Col fun r => g1.ls (hd r)) (Col g2.nv)
      (Hds g2.mx) (Hds g2.en) (Hds g2.den) (Col g2.num) (One (g2.en 0)) : FVec Ideal S256x1 .f32) =
      Col (merged g0 g1 g2) := by
  funext y
  unfold k0_pay66
  pointwise
  rcases hd_cases (y 0) with ⟨e, a⟩ | ⟨e, a, a'⟩ | ⟨e, a, a'⟩ | ⟨e, a⟩ <;>
    simp (disch := omega) only [Col, Rep, Hds, HdL, RowL, One, RowOne, dif_pos, dif_neg, merged, merge, e] <;>
    simp only [Grp.out, Grp.ls, e] <;> rfl

/-- The first request's column is stored, the others stay. -/
theorem pay68_eq (prev : Vec Ideal S256x32 .f32) (f : Fin 256 → EReal) (i : Nat) (hi : i < 16) (y : S256x32.Idx) :
    (k0_pay68 (F := Ideal) (k0_pay2 prev) (Col f) (iota .tc S256x32 32 [1] iota_S256x32_d1_w32)
      (k0_pay67 (Scalar.addi (Scalar.muli (BitVec.ofNat 32 i) 2#32) 0#32)) : FVec Ideal S256x32 .f32) y =
      if (y 1).val = 2 * i then f (y 0) else prev y := by
  unfold k0_pay68 k0_pay67 k0_pay2
  pointwise
  have : (y 1).val < 32 := (y 1).isLt
  exact select_lane _ (2 * i) _ (by omega) (by omega) (word0 i) _ _

/-- The second request's column is merged and stored, the others stay. -/
theorem pay129_eq (prev : FVec Ideal S256x32 .f32) (g0 : Grp 128) (g1 : Grp 512) (g2 : Grp 2048) (i : Nat) (hi : i < 16)
    (y : S256x32.Idx) :
    (k0_pay129 (F := Ideal) prev (Scalar.addi (Scalar.muli (BitVec.ofNat 32 i) 2#32) 1#32) (Col g0.out)
      (Col fun r => g0.ls (hd r)) (Col g1.out) (Col fun r => g1.ls (hd r)) (Col g2.nv)
      (Hds g2.mx) (Hds g2.en) (Hds g2.den) (Col g2.num) (Rep (g2.en 0)) (Rep (g2.en 1)) (Rep (g2.en 2)) :
        FVec Ideal S256x32 .f32) y =
      if (y 1).val = 2 * i + 1 then merged g0 g1 g2 (y 0) else prev y := by
  have : (y 1).val < 32 := (y 1).isLt
  rw [← select_lane (y 1).val (2 * i + 1) _ (by omega) (by omega) (word1 i)]
  unfold k0_pay129
  pointwise
  congr 1
  rcases hd_cases (y 0) with ⟨e, a⟩ | ⟨e, a, a'⟩ | ⟨e, a, a'⟩ | ⟨e, a⟩ <;>
    simp (disch := omega) only [Col, Rep, Hds, HdL, RowL, One, RowOne, dif_pos, dif_neg, merged, merge, e] <;>
    simp only [Grp.out, Grp.ls, e] <;> erw [e] <;> rfl

variable (m : (ℓ : Loc nD τ sig) → Buf (Elt Ideal) ℓ)

/-- What a request attends to in one group: its column of the new queries, keys and values, and its cache. -/
def grpAt {W : Nat} (dil : Nat) (x : (⟨2, ![768, 32]⟩ : Shape).Idx → EReal)
    (cc : (⟨6, ![1, 32, W, 2, 4, 64]⟩ : Shape).Idx → EReal) (n : Fin 32) : Grp W where
  dil := dil
  q r := x (ix2 ⟨r.val, by omega⟩ n)
  nk r := x (ix2 ⟨256 + r.val, by omega⟩ n)
  nv r := x (ix2 ⟨512 + r.val, by omega⟩ n)
  k r l := cc (cacheIdx n l ⟨r.val, by omega⟩)
  v r l := cc (cacheIdx n l ⟨256 + r.val, by omega⟩)

/-- A block of columns and cache that agrees with the arrays gives the request's group. -/
theorem grp_eq_grpAt {W : Nat} (dil : Nat) (x : (⟨2, ![768, 32]⟩ : Shape).Idx → EReal)
    (cc : (⟨6, ![1, 32, W, 2, 4, 64]⟩ : Shape).Idx → EReal) (n : Fin 32)
    (col : (⟨2, ![768, 1]⟩ : Shape).Idx → EReal) (K V : (⟨3, ![1, 256, W]⟩ : Shape).Idx → EReal)
    (hc : ∀ y, col y = x (ix2 (y 0) n))
    (hK : ∀ (r : Fin 256) (l : Fin W), K (ix3 0 r l) = cc (cacheIdx n l ⟨r.val, by omega⟩))
    (hV : ∀ (r : Fin 256) (l : Fin W), V (ix3 0 r l) = cc (cacheIdx n l ⟨256 + r.val, by omega⟩)) :
    grp dil col K V = grpAt dil x cc n := by
  unfold grp grpAt
  congr 1
  · exact funext fun r => hc _
  · exact funext fun r => hc _
  · exact funext fun r => hc _
  · exact funext fun r => funext fun l => hK r l
  · exact funext fun r => funext fun l => hV r l

/-- Group 0 of the first request of a step. -/
theorem group00 (c : Dev nD) (t : Fin cfg0.N) :
    grp 1 (k0_pay4 (grid0.coords t) (iblk m c 0 t))
      (View.ld (iblk m c 3 t) (Rect.unit ![0, 0, 0] ![1, 256, 128] inb_S2x512x128_S1x256x128_0_0_0))
      (View.ld (iblk m c 3 t) (Rect.unit ![0, 256, 0] ![1, 256, 128] inb_S2x512x128_S1x256x128_0_256_0)) =
    grpAt 1 (m ((c : Thread nD τ).loc main_arg0)) (m ((c : Thread nD τ).loc main_arg3)) (req0 (grid0.coords t)) := by
  refine grp_eq_grpAt _ _ _ _ _ _ _ (fun y => ?_) (fun r l => ?_) (fun r l => ?_)
  · rw [iblk0]; exact pay4_apply _ _ _
  · refine Eq.trans ?_ (iblk3 m c t (ix3 0 ⟨r.val, by omega⟩ l) (req0 (grid0.coords t)) rfl)
    pointwise
  · refine Eq.trans ?_ (iblk3 m c t (ix3 0 ⟨256 + r.val, by omega⟩ l) (req0 (grid0.coords t)) rfl)
    pointwise

/-- Group 1 of the first request of a step. -/
theorem group01 (c : Dev nD) (t : Fin cfg0.N) :
    grp 4 (k0_pay5 (grid0.coords t) (iblk m c 1 t))
      (View.ld (iblk m c 4 t) (Rect.unit ![0, 0, 0] ![1, 256, 512] inb_S2x512x512_S1x256x512_0_0_0))
      (View.ld (iblk m c 4 t) (Rect.unit ![0, 256, 0] ![1, 256, 512] inb_S2x512x512_S1x256x512_0_256_0)) =
    grpAt 4 (m ((c : Thread nD τ).loc main_arg1)) (m ((c : Thread nD τ).loc main_arg4)) (req0 (grid0.coords t)) := by
  refine grp_eq_grpAt _ _ _ _ _ _ _ (fun y => ?_) (fun r l => ?_) (fun r l => ?_)
  · rw [iblk1]; exact pay5_apply _ _ _
  · refine Eq.trans ?_ (iblk4 m c t (ix3 0 ⟨r.val, by omega⟩ l) (req0 (grid0.coords t)) rfl)
    pointwise
  · refine Eq.trans ?_ (iblk4 m c t (ix3 0 ⟨256 + r.val, by omega⟩ l) (req0 (grid0.coords t)) rfl)
    pointwise

/-- Group 2 of the first request of a step. -/
theorem group02 (c : Dev nD) (t : Fin cfg0.N) :
    grp 16 (k0_pay6 (grid0.coords t) (iblk m c 2 t))
      (View.ld (iblk m c 5 t) (Rect.unit ![0, 0, 0] ![1, 256, 2048] inb_S2x512x2048_S1x256x2048_0_0_0))
      (View.ld (iblk m c 5 t) (Rect.unit ![0, 256, 0] ![1, 256, 2048] inb_S2x512x2048_S1x256x2048_0_256_0)) =
    grpAt 16 (m ((c : Thread nD τ).loc main_arg2)) (m ((c : Thread nD τ).loc main_arg5)) (req0 (grid0.coords t)) := by
  refine grp_eq_grpAt _ _ _ _ _ _ _ (fun y => ?_) (fun r l => ?_) (fun r l => ?_)
  · rw [iblk2]; exact pay6_apply _ _ _
  · refine Eq.trans ?_ (iblk5 m c t (ix3 0 ⟨r.val, by omega⟩ l) (req0 (grid0.coords t)) rfl)
    pointwise
  · refine Eq.trans ?_ (iblk5 m c t (ix3 0 ⟨256 + r.val, by omega⟩ l) (req0 (grid0.coords t)) rfl)
    pointwise

/-- Group 0 of the second request of a step. -/
theorem group10 (c : Dev nD) (t : Fin cfg0.N) :
    grp 1 (k0_pay70 (BitVec.ofNat 32 (grid0.coords t 0).val) (iblk m c 0 t))
      (View.ld (iblk m c 3 t) (Rect.unit ![1, 0, 0] ![1, 256, 128] inb_S2x512x128_S1x256x128_1_0_0))
      (View.ld (iblk m c 3 t) (Rect.unit ![1, 256, 0] ![1, 256, 128] inb_S2x512x128_S1x256x128_1_256_0)) =
    grpAt 1 (m ((c : Thread nD τ).loc main_arg0)) (m ((c : Thread nD τ).loc main_arg3)) (req1 (grid0.coords t)) := by
  refine grp_eq_grpAt _ _ _ _ _ _ _ (fun y => ?_) (fun r l => ?_) (fun r l => ?_)
  · rw [iblk0]; exact pay70_apply _ _ _
  · refine Eq.trans ?_ (iblk3 m c t (ix3 1 ⟨r.val, by omega⟩ l) (req1 (grid0.coords t)) rfl)
    pointwise
  · refine Eq.trans ?_ (iblk3 m c t (ix3 1 ⟨256 + r.val, by omega⟩ l) (req1 (grid0.coords t)) rfl)
    pointwise

/-- Group 1 of the second request of a step. -/
theorem group11 (c : Dev nD) (t : Fin cfg0.N) :
    grp 4 (k0_pay71 (BitVec.ofNat 32 (grid0.coords t 0).val) (iblk m c 1 t))
      (View.ld (iblk m c 4 t) (Rect.unit ![1, 0, 0] ![1, 256, 512] inb_S2x512x512_S1x256x512_1_0_0))
      (View.ld (iblk m c 4 t) (Rect.unit ![1, 256, 0] ![1, 256, 512] inb_S2x512x512_S1x256x512_1_256_0)) =
    grpAt 4 (m ((c : Thread nD τ).loc main_arg1)) (m ((c : Thread nD τ).loc main_arg4)) (req1 (grid0.coords t)) := by
  refine grp_eq_grpAt _ _ _ _ _ _ _ (fun y => ?_) (fun r l => ?_) (fun r l => ?_)
  · rw [iblk1]; exact pay71_apply _ _ _
  · refine Eq.trans ?_ (iblk4 m c t (ix3 1 ⟨r.val, by omega⟩ l) (req1 (grid0.coords t)) rfl)
    pointwise
  · refine Eq.trans ?_ (iblk4 m c t (ix3 1 ⟨256 + r.val, by omega⟩ l) (req1 (grid0.coords t)) rfl)
    pointwise

/-- Group 2 of the second request of a step. -/
theorem group12 (c : Dev nD) (t : Fin cfg0.N) :
    grp 16 (k0_pay72 (BitVec.ofNat 32 (grid0.coords t 0).val) (iblk m c 2 t))
      (View.ld (iblk m c 5 t) (Rect.unit ![1, 0, 0] ![1, 256, 2048] inb_S2x512x2048_S1x256x2048_1_0_0))
      (View.ld (iblk m c 5 t) (Rect.unit ![1, 256, 0] ![1, 256, 2048] inb_S2x512x2048_S1x256x2048_1_256_0)) =
    grpAt 16 (m ((c : Thread nD τ).loc main_arg2)) (m ((c : Thread nD τ).loc main_arg5)) (req1 (grid0.coords t)) := by
  refine grp_eq_grpAt _ _ _ _ _ _ _ (fun y => ?_) (fun r l => ?_) (fun r l => ?_)
  · rw [iblk2]; exact pay72_apply _ _ _
  · refine Eq.trans ?_ (iblk5 m c t (ix3 1 ⟨r.val, by omega⟩ l) (req1 (grid0.coords t)) rfl)
    pointwise
  · refine Eq.trans ?_ (iblk5 m c t (ix3 1 ⟨256 + r.val, by omega⟩ l) (req1 (grid0.coords t)) rfl)
    pointwise

/-- The attention of the whole layer for request `n`, row `r`. -/
def attnAt (x0 x1 x2 : (⟨2, ![768, 32]⟩ : Shape).Idx → EReal) (c0 : (⟨6, ![1, 32, 128, 2, 4, 64]⟩ : Shape).Idx → EReal)
    (c1 : (⟨6, ![1, 32, 512, 2, 4, 64]⟩ : Shape).Idx → EReal) (c2 : (⟨6, ![1, 32, 2048, 2, 4, 64]⟩ : Shape).Idx → EReal)
    (n : Fin 32) (r : Fin 256) : EReal :=
  merged (grpAt 1 x0 c0 n) (grpAt 4 x1 c1 n) (grpAt 16 x2 c2 n) r

/-- The attention of the layer, of the argument arrays of core `c`. -/
def attnOf (c : Dev nD) : Fin 32 → Fin 256 → EReal :=
  attnAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a step that is the first leaves in the attention's block. -/
theorem step_A (c : Dev nD) (t : Fin cfg0.N) (y : S256x32.Idx) (h : t.val % 16 = 0) :
    (outsAt0 m c t.val t.isLt).2.2.2 y =
      if (y 1).val = 2 * (grid0.coords t 0).val + 1 then attnOf m c (req1 (grid0.coords t)) (y 0)
      else if (y 1).val = 2 * (grid0.coords t 0).val then attnOf m c (req0 (grid0.coords t)) (y 0)
      else k0_pay1 (F := Ideal) y := by
  have hi : (grid0.coords t 0).val < 16 := (grid0.coords t 0).isLt
  rw [outsAt0_A m c t h]
  dsimp only
  frame_out
  have e00 := group00 m c t
  generalize (k0_pay4 (grid0.coords t) (iblk m c 0 t)) = c00 at e00 ⊢
  generalize (View.ld (iblk m c 3 t) (Rect.unit ![0, 0, 0] ![1, 256, 128] inb_S2x512x128_S1x256x128_0_0_0)) = K00 at e00 ⊢
  generalize (View.ld (iblk m c 3 t) (Rect.unit ![0, 256, 0] ![1, 256, 128] inb_S2x512x128_S1x256x128_0_256_0)) = V00 at e00 ⊢
  simp only [pay13_eq c00 K00 V00, pay14_eq c00 K00 V00, pay15_eq c00 K00 V00, pay16_eq c00 K00 V00]
  have e01 := group01 m c t
  generalize (k0_pay5 (grid0.coords t) (iblk m c 1 t)) = c01 at e01 ⊢
  generalize (View.ld (iblk m c 4 t) (Rect.unit ![0, 0, 0] ![1, 256, 512] inb_S2x512x512_S1x256x512_0_0_0)) = K01 at e01 ⊢
  generalize (View.ld (iblk m c 4 t) (Rect.unit ![0, 256, 0] ![1, 256, 512] inb_S2x512x512_S1x256x512_0_256_0)) = V01 at e01 ⊢
  simp only [pay30_eq c01 K01 V01, pay31_eq c01 K01 V01, pay32_eq c01 K01 V01, pay33_eq c01 K01 V01, pay34_eq c01 K01 V01]
  have e02 := group02 m c t
  generalize (k0_pay6 (grid0.coords t) (iblk m c 2 t)) = c02 at e02 ⊢
  generalize (View.ld (iblk m c 5 t) (Rect.unit ![0, 0, 0] ![1, 256, 2048] inb_S2x512x2048_S1x256x2048_0_0_0)) = K02 at e02 ⊢
  generalize (View.ld (iblk m c 5 t) (Rect.unit ![0, 256, 0] ![1, 256, 2048] inb_S2x512x2048_S1x256x2048_0_256_0)) = V02 at e02 ⊢
  simp only [pay49_eq c02 K02 V02, pay50_eq c02 K02 V02, pay51_eq c02 K02 V02, pay52_eq c02 K02 V02, pay54_eq c02 K02 V02, pay55_eq c02 K02 V02, pay56_eq c02 K02 V02, pay57_eq c02 K02 V02]
  have e10 := group10 m c t
  generalize (k0_pay70 (BitVec.ofNat 32 (grid0.coords t 0).val) (iblk m c 0 t)) = c10 at e10 ⊢
  generalize (View.ld (iblk m c 3 t) (Rect.unit ![1, 0, 0] ![1, 256, 128] inb_S2x512x128_S1x256x128_1_0_0)) = K10 at e10 ⊢
  generalize (View.ld (iblk m c 3 t) (Rect.unit ![1, 256, 0] ![1, 256, 128] inb_S2x512x128_S1x256x128_1_256_0)) = V10 at e10 ⊢
  simp only [pay77_eq c10 K10 V10, pay78_eq c10 K10 V10, pay79_eq c10 K10 V10, pay80_eq c10 K10 V10, pay81_eq c10 K10 V10]
  have e11 := group11 m c t
  generalize (k0_pay71 (BitVec.ofNat 32 (grid0.coords t 0).val) (iblk m c 1 t)) = c11 at e11 ⊢
  generalize (View.ld (iblk m c 4 t) (Rect.unit ![1, 0, 0] ![1, 256, 512] inb_S2x512x512_S1x256x512_1_0_0)) = K11 at e11 ⊢
  generalize (View.ld (iblk m c 4 t) (Rect.unit ![1, 256, 0] ![1, 256, 512] inb_S2x512x512_S1x256x512_1_256_0)) = V11 at e11 ⊢
  simp only [pay96_eq c11 K11 V11, pay97_eq c11 K11 V11, pay98_eq c11 K11 V11, pay99_eq c11 K11 V11, pay100_eq c11 K11 V11]
  have e12 := group12 m c t
  generalize (k0_pay72 (BitVec.ofNat 32 (grid0.coords t 0).val) (iblk m c 2 t)) = c12 at e12 ⊢
  generalize (View.ld (iblk m c 5 t) (Rect.unit ![1, 0, 0] ![1, 256, 2048] inb_S2x512x2048_S1x256x2048_1_0_0)) = K12 at e12 ⊢
  generalize (View.ld (iblk m c 5 t) (Rect.unit ![1, 256, 0] ![1, 256, 2048] inb_S2x512x2048_S1x256x2048_1_256_0)) = V12 at e12 ⊢
  simp only [pay113_eq c12 K12 V12, pay114_eq c12 K12 V12, pay115_eq c12 K12 V12, pay116_eq c12 K12 V12, pay117_eq c12 K12 V12]
  simp only [pay17_eq, pay18_eq, pay19_eq, pay20_eq, pay21_eq, pay22_eq, pay23_eq, pay24_eq, pay25_eq, pay26_eq, pay27_eq, pay28_eq, pay29_eq, pay38_eq, pay39_eq, pay40_eq, pay41_eq, pay42_eq, pay43_eq, pay44_eq, pay45_eq, pay46_eq, pay47_eq, pay48_eq, pay58_eq, pay59_eq, pay60_eq, pay61_eq, pay62_eq, pay63_eq, pay64_eq, pay65_eq, pay66_eq]
  simp only [pay82_eq, pay83_eq, pay84_eq, pay85_eq, pay86_eq, pay87_eq, pay88_eq, pay89_eq, pay90_eq, pay91_eq, pay92_eq, pay93_eq, pay94_eq, pay95_eq, pay104_eq, pay105_eq, pay106_eq, pay107_eq, pay108_eq, pay109_eq, pay110_eq, pay111_eq, pay112_eq, pay119_eq, pay120_eq, pay121_eq, pay122_eq, pay123_eq, pay124_eq, pay125_eq, pay126_eq, pay127_eq, pay128_eq]
  rw [pay129_eq _ _ _ _ _ hi, pay68_eq _ _ _ hi, e00, e01, e02, e10, e11, e12]
  rfl

/-- What a step after the first leaves in the attention's block. -/
theorem step_B (c : Dev nD) (t : Fin cfg0.N) (y : S256x32.Idx) (h : ¬ t.val % 16 = 0) :
    (outsAt0 m c t.val t.isLt).2.2.2 y =
      if (y 1).val = 2 * (grid0.coords t 0).val + 1 then attnOf m c (req1 (grid0.coords t)) (y 0)
      else if (y 1).val = 2 * (grid0.coords t 0).val then attnOf m c (req0 (grid0.coords t)) (y 0)
      else (outsAt0 m c (t.val - 1) (Nat.lt_of_le_of_lt (Nat.sub_le _ _) t.isLt)).2.2.2 y := by
  have hi : (grid0.coords t 0).val < 16 := (grid0.coords t 0).isLt
  rw [outsAt0_B m c t h]
  dsimp only
  frame_out
  have e00 := group00 m c t
  generalize (k0_pay4 (grid0.coords t) (iblk m c 0 t)) = c00 at e00 ⊢
  generalize (View.ld (iblk m c 3 t) (Rect.unit ![0, 0, 0] ![1, 256, 128] inb_S2x512x128_S1x256x128_0_0_0)) = K00 at e00 ⊢
  generalize (View.ld (iblk m c 3 t) (Rect.unit ![0, 256, 0] ![1, 256, 128] inb_S2x512x128_S1x256x128_0_256_0)) = V00 at e00 ⊢
  simp only [pay13_eq c00 K00 V00, pay14_eq c00 K00 V00, pay15_eq c00 K00 V00, pay16_eq c00 K00 V00]
  have e01 := group01 m c t
  generalize (k0_pay5 (grid0.coords t) (iblk m c 1 t)) = c01 at e01 ⊢
  generalize (View.ld (iblk m c 4 t) (Rect.unit ![0, 0, 0] ![1, 256, 512] inb_S2x512x512_S1x256x512_0_0_0)) = K01 at e01 ⊢
  generalize (View.ld (iblk m c 4 t) (Rect.unit ![0, 256, 0] ![1, 256, 512] inb_S2x512x512_S1x256x512_0_256_0)) = V01 at e01 ⊢
  simp only [pay30_eq c01 K01 V01, pay31_eq c01 K01 V01, pay32_eq c01 K01 V01, pay33_eq c01 K01 V01, pay34_eq c01 K01 V01]
  have e02 := group02 m c t
  generalize (k0_pay6 (grid0.coords t) (iblk m c 2 t)) = c02 at e02 ⊢
  generalize (View.ld (iblk m c 5 t) (Rect.unit ![0, 0, 0] ![1, 256, 2048] inb_S2x512x2048_S1x256x2048_0_0_0)) = K02 at e02 ⊢
  generalize (View.ld (iblk m c 5 t) (Rect.unit ![0, 256, 0] ![1, 256, 2048] inb_S2x512x2048_S1x256x2048_0_256_0)) = V02 at e02 ⊢
  simp only [pay49_eq c02 K02 V02, pay50_eq c02 K02 V02, pay51_eq c02 K02 V02, pay52_eq c02 K02 V02, pay54_eq c02 K02 V02, pay55_eq c02 K02 V02, pay56_eq c02 K02 V02, pay57_eq c02 K02 V02]
  have e10 := group10 m c t
  generalize (k0_pay70 (BitVec.ofNat 32 (grid0.coords t 0).val) (iblk m c 0 t)) = c10 at e10 ⊢
  generalize (View.ld (iblk m c 3 t) (Rect.unit ![1, 0, 0] ![1, 256, 128] inb_S2x512x128_S1x256x128_1_0_0)) = K10 at e10 ⊢
  generalize (View.ld (iblk m c 3 t) (Rect.unit ![1, 256, 0] ![1, 256, 128] inb_S2x512x128_S1x256x128_1_256_0)) = V10 at e10 ⊢
  simp only [pay77_eq c10 K10 V10, pay78_eq c10 K10 V10, pay79_eq c10 K10 V10, pay80_eq c10 K10 V10, pay81_eq c10 K10 V10]
  have e11 := group11 m c t
  generalize (k0_pay71 (BitVec.ofNat 32 (grid0.coords t 0).val) (iblk m c 1 t)) = c11 at e11 ⊢
  generalize (View.ld (iblk m c 4 t) (Rect.unit ![1, 0, 0] ![1, 256, 512] inb_S2x512x512_S1x256x512_1_0_0)) = K11 at e11 ⊢
  generalize (View.ld (iblk m c 4 t) (Rect.unit ![1, 256, 0] ![1, 256, 512] inb_S2x512x512_S1x256x512_1_256_0)) = V11 at e11 ⊢
  simp only [pay96_eq c11 K11 V11, pay97_eq c11 K11 V11, pay98_eq c11 K11 V11, pay99_eq c11 K11 V11, pay100_eq c11 K11 V11]
  have e12 := group12 m c t
  generalize (k0_pay72 (BitVec.ofNat 32 (grid0.coords t 0).val) (iblk m c 2 t)) = c12 at e12 ⊢
  generalize (View.ld (iblk m c 5 t) (Rect.unit ![1, 0, 0] ![1, 256, 2048] inb_S2x512x2048_S1x256x2048_1_0_0)) = K12 at e12 ⊢
  generalize (View.ld (iblk m c 5 t) (Rect.unit ![1, 256, 0] ![1, 256, 2048] inb_S2x512x2048_S1x256x2048_1_256_0)) = V12 at e12 ⊢
  simp only [pay113_eq c12 K12 V12, pay114_eq c12 K12 V12, pay115_eq c12 K12 V12, pay116_eq c12 K12 V12, pay117_eq c12 K12 V12]
  simp only [pay17_eq, pay18_eq, pay19_eq, pay20_eq, pay21_eq, pay22_eq, pay23_eq, pay24_eq, pay25_eq, pay26_eq, pay27_eq, pay28_eq, pay29_eq, pay38_eq, pay39_eq, pay40_eq, pay41_eq, pay42_eq, pay43_eq, pay44_eq, pay45_eq, pay46_eq, pay47_eq, pay48_eq, pay58_eq, pay59_eq, pay60_eq, pay61_eq, pay62_eq, pay63_eq, pay64_eq, pay65_eq, pay66_eq]
  simp only [pay82_eq, pay83_eq, pay84_eq, pay85_eq, pay86_eq, pay87_eq, pay88_eq, pay89_eq, pay90_eq, pay91_eq, pay92_eq, pay93_eq, pay94_eq, pay95_eq, pay104_eq, pay105_eq, pay106_eq, pay107_eq, pay108_eq, pay109_eq, pay110_eq, pay111_eq, pay112_eq, pay119_eq, pay120_eq, pay121_eq, pay122_eq, pay123_eq, pay124_eq, pay125_eq, pay126_eq, pay127_eq, pay128_eq]
  rw [pay129_eq _ _ _ _ _ hi, pay68_eq _ _ _ hi, e00, e01, e02, e10, e11, e12]
  rfl

theorem coord0 : ∀ t : Fin cfg0.N, (grid0.coords t 0).val = t.val := by decide +kernel

/-- After step `n` the columns of the requests handled so far hold their attention. -/
theorem after_step (c : Dev nD) : ∀ (n : Nat) (hn : n < cfg0.N) (y : S256x32.Idx), (y 1).val < 2 * n + 2 →
    (outsAt0 m c n hn).2.2.2 y = attnOf m c (y 1) (y 0) := by
  intro n
  induction n with
  | zero =>
    intro hn y hy
    have e := step_A m c ⟨0, hn⟩ y rfl
    rw [coord0] at e
    refine e.trans ?_
    simp only [Nat.mul_zero] at hy ⊢
    by_cases a : (y 1).val = 1
    · rw [if_pos (by omega)]
      exact congrArg (fun n => attnOf m c n (y 0)) (Fin.ext (by show 2 * (grid0.coords ⟨0, hn⟩ 0).val + 1 = _; rw [coord0]; exact a.symm))
    · rw [if_neg (by omega), if_pos (by omega)]
      exact congrArg (fun n => attnOf m c n (y 0)) (Fin.ext (by show 2 * (grid0.coords ⟨0, hn⟩ 0).val = _; rw [coord0]; show 0 = (y 1).val; omega))
  | succ n ih =>
    intro hn y hy
    have h16 : n + 1 < 16 := hn
    have e := step_B m c ⟨n + 1, hn⟩ y (by show ¬ (n + 1) % 16 = 0; omega)
    rw [coord0] at e
    refine e.trans ?_
    show (if (y 1).val = 2 * (n + 1) + 1 then _ else if (y 1).val = 2 * (n + 1) then _ else _) = _
    by_cases a : (y 1).val = 2 * (n + 1) + 1
    · rw [if_pos a]
      exact congrArg (fun n => attnOf m c n (y 0)) (Fin.ext (by show 2 * (grid0.coords ⟨n + 1, hn⟩ 0).val + 1 = _; rw [coord0]; exact a.symm))
    · by_cases b : (y 1).val = 2 * (n + 1)
      · rw [if_neg a, if_pos b]
        exact congrArg (fun n => attnOf m c n (y 0)) (Fin.ext (by show 2 * (grid0.coords ⟨n + 1, hn⟩ 0).val = _; rw [coord0]; exact b.symm))
      · rw [if_neg a, if_neg b]
        exact ih (Nat.lt_of_succ_lt hn) y (by omega)

theorem idx9 : ∀ t : Fin cfg0.N, win0_9.index t = ![0, 0] := by decide +kernel

/-- The attention result after the run. -/
theorem final9 (c : Dev nD) : (dats m 0 c).arrAt 9 cfg0.N = fun y : S256x32.Idx => attnOf m c (y 1) (y 0) := by
  refine (dats m 0 c).arrAt_eq_of_covers 9 _ (by decide +kernel) fun t hf y => ?_
  blk_simp
  rw [after0_9]
  have e : t.val = 15 := by
    have : ∀ t : Fin cfg0.N, (cfg0.win 9).flush t = true → t.val = 15 := by decide +kernel
    exact this t hf
  have hy : (y 1).val < 32 := (y 1).isLt
  rw [after_step m c t.val t.isLt y (by omega)]
  congr 1 <;> exact Fin.ext (by blk_simp [idx9 t])

end Cert.Step
-- ==== Proof.RefAttn.lean ====
module

public import proofs.«01_k».proof.Proof.Gen.ReferenceIdeal.Run
public import proofs.«01_k».proof.Proof.Gen.ReferenceIdeal.Read
public import proofs.«01_k».proof.Proof.Attn

/-!
# What the reference computes

The reference joins the new token to the cache, takes every `dil`-th of the `W + 1` slots and attends to these 129.
Each theorem reads one array of the reference at an index.
-/

@[expose] public section
set_option maxRecDepth 16384
noncomputable section
namespace Cert.Step
open Cert.ReferenceIdeal Cert.ReferenceIdeal.Gen Cert.ReferenceIdeal.Read Idealize.ShloMosaic

namespace Grp
variable {W : Nat} (g : Grp W)
/-- The key of the `j`-th slot that counts; past the cache it is the new token's. -/
def rk (j : Fin 129) (r : Fin 256) : EReal := if h : g.dil * j.val < W then g.k r ⟨g.dil * j.val, h⟩ else g.nk r
/-- The value of the `j`-th slot that counts. -/
def rv (j : Fin 129) (r : Fin 256) : EReal := if h : g.dil * j.val < W then g.v r ⟨g.dil * j.val, h⟩ else g.nv r
/-- The score of the `j`-th slot that counts. -/
def rsc (h : Fin 4) (j : Fin 129) : EReal := hsum (fun r => g.q r * g.rk j r) h
/-- The greatest score. -/
def rmx (h : Fin 4) : EReal := Finset.univ.fold max ⊥ (fun j => g.rsc h j)
/-- The weight of a slot before division. -/
def re (h : Fin 4) (j : Fin 129) : EReal := Ideal.exp (g.rsc h j - g.rmx h)
/-- The sum of the weights. -/
def rden (h : Fin 4) : EReal := ∑ j, g.re h j
/-- The output. -/
def rout (r : Fin 256) : EReal := ∑ j, Ideal.div (g.re (hd r) j) (g.rden (hd r)) * g.rv j r
/-- The log of the sum of exponentials. -/
def rls (h : Fin 4) : EReal := g.rmx h + Ideal.log (g.rden h)
end Grp

/-- The row of a head's lane. -/
def row (h : Fin 4) (d : Fin 64) : Fin 256 := ⟨64 * h.val + d.val, by omega⟩
/-- The head of a row of a head. -/
theorem hd_row (h : Fin 4) (d : Fin 64) : hd (row h d) = h := Fin.ext (by simp only [hd, row]; omega)
/-- The output at a lane of a head. -/
theorem Grp.rout_row {W : Nat} (g : Grp W) (h : Fin 4) (d : Fin 64) :
    g.rout (row h d) = ∑ j, Ideal.div (g.re h j) (g.rden h) * g.rv j (row h d) := by
  unfold Grp.rout
  rw [hd_row]
/-- The bits the maximum begins with are minus infinity. -/
theorem bot_bits : Ideal.ofBits .f32 4286578688#32 = ⊥ := by decide
/-- The bits the sum begins with are zero. -/
theorem zero_bits : Ideal.ofBits .f32 0#32 = 0 := Ideal.ofBits_zero_f32

/-- The queries of group 0. -/
theorem r0_q (x0 : Vec Ideal S768x32 .f32) (x3 : Vec Ideal S1x32x128x2x4x64 .f32) (y : S32x4x64.Idx) : val_main_v8 (F := Ideal) x0 y = (grpAt 1 x0 x3 (y 0)).q (row (y 1) (y 2)) := by
  unfold val_main_v8 val_main_v7 val_main_v1 val_main_v0
  pointwise
  simp only [grpAt, row]
  congr 2
  exact Fin.ext (by simp only []; omega)

/-- The keys of group 0. -/
theorem r0_k (x0 : Vec Ideal S768x32 .f32) (x3 : Vec Ideal S1x32x128x2x4x64 .f32) (y : S32x129x4x64.Idx) :
    val_main_v10 (F := Ideal) x0 x3 y = (grpAt 1 x0 x3 (y 0)).rk (y 1) (row (y 2) (y 3)) := by
  unfold val_main_v10 val_main_v9 val_main_v5 val_main_v4 val_main_v3 val_main_v2 val_main_v1 val_main_v0
  pointwise
  have b1 : (y 1).val < 129 := (y 1).isLt
  have b2 : (y 2).val < 4 := (y 2).isLt
  have b3 : (y 3).val < 64 := (y 3).isLt
  by_cases h : 1 * (y 1).val < 128
  · refine (dif_pos (by omega)).trans (Eq.trans ?_ (dif_pos h).symm)
    refine congrArg x3 ?_
    unfold cacheIdx row
    congr 1 <;> exact Fin.ext (by simp [grpAt]; try omega)
  · refine (dif_neg (by omega)).trans (Eq.trans ?_ (dif_neg h).symm)
    refine congrArg x0 ?_
    unfold row
    congr 1
    exact Fin.ext (by simp [grpAt]; try omega)

/-- The values of group 0. -/
theorem r0_v (x0 : Vec Ideal S768x32 .f32) (x3 : Vec Ideal S1x32x128x2x4x64 .f32) (y : S32x129x4x64.Idx) :
    val_main_v12 (F := Ideal) x0 x3 y = (grpAt 1 x0 x3 (y 0)).rv (y 1) (row (y 2) (y 3)) := by
  unfold val_main_v12 val_main_v11 val_main_v5 val_main_v4 val_main_v3 val_main_v2 val_main_v1 val_main_v0
  pointwise
  have b1 : (y 1).val < 129 := (y 1).isLt
  have b2 : (y 2).val < 4 := (y 2).isLt
  have b3 : (y 3).val < 64 := (y 3).isLt
  by_cases h : 1 * (y 1).val < 128
  · refine (dif_pos (by omega)).trans (Eq.trans ?_ (dif_pos h).symm)
    refine congrArg x3 ?_
    unfold cacheIdx row
    congr 1 <;> exact Fin.ext (by simp [grpAt]; try omega)
  · refine (dif_neg (by omega)).trans (Eq.trans ?_ (dif_neg h).symm)
    refine congrArg x0 ?_
    unfold row
    congr 1
    exact Fin.ext (by simp [grpAt]; try omega)

/-- The scores of group 0. -/
theorem r0_sc (x0 : Vec Ideal S768x32 .f32) (x3 : Vec Ideal S1x32x128x2x4x64 .f32) (y : S32x4x129.Idx) :
    val_main_v13 (F := Ideal) x0 x3 y = (grpAt 1 x0 x3 (y 0)).rsc (y 1) (y 2) := by
  unfold val_main_v13
  pointwise
  simp only [r0_q x0 x3, r0_k]
  rfl

/-- The greatest score of group 0. -/
theorem r0_mx (x0 : Vec Ideal S768x32 .f32) (x3 : Vec Ideal S1x32x128x2x4x64 .f32) (y : S32x4.Idx) :
    val_main_v14 (F := Ideal) x0 x3 y = (grpAt 1 x0 x3 (y 0)).rmx (y 1) := by
  unfold val_main_v14
  pointwise
  simp only [r0_sc]
  exact congrArg (fun b => Finset.fold max b (fun j => (grpAt 1 x0 x3 (y 0)).rsc (y 1) j) Finset.univ) (bot_bits)

/-- The weights before division of group 0. -/
theorem r0_e (x0 : Vec Ideal S768x32 .f32) (x3 : Vec Ideal S1x32x128x2x4x64 .f32) (y : S32x4x129.Idx) :
    val_main_v18 (F := Ideal) x0 x3 y = (grpAt 1 x0 x3 (y 0)).re (y 1) (y 2) := by
  unfold val_main_v18 val_main_v17 val_main_v16 val_main_v15
  pointwise
  simp only [r0_sc, r0_mx]
  rfl

/-- The sum of the weights of group 0. -/
theorem r0_den (x0 : Vec Ideal S768x32 .f32) (x3 : Vec Ideal S1x32x128x2x4x64 .f32) (y : S32x4.Idx) :
    val_main_v19 (F := Ideal) x0 x3 y = (grpAt 1 x0 x3 (y 0)).rden (y 1) := by
  unfold val_main_v19
  pointwise
  simp only [r0_e]
  exact (congrArg (· + _) zero_bits).trans (zero_add _)

/-- The log of the sum of exponentials of group 0. -/
theorem r0_ls (x0 : Vec Ideal S768x32 .f32) (x3 : Vec Ideal S1x32x128x2x4x64 .f32) (y : S32x4.Idx) :
    val_main_v25 (F := Ideal) x0 x3 y = (grpAt 1 x0 x3 (y 0)).rls (y 1) := by
  unfold val_main_v25 val_main_v24 val_main_v23 val_main_v20 val_main_v15
  pointwise
  simp only [r0_mx, r0_den]
  rfl

/-- The output of group 0. -/
theorem r0_out (x0 : Vec Ideal S768x32 .f32) (x3 : Vec Ideal S1x32x128x2x4x64 .f32) (y : S32x4x64.Idx) :
    val_main_v26 (F := Ideal) x0 x3 y = (grpAt 1 x0 x3 (y 0)).rout (row (y 1) (y 2)) := by
  unfold val_main_v26 val_main_v22 val_main_v21 val_main_v20
  pointwise
  simp only [r0_e, r0_den, r0_v]
  exact ((grpAt 1 x0 x3 (y 0)).rout_row _ _).symm

/-- The queries of group 1. -/
theorem r1_q (x1 : Vec Ideal S768x32 .f32) (x4 : Vec Ideal S1x32x512x2x4x64 .f32) (y : S32x4x64.Idx) : val_main_v35 (F := Ideal) x1 y = (grpAt 4 x1 x4 (y 0)).q (row (y 1) (y 2)) := by
  unfold val_main_v35 val_main_v34 val_main_v28 val_main_v27
  pointwise
  simp only [grpAt, row]
  congr 2
  exact Fin.ext (by simp only []; omega)

/-- The keys of group 1. -/
theorem r1_k (x1 : Vec Ideal S768x32 .f32) (x4 : Vec Ideal S1x32x512x2x4x64 .f32) (y : S32x129x4x64.Idx) :
    val_main_v37 (F := Ideal) x1 x4 y = (grpAt 4 x1 x4 (y 0)).rk (y 1) (row (y 2) (y 3)) := by
  unfold val_main_v37 val_main_v36 val_main_v32 val_main_v31 val_main_v30 val_main_v29 val_main_v28 val_main_v27
  pointwise
  have b1 : (y 1).val < 129 := (y 1).isLt
  have b2 : (y 2).val < 4 := (y 2).isLt
  have b3 : (y 3).val < 64 := (y 3).isLt
  by_cases h : 4 * (y 1).val < 512
  · refine (dif_pos (by omega)).trans (Eq.trans ?_ (dif_pos h).symm)
    refine congrArg x4 ?_
    unfold cacheIdx row
    congr 1 <;> exact Fin.ext (by simp [grpAt]; try omega)
  · refine (dif_neg (by omega)).trans (Eq.trans ?_ (dif_neg h).symm)
    refine congrArg x1 ?_
    unfold row
    congr 1
    exact Fin.ext (by simp [grpAt]; try omega)

/-- The values of group 1. -/
theorem r1_v (x1 : Vec Ideal S768x32 .f32) (x4 : Vec Ideal S1x32x512x2x4x64 .f32) (y : S32x129x4x64.Idx) :
    val_main_v39 (F := Ideal) x1 x4 y = (grpAt 4 x1 x4 (y 0)).rv (y 1) (row (y 2) (y 3)) := by
  unfold val_main_v39 val_main_v38 val_main_v32 val_main_v31 val_main_v30 val_main_v29 val_main_v28 val_main_v27
  pointwise
  have b1 : (y 1).val < 129 := (y 1).isLt
  have b2 : (y 2).val < 4 := (y 2).isLt
  have b3 : (y 3).val < 64 := (y 3).isLt
  by_cases h : 4 * (y 1).val < 512
  · refine (dif_pos (by omega)).trans (Eq.trans ?_ (dif_pos h).symm)
    refine congrArg x4 ?_
    unfold cacheIdx row
    congr 1 <;> exact Fin.ext (by simp [grpAt]; try omega)
  · refine (dif_neg (by omega)).trans (Eq.trans ?_ (dif_neg h).symm)
    refine congrArg x1 ?_
    unfold row
    congr 1
    exact Fin.ext (by simp [grpAt]; try omega)

/-- The scores of group 1. -/
theorem r1_sc (x1 : Vec Ideal S768x32 .f32) (x4 : Vec Ideal S1x32x512x2x4x64 .f32) (y : S32x4x129.Idx) :
    val_main_v40 (F := Ideal) x1 x4 y = (grpAt 4 x1 x4 (y 0)).rsc (y 1) (y 2) := by
  unfold val_main_v40
  pointwise
  simp only [r1_q x1 x4, r1_k]
  rfl

/-- The greatest score of group 1. -/
theorem r1_mx (x1 : Vec Ideal S768x32 .f32) (x4 : Vec Ideal S1x32x512x2x4x64 .f32) (y : S32x4.Idx) :
    val_main_v41 (F := Ideal) x1 x4 y = (grpAt 4 x1 x4 (y 0)).rmx (y 1) := by
  unfold val_main_v41
  pointwise
  simp only [r1_sc]
  exact congrArg (fun b => Finset.fold max b (fun j => (grpAt 4 x1 x4 (y 0)).rsc (y 1) j) Finset.univ) (bot_bits)

/-- The weights before division of group 1. -/
theorem r1_e (x1 : Vec Ideal S768x32 .f32) (x4 : Vec Ideal S1x32x512x2x4x64 .f32) (y : S32x4x129.Idx) :
    val_main_v45 (F := Ideal) x1 x4 y = (grpAt 4 x1 x4 (y 0)).re (y 1) (y 2) := by
  unfold val_main_v45 val_main_v44 val_main_v43 val_main_v42
  pointwise
  simp only [r1_sc, r1_mx]
  rfl

/-- The sum of the weights of group 1. -/
theorem r1_den (x1 : Vec Ideal S768x32 .f32) (x4 : Vec Ideal S1x32x512x2x4x64 .f32) (y : S32x4.Idx) :
    val_main_v46 (F := Ideal) x1 x4 y = (grpAt 4 x1 x4 (y 0)).rden (y 1) := by
  unfold val_main_v46
  pointwise
  simp only [r1_e]
  exact (congrArg (· + _) zero_bits).trans (zero_add _)

/-- The log of the sum of exponentials of group 1. -/
theorem r1_ls (x1 : Vec Ideal S768x32 .f32) (x4 : Vec Ideal S1x32x512x2x4x64 .f32) (y : S32x4.Idx) :
    val_main_v52 (F := Ideal) x1 x4 y = (grpAt 4 x1 x4 (y 0)).rls (y 1) := by
  unfold val_main_v52 val_main_v51 val_main_v50 val_main_v47 val_main_v42
  pointwise
  simp only [r1_mx, r1_den]
  rfl

/-- The output of group 1. -/
theorem r1_out (x1 : Vec Ideal S768x32 .f32) (x4 : Vec Ideal S1x32x512x2x4x64 .f32) (y : S32x4x64.Idx) :
    val_main_v53 (F := Ideal) x1 x4 y = (grpAt 4 x1 x4 (y 0)).rout (row (y 1) (y 2)) := by
  unfold val_main_v53 val_main_v49 val_main_v48 val_main_v47
  pointwise
  simp only [r1_e, r1_den, r1_v]
  exact ((grpAt 4 x1 x4 (y 0)).rout_row _ _).symm

/-- The queries of group 2. -/
theorem r2_q (x2 : Vec Ideal S768x32 .f32) (x5 : Vec Ideal S1x32x2048x2x4x64 .f32) (y : S32x4x64.Idx) : val_main_v62 (F := Ideal) x2 y = (grpAt 16 x2 x5 (y 0)).q (row (y 1) (y 2)) := by
  unfold val_main_v62 val_main_v61 val_main_v55 val_main_v54
  pointwise
  simp only [grpAt, row]
  congr 2
  exact Fin.ext (by simp only []; omega)

/-- The keys of group 2. -/
theorem r2_k (x2 : Vec Ideal S768x32 .f32) (x5 : Vec Ideal S1x32x2048x2x4x64 .f32) (y : S32x129x4x64.Idx) :
    val_main_v64 (F := Ideal) x2 x5 y = (grpAt 16 x2 x5 (y 0)).rk (y 1) (row (y 2) (y 3)) := by
  unfold val_main_v64 val_main_v63 val_main_v59 val_main_v58 val_main_v57 val_main_v56 val_main_v55 val_main_v54
  pointwise
  have b1 : (y 1).val < 129 := (y 1).isLt
  have b2 : (y 2).val < 4 := (y 2).isLt
  have b3 : (y 3).val < 64 := (y 3).isLt
  by_cases h : 16 * (y 1).val < 2048
  · refine (dif_pos (by omega)).trans (Eq.trans ?_ (dif_pos h).symm)
    refine congrArg x5 ?_
    unfold cacheIdx row
    congr 1 <;> exact Fin.ext (by simp [grpAt]; try omega)
  · refine (dif_neg (by omega)).trans (Eq.trans ?_ (dif_neg h).symm)
    refine congrArg x2 ?_
    unfold row
    congr 1
    exact Fin.ext (by simp [grpAt]; try omega)

/-- The values of group 2. -/
theorem r2_v (x2 : Vec Ideal S768x32 .f32) (x5 : Vec Ideal S1x32x2048x2x4x64 .f32) (y : S32x129x4x64.Idx) :
    val_main_v66 (F := Ideal) x2 x5 y = (grpAt 16 x2 x5 (y 0)).rv (y 1) (row (y 2) (y 3)) := by
  unfold val_main_v66 val_main_v65 val_main_v59 val_main_v58 val_main_v57 val_main_v56 val_main_v55 val_main_v54
  pointwise
  have b1 : (y 1).val < 129 := (y 1).isLt
  have b2 : (y 2).val < 4 := (y 2).isLt
  have b3 : (y 3).val < 64 := (y 3).isLt
  by_cases h : 16 * (y 1).val < 2048
  · refine (dif_pos (by omega)).trans (Eq.trans ?_ (dif_pos h).symm)
    refine congrArg x5 ?_
    unfold cacheIdx row
    congr 1 <;> exact Fin.ext (by simp [grpAt]; try omega)
  · refine (dif_neg (by omega)).trans (Eq.trans ?_ (dif_neg h).symm)
    refine congrArg x2 ?_
    unfold row
    congr 1
    exact Fin.ext (by simp [grpAt]; try omega)

/-- The scores of group 2. -/
theorem r2_sc (x2 : Vec Ideal S768x32 .f32) (x5 : Vec Ideal S1x32x2048x2x4x64 .f32) (y : S32x4x129.Idx) :
    val_main_v67 (F := Ideal) x2 x5 y = (grpAt 16 x2 x5 (y 0)).rsc (y 1) (y 2) := by
  unfold val_main_v67
  pointwise
  simp only [r2_q x2 x5, r2_k]
  rfl

/-- The greatest score of group 2. -/
theorem r2_mx (x2 : Vec Ideal S768x32 .f32) (x5 : Vec Ideal S1x32x2048x2x4x64 .f32) (y : S32x4.Idx) :
    val_main_v68 (F := Ideal) x2 x5 y = (grpAt 16 x2 x5 (y 0)).rmx (y 1) := by
  unfold val_main_v68
  pointwise
  simp only [r2_sc]
  exact congrArg (fun b => Finset.fold max b (fun j => (grpAt 16 x2 x5 (y 0)).rsc (y 1) j) Finset.univ) (bot_bits)

/-- The weights before division of group 2. -/
theorem r2_e (x2 : Vec Ideal S768x32 .f32) (x5 : Vec Ideal S1x32x2048x2x4x64 .f32) (y : S32x4x129.Idx) :
    val_main_v72 (F := Ideal) x2 x5 y = (grpAt 16 x2 x5 (y 0)).re (y 1) (y 2) := by
  unfold val_main_v72 val_main_v71 val_main_v70 val_main_v69
  pointwise
  simp only [r2_sc, r2_mx]
  rfl

/-- The sum of the weights of group 2. -/
theorem r2_den (x2 : Vec Ideal S768x32 .f32) (x5 : Vec Ideal S1x32x2048x2x4x64 .f32) (y : S32x4.Idx) :
    val_main_v73 (F := Ideal) x2 x5 y = (grpAt 16 x2 x5 (y 0)).rden (y 1) := by
  unfold val_main_v73
  pointwise
  simp only [r2_e]
  exact (congrArg (· + _) zero_bits).trans (zero_add _)

/-- The log of the sum of exponentials of group 2. -/
theorem r2_ls (x2 : Vec Ideal S768x32 .f32) (x5 : Vec Ideal S1x32x2048x2x4x64 .f32) (y : S32x4.Idx) :
    val_main_v79 (F := Ideal) x2 x5 y = (grpAt 16 x2 x5 (y 0)).rls (y 1) := by
  unfold val_main_v79 val_main_v78 val_main_v77 val_main_v74 val_main_v69
  pointwise
  simp only [r2_mx, r2_den]
  rfl

/-- The output of group 2. -/
theorem r2_out (x2 : Vec Ideal S768x32 .f32) (x5 : Vec Ideal S1x32x2048x2x4x64 .f32) (y : S32x4x64.Idx) :
    val_main_v80 (F := Ideal) x2 x5 y = (grpAt 16 x2 x5 (y 0)).rout (row (y 1) (y 2)) := by
  unfold val_main_v80 val_main_v76 val_main_v75 val_main_v74
  pointwise
  simp only [r2_e, r2_den, r2_v]
  exact ((grpAt 16 x2 x5 (y 0)).rout_row _ _).symm

/-- The first, the second or the third. -/
def pick (a b c : EReal) (x : Fin 3) : EReal := if h : x.val < 1 then a else if h : x.val - 1 < 1 then b else c
/-- The greatest of the three. -/
def top3 (l : Fin 3 → EReal) : EReal := max ⊥ (Finset.univ.fold max ⊥ l)
/-- The three outputs joined with the softmax of the three logs. -/
def rmerge (o l : Fin 3 → EReal) : EReal :=
  ∑ g, Ideal.div (Ideal.exp (l g - top3 l)) (∑ g', Ideal.exp (l g' - top3 l)) * o g

/-- The greatest of the three logs. -/
theorem rt_max (x0 : Vec Ideal S768x32 .f32) (x1 : Vec Ideal S768x32 .f32) (x2 : Vec Ideal S768x32 .f32) (x3 : Vec Ideal S1x32x128x2x4x64 .f32) (x4 : Vec Ideal S1x32x512x2x4x64 .f32) (x5 : Vec Ideal S1x32x2048x2x4x64 .f32) (y : S32x4.Idx) : val_main_v87 (F := Ideal) x0 x1 x2 x3 x4 x5 y = top3 (pick ((grpAt 1 x0 x3 (y 0)).rls (y 1)) ((grpAt 4 x1 x4 (y 0)).rls (y 1)) ((grpAt 16 x2 x5 (y 0)).rls (y 1))) := by
  unfold val_main_v87 val_main_v86 val_main_v85 val_main_v84 val_main_v83 val_main_v82 val_main_v81
  pointwise
  simp only [r0_ls, r1_ls, r2_ls]
  exact congrArg₂ (fun a b => max a (Finset.fold max b (pick ((grpAt 1 x0 x3 (y 0)).rls (y 1)) ((grpAt 4 x1 x4 (y 0)).rls (y 1)) ((grpAt 16 x2 x5 (y 0)).rls (y 1))) Finset.univ)) bot_bits bot_bits
/-- The exponentials of the softmax over the groups. -/
theorem rt_e (x0 : Vec Ideal S768x32 .f32) (x1 : Vec Ideal S768x32 .f32) (x2 : Vec Ideal S768x32 .f32) (x3 : Vec Ideal S1x32x128x2x4x64 .f32) (x4 : Vec Ideal S1x32x512x2x4x64 .f32) (x5 : Vec Ideal S1x32x2048x2x4x64 .f32) (y : S3x32x4.Idx) : val_main_v91 (F := Ideal) x0 x1 x2 x3 x4 x5 y
    = Ideal.exp ((pick ((grpAt 1 x0 x3 (y 1)).rls (y 2)) ((grpAt 4 x1 x4 (y 1)).rls (y 2)) ((grpAt 16 x2 x5 (y 1)).rls (y 2))) (y 0) - top3 (pick ((grpAt 1 x0 x3 (y 1)).rls (y 2)) ((grpAt 4 x1 x4 (y 1)).rls (y 2)) ((grpAt 16 x2 x5 (y 1)).rls (y 2)))) := by
  unfold val_main_v91 val_main_v90 val_main_v89 val_main_v88 val_main_v84 val_main_v83 val_main_v82 val_main_v81
  pointwise
  simp only [r0_ls, r1_ls, r2_ls, rt_max]
  rfl
/-- The softmax over the groups. -/
theorem rt_w (x0 : Vec Ideal S768x32 .f32) (x1 : Vec Ideal S768x32 .f32) (x2 : Vec Ideal S768x32 .f32) (x3 : Vec Ideal S1x32x128x2x4x64 .f32) (x4 : Vec Ideal S1x32x512x2x4x64 .f32) (x5 : Vec Ideal S1x32x2048x2x4x64 .f32) (y : S3x32x4.Idx) : val_main_v95 (F := Ideal) x0 x1 x2 x3 x4 x5 y
    = Ideal.div (Ideal.exp ((pick ((grpAt 1 x0 x3 (y 1)).rls (y 2)) ((grpAt 4 x1 x4 (y 1)).rls (y 2)) ((grpAt 16 x2 x5 (y 1)).rls (y 2))) (y 0) - top3 (pick ((grpAt 1 x0 x3 (y 1)).rls (y 2)) ((grpAt 4 x1 x4 (y 1)).rls (y 2)) ((grpAt 16 x2 x5 (y 1)).rls (y 2)))))
        (∑ g, Ideal.exp ((pick ((grpAt 1 x0 x3 (y 1)).rls (y 2)) ((grpAt 4 x1 x4 (y 1)).rls (y 2)) ((grpAt 16 x2 x5 (y 1)).rls (y 2))) g - top3 (pick ((grpAt 1 x0 x3 (y 1)).rls (y 2)) ((grpAt 4 x1 x4 (y 1)).rls (y 2)) ((grpAt 16 x2 x5 (y 1)).rls (y 2))))) := by
  unfold val_main_v95 val_main_v94 val_main_v93 val_main_v92
  pointwise
  simp only [rt_e]
  exact congrArg (Ideal.div _) ((congrArg (· + _) zero_bits).trans (zero_add _))
/-- A row is the row of its head and lane. -/
theorem row_hd (r : Fin 256) : row ⟨r.val / 64, by omega⟩ ⟨r.val % 64, by omega⟩ = r := Fin.ext (by simp only [row]; omega)
/-- The attention the reference computes. -/
theorem rt (x0 : Vec Ideal S768x32 .f32) (x1 : Vec Ideal S768x32 .f32) (x2 : Vec Ideal S768x32 .f32) (x3 : Vec Ideal S1x32x128x2x4x64 .f32) (x4 : Vec Ideal S1x32x512x2x4x64 .f32) (x5 : Vec Ideal S1x32x2048x2x4x64 .f32) (y : S256x32.Idx) : val_main_v108 (F := Ideal) x0 x1 x2 x3 x4 x5 y
    = rmerge (pick ((grpAt 1 x0 x3 (y 1)).rout (y 0)) ((grpAt 4 x1 x4 (y 1)).rout (y 0)) ((grpAt 16 x2 x5 (y 1)).rout (y 0)))
        (pick ((grpAt 1 x0 x3 (y 1)).rls (hd (y 0))) ((grpAt 4 x1 x4 (y 1)).rls (hd (y 0))) ((grpAt 16 x2 x5 (y 1)).rls (hd (y 0)))) := by
  unfold val_main_v108 val_main_v107 val_main_v100 val_main_v99 val_main_v98 val_main_v97 val_main_v96
  pointwise
  simp only [r0_out, r1_out, r2_out, rt_w]
  have e := row_hd (y 0)
  unfold rmerge
  refine Finset.sum_congr rfl fun g _ => ?_
  refine congrArg₂ (· * ·) rfl ?_
  unfold pick
  refine dite_congr rfl (fun _ => ?_) fun _ => dite_congr rfl (fun _ => ?_) fun _ => ?_ <;> exact congrArg _ e

/-- The new window of group 0. -/
theorem rw0 (x : Vec Ideal S768x32 .f32) (cc : Vec Ideal S1x32x128x2x4x64 .f32) :
    val_main_v102 (F := Ideal) x cc = newWindow x cc := by
  funext y
  unfold val_main_v102 val_main_v101 val_main_v6 val_main_v5 val_main_v4 val_main_v3 val_main_v2 val_main_v1 val_main_v0
  pointwise
  have b0 : (y 0).val < 32 := (y 0).isLt
  have b1 : (y 1).val < 512 := (y 1).isLt
  by_cases h : (y 2).val + 1 < 128
  · refine (dif_pos (by omega)).trans (Eq.trans ?_ (dif_pos h).symm)
    refine congrArg cc ?_
    unfold cacheIdx
    congr 1 <;> exact Fin.ext (by simp; try omega)
  · refine (dif_neg (by omega)).trans (Eq.trans ?_ (dif_neg h).symm)
    refine congrArg x ?_
    congr 1
    exact Fin.ext (by simp; try omega)

/-- The new window of group 1. -/
theorem rw1 (x : Vec Ideal S768x32 .f32) (cc : Vec Ideal S1x32x512x2x4x64 .f32) :
    val_main_v104 (F := Ideal) x cc = newWindow x cc := by
  funext y
  unfold val_main_v104 val_main_v103 val_main_v33 val_main_v32 val_main_v31 val_main_v30 val_main_v29 val_main_v28 val_main_v27
  pointwise
  have b0 : (y 0).val < 32 := (y 0).isLt
  have b1 : (y 1).val < 512 := (y 1).isLt
  by_cases h : (y 2).val + 1 < 512
  · refine (dif_pos (by omega)).trans (Eq.trans ?_ (dif_pos h).symm)
    refine congrArg cc ?_
    unfold cacheIdx
    congr 1 <;> exact Fin.ext (by simp; try omega)
  · refine (dif_neg (by omega)).trans (Eq.trans ?_ (dif_neg h).symm)
    refine congrArg x ?_
    congr 1
    exact Fin.ext (by simp; try omega)

/-- The new window of group 2. -/
theorem rw2 (x : Vec Ideal S768x32 .f32) (cc : Vec Ideal S1x32x2048x2x4x64 .f32) :
    val_main_v106 (F := Ideal) x cc = newWindow x cc := by
  funext y
  unfold val_main_v106 val_main_v105 val_main_v60 val_main_v59 val_main_v58 val_main_v57 val_main_v56 val_main_v55 val_main_v54
  pointwise
  have b0 : (y 0).val < 32 := (y 0).isLt
  have b1 : (y 1).val < 512 := (y 1).isLt
  by_cases h : (y 2).val + 1 < 2048
  · refine (dif_pos (by omega)).trans (Eq.trans ?_ (dif_pos h).symm)
    refine congrArg cc ?_
    unfold cacheIdx
    congr 1 <;> exact Fin.ext (by simp; try omega)
  · refine (dif_neg (by omega)).trans (Eq.trans ?_ (dif_neg h).symm)
    refine congrArg x ?_
    congr 1
    exact Fin.ext (by simp; try omega)

end Cert.Step
-- ==== Proof.Softmax.lean ====
module

public import proofs.«01_k».proof.Proof.RefAttn

/-!
# Masked lanes and chosen slots give one softmax

The kernel scores every slot of the cache and masks the ones that do not count; the reference takes the ones that count.
The two agree when queries and keys are finite: a masked slot weighs nothing, and every sum of weights is a positive real.
-/

@[expose] public section
noncomputable section
namespace Cert.Step
open Idealize.ShloMosaic

/-- The number is real. -/
def IsR (x : EReal) : Prop := ∃ a : ℝ, x = a
/-- The number is real and positive. -/
def IsPos (x : EReal) : Prop := ∃ a : ℝ, 0 < a ∧ x = a

theorem IsPos.isR {x : EReal} (h : IsPos x) : IsR x := by obtain ⟨a, _, e⟩ := h; exact ⟨a, e⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  rcases max_choice x y with h | h <;> rw [h] <;> assumption
/-- A sum of reals is real. -/
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih
/-- The exponential of a real is positive. -/
theorem IsR.exp {x : EReal} (hx : IsR x) : IsPos (Ideal.exp x) := by
  obtain ⟨a, rfl⟩ := hx; exact ⟨Real.exp a, Real.exp_pos a, rfl⟩
theorem IsPos.add {x y : EReal} (hx : IsPos x) (hy : IsPos y) : IsPos (x + y) := by
  obtain ⟨a, ha, rfl⟩ := hx; obtain ⟨b, hb, rfl⟩ := hy; exact ⟨a + b, add_pos ha hb, (EReal.coe_add a b).symm⟩
/-- A sum of positive reals is a positive real. -/
theorem IsPos.sum {n : Nat} (f : Fin (n + 1) → EReal) (h : ∀ i, IsPos (f i)) : IsPos (∑ i, f i) := by
  induction n with
  | zero => simpa using h 0
  | succ n ih => rw [Fin.sum_univ_castSucc]; exact (ih (fun i => f i.castSucc) fun i => h _).add (h _)
/-- The logarithm of a positive real is real. -/
theorem IsPos.log {x : EReal} (hx : IsPos x) : IsR (Ideal.log x) := by
  obtain ⟨a, ha, rfl⟩ := hx; exact ⟨Real.log a, by rw [Ideal.log_coe, if_neg (not_le.mpr ha)]⟩
/-- The maximum of a nonempty family of reals is real. -/
theorem IsR.fold {n : Nat} (f : Fin (n + 1) → EReal) (h : ∀ i, IsR (f i)) : IsR (Finset.univ.fold Max.max ⊥ f) := by
  have e : Finset.univ.fold Max.max ⊥ f = Finset.univ.sup f := rfl
  obtain ⟨i, -, hi⟩ := Finset.exists_mem_eq_sup Finset.univ ⟨0, Finset.mem_univ 0⟩ f
  rw [e, hi]
  exact h i

/-- Division by a positive real goes into a sum, whatever the terms are. -/
theorem sum_div {ι : Type} (s : Finset ι) (f o : ι → EReal) {d : EReal} (hd : IsPos d) :
    ∑ i ∈ s, Ideal.div (f i) d * o i = Ideal.div (∑ i ∈ s, f i * o i) d := by
  obtain ⟨a, ha, rfl⟩ := hd
  classical
  simp only [Ideal.div_coe ha.ne']
  have hc : (0 : ℝ) ≤ 1 / a := by positivity
  generalize (1 / a : ℝ) = c at hc
  induction s using Finset.induction_on with
  | empty => simp
  | insert i s hi ih =>
    rw [Finset.sum_insert hi, Finset.sum_insert hi, ih, mul_comm (f i * o i + _),
      EReal.left_distrib_of_nonneg_of_ne_top (EReal.coe_nonneg.mpr hc) (EReal.coe_ne_top c)]
    congr 1
    · rw [mul_comm (f i) (c : EReal), mul_assoc]
    · exact mul_comm _ _

namespace Grp
variable {W : Nat} (g : Grp W)

/-- Queries and keys are finite. -/
structure Fin' : Prop where
  q : ∀ r, IsR (g.q r)
  nk : ∀ r, IsR (g.nk r)
  k : ∀ r l, IsR (g.k r l)

variable {g}

theorem isR_rsc (hg : g.Fin') (h : Fin 4) (j : Fin 129) : IsR (g.rsc h j) := by
  unfold rsc hsum
  refine IsR.sum _ _ fun d => ?_
  show IsR (_ * _)
  refine (hg.q _).mul ?_
  unfold rk
  split
  · exact hg.k _ _
  · exact hg.nk _
theorem isR_rmx (hg : g.Fin') (h : Fin 4) : IsR (g.rmx h) := IsR.fold _ (isR_rsc hg h)
theorem isPos_re (hg : g.Fin') (h : Fin 4) (j : Fin 129) : IsPos (g.re h j) := ((isR_rsc hg h j).sub (isR_rmx hg h)).exp
theorem isPos_rden (hg : g.Fin') (h : Fin 4) : IsPos (g.rden h) := IsPos.sum _ (isPos_re hg h)
theorem isR_rls (hg : g.Fin') (h : Fin 4) : IsR (g.rls h) := (isR_rmx hg h).add (isPos_rden hg h).log

variable (hW : W = g.dil * 128) (hd0 : 0 < g.dil)
include hW hd0

/-- The slot of the cache that the `j`-th slot that counts is. -/
def slot (g : Grp W) (hW : W = g.dil * 128) (hd0 : 0 < g.dil) (j : Fin 128) : Fin W :=
  ⟨g.dil * j.val, lt_of_lt_of_eq (Nat.mul_lt_mul_of_pos_left j.isLt hd0) hW.symm⟩

theorem slot_inj : Function.Injective (slot g hW hd0) := fun a b e => by
  have : g.dil * a.val = g.dil * b.val := congrArg Fin.val e
  exact Fin.ext (Nat.eq_of_mul_eq_mul_left hd0 this)

theorem not_slot (l : Fin W) (h : ∀ j, slot g hW hd0 j ≠ l) : l.val % g.dil ≠ 0 := fun e => by
  have e2 : g.dil * (l.val / g.dil) = l.val := Nat.mul_div_cancel' (Nat.dvd_of_mod_eq_zero e)
  have hl : l.val < g.dil * 128 := lt_of_lt_of_eq l.isLt hW
  exact h ⟨l.val / g.dil, Nat.div_lt_of_lt_mul hl⟩ (Fin.ext e2)

theorem rk_slot (j : Fin 128) (r : Fin 256) : g.rk j.castSucc r = g.k r (slot g hW hd0 j) :=
  dif_pos (slot g hW hd0 j).isLt
theorem rv_slot (j : Fin 128) (r : Fin 256) : g.rv j.castSucc r = g.v r (slot g hW hd0 j) :=
  dif_pos (slot g hW hd0 j).isLt
omit hd0 in
theorem rk_last (r : Fin 256) : g.rk (Fin.last 128) r = g.nk r := dif_neg (fun h => lt_irrefl _ (lt_of_lt_of_eq h hW))
omit hd0 in
theorem rv_last (r : Fin 256) : g.rv (Fin.last 128) r = g.nv r := dif_neg (fun h => lt_irrefl _ (lt_of_lt_of_eq h hW))

theorem rsc_slot (h : Fin 4) (j : Fin 128) : g.rsc h j.castSucc = g.sc h (slot g hW hd0 j) := by
  have e : (slot g hW hd0 j).val % g.dil = 0 := Nat.mul_mod_right _ _
  unfold rsc sc hsum
  rw [if_pos e]
  refine Finset.sum_congr rfl fun d _ => ?_
  dsimp only
  rw [rk_slot hW hd0, mul_comm]
omit hd0 in
theorem rsc_last (h : Fin 4) : g.rsc h (Fin.last 128) = g.sn h := by
  unfold rsc sn hsum
  refine Finset.sum_congr rfl fun d _ => ?_
  dsimp only
  rw [rk_last hW, mul_comm]

theorem sc_bot (h : Fin 4) (l : Fin W) (hl : ∀ j, slot g hW hd0 j ≠ l) : g.sc h l = ⊥ :=
  if_neg (not_slot hW hd0 l hl)

/-- The greatest score is the same. -/
theorem mx_eq (h : Fin 4) : g.mx h = g.rmx h := by
  have e1 : Finset.univ.fold max ⊥ (fun l => g.sc h l) = Finset.univ.sup (fun l => g.sc h l) := rfl
  have e2 : g.rmx h = Finset.univ.sup (fun j => g.rsc h j) := rfl
  unfold mx
  rw [e1, e2]
  apply le_antisymm
  · refine max_le (Finset.sup_le fun l _ => ?_) ?_
    · by_cases hl : ∀ j, slot g hW hd0 j ≠ l
      · rw [sc_bot hW hd0 h l hl]; exact bot_le
      · obtain ⟨j, hj⟩ := not_forall.mp hl
        rw [← not_not.mp hj, ← rsc_slot hW hd0]
        exact Finset.le_sup (f := fun j => g.rsc h j) (Finset.mem_univ _)
    · rw [← rsc_last hW]
      exact Finset.le_sup (f := fun j => g.rsc h j) (Finset.mem_univ _)
  · refine Finset.sup_le fun j _ => ?_
    refine Fin.lastCases ?_ (fun j => ?_) j
    · rw [rsc_last hW]; exact le_max_right _ _
    · rw [rsc_slot hW hd0]
      exact le_max_of_le_left (Finset.le_sup (f := fun l => g.sc h l) (Finset.mem_univ _))

theorem e_slot (h : Fin 4) (j : Fin 128) : g.e h (slot g hW hd0 j) = g.re h j.castSucc := by
  unfold e re
  rw [mx_eq hW hd0, rsc_slot hW hd0]
theorem en_eq (h : Fin 4) : g.en h = g.re h (Fin.last 128) := by
  unfold en re
  rw [mx_eq hW hd0, rsc_last hW]
theorem e_off (h : Fin 4) (l : Fin W) (hl : ∀ j, slot g hW hd0 j ≠ l) : g.e h l = 0 := by
  unfold e
  rw [sc_bot hW hd0 h l hl, EReal.bot_sub, Ideal.exp_bot]

/-- The sum of the weights is the same. -/
theorem den_eq (h : Fin 4) : g.den h = g.rden h := by
  unfold den rden
  rw [Fin.sum_univ_castSucc, en_eq hW hd0]
  refine congrArg (· + _) (Eq.symm ?_)
  refine Fintype.sum_of_injective (slot g hW hd0) (slot_inj hW hd0) _ _ (fun l hl => ?_) fun j => (e_slot hW hd0 h j).symm
  exact e_off hW hd0 h l fun j e => hl ⟨j, e⟩

/-- The weighted sum of the values is the same. -/
theorem num_eq (r : Fin 256) : g.num r + g.en (hd r) * g.nv r = ∑ j, g.re (hd r) j * g.rv j r := by
  unfold num
  rw [Fin.sum_univ_castSucc, en_eq hW hd0, rv_last hW]
  refine congrArg (· + _) (Eq.symm ?_)
  refine Fintype.sum_of_injective (slot g hW hd0) (slot_inj hW hd0) _ _ (fun l hl => ?_) fun j => ?_
  · rw [e_off hW hd0 _ l fun j e => hl ⟨j, e⟩, mul_zero]
  · rw [e_slot hW hd0, rv_slot hW hd0, mul_comm]

/-- The log of the sum of exponentials is the same. -/
theorem ls_eq (h : Fin 4) : g.ls h = g.rls h := by
  unfold ls rls
  rw [mx_eq hW hd0, den_eq hW hd0]

/-- The output is the same. -/
theorem out_eq (hg : g.Fin') (r : Fin 256) : g.out r = g.rout r := by
  unfold out rout
  rw [num_eq hW hd0, den_eq hW hd0, sum_div _ _ _ (isPos_rden hg _)]

end Grp

/-- The greatest of three. -/
theorem top3_pick (a b c : EReal) : top3 (pick a b c) = max (max a b) c := by
  have e : Finset.univ.fold max ⊥ (pick a b c) = Finset.univ.sup (pick a b c) := rfl
  unfold top3
  rw [e, max_eq_right bot_le]
  apply le_antisymm
  · refine Finset.sup_le fun i _ => ?_
    fin_cases i
    · exact le_max_of_le_left (le_max_left _ _)
    · exact le_max_of_le_left (le_max_right _ _)
    · exact le_max_right _ _
  · refine max_le (max_le ?_ ?_) ?_
    · exact Finset.le_sup (f := pick a b c) (Finset.mem_univ 0)
    · exact Finset.le_sup (f := pick a b c) (Finset.mem_univ 1)
    · exact Finset.le_sup (f := pick a b c) (Finset.mem_univ 2)

/-- Joining the outputs with a softmax of the logs is `merge`. -/
theorem rmerge_eq (o0 o1 o2 l0 l1 l2 : EReal) (h0 : IsR l0) (h1 : IsR l1) (h2 : IsR l2) :
    rmerge (pick o0 o1 o2) (pick l0 l1 l2) = merge o0 o1 o2 l0 l1 l2 := by
  have hm : IsR (max (max l0 l1) l2) := (h0.max h1).max h2
  unfold rmerge merge
  rw [top3_pick, sum_div]
  · simp only [Fin.sum_univ_three]
    rfl
  · refine IsPos.sum (n := 2) _ fun i => ?_
    fin_cases i
    · exact (h0.sub hm).exp
    · exact (h1.sub hm).exp
    · exact (h2.sub hm).exp

/-- What the kernel computes for a row is what the reference computes. -/
theorem merged_eq (g0 : Grp 128) (g1 : Grp 512) (g2 : Grp 2048) (e0 : g0.dil = 1) (e1 : g1.dil = 4) (e2 : g2.dil = 16)
    (h0 : g0.Fin') (h1 : g1.Fin') (h2 : g2.Fin') (r : Fin 256) :
    merged g0 g1 g2 r = rmerge (pick (g0.rout r) (g1.rout r) (g2.rout r)) (pick (g0.rls (hd r)) (g1.rls (hd r)) (g2.rls (hd r))) := by
  rw [rmerge_eq _ _ _ _ _ _ (Grp.isR_rls h0 _) (Grp.isR_rls h1 _) (Grp.isR_rls h2 _)]
  unfold merged
  rw [Grp.out_eq (by rw [e0]) (by rw [e0]; decide) h0, Grp.out_eq (by rw [e1]) (by rw [e1]; decide) h1,
    Grp.out_eq (by rw [e2]) (by rw [e2]; decide) h2, Grp.ls_eq (by rw [e0]) (by rw [e0]; decide),
    Grp.ls_eq (by rw [e1]) (by rw [e1]; decide), Grp.ls_eq (by rw [e2]) (by rw [e2]; decide)]

end Cert.Step
-- ==== Proof.Finite.lean ====
module

public import proofs.«01_k».proof.Defs
public import proofs.«01_k».proof.Proof.Gen.Pre_finite_scores
public import proofs.«01_k».proof.Proof.Softmax
public import Idealize.ShloMosaic.Lib.ReduceAll

/-!
# The precondition read back
-/

@[expose] public section
set_option maxRecDepth 16384
noncomputable section
namespace Cert.Step
open Cert.Pre_finite_scores Cert.Pre_finite_scores.Gen Idealize.ShloMosaic

theorem inf_bits : Ideal.ofBits .f32 2139095040#32 = ⊤ := by decide

/-- Both words of an `and` that is one are one. -/
theorem and_one {a b : BitVec 1} (h : IntOp.andi a b = 1#1) : a = 1#1 ∧ b = 1#1 := by
  revert a b; decide

/-- A number whose size is below infinity is real. -/
theorem isR_of_lt (x : EReal) (h : Ideal.cmp .olt (max x (-x)) (Ideal.ofBits .f32 2139095040#32) = 1#1) : IsR x := by
  rw [inf_bits] at h
  have h : max x (-x) < ⊤ := by
    by_contra c
    simp [Ideal.cmp, c] at h
  induction x with
  | bot => simp at h
  | coe a => exact ⟨a, rfl⟩
  | top => simp at h

/-- What the precondition says of one group: queries and keys are real. -/
def FinArr {W : Nat} (x : (⟨2, ![768, 32]⟩ : Shape).Idx → EReal) (cc : (⟨6, ![1, 32, W, 2, 4, 64]⟩ : Shape).Idx → EReal) : Prop :=
  (∀ (r : Fin 512) (n : Fin 32), IsR (x (ix2 ⟨r.val, by omega⟩ n)))
    ∧ ∀ (n : Fin 32) (l : Fin W) (h : Fin 4) (d : Fin 64), IsR (cc (ix6 0 n l 0 h d))

/-- The group of a request is then finite. -/
theorem FinArr.grp {W : Nat} {x : (⟨2, ![768, 32]⟩ : Shape).Idx → EReal} {cc : (⟨6, ![1, 32, W, 2, 4, 64]⟩ : Shape).Idx → EReal}
    (h : FinArr x cc) (dil : Nat) (n : Fin 32) : (grpAt dil x cc n).Fin' where
  q r := h.1 ⟨r.val, by omega⟩ n
  nk r := h.1 ⟨256 + r.val, by omega⟩ n
  k r l := by
    have e : cacheIdx n l ⟨r.val, by omega⟩ = ix6 0 n l 0 ⟨r.val / 64, by omega⟩ ⟨r.val % 64, by omega⟩ := by
      unfold cacheIdx
      congr 1
      · exact Fin.ext (by simp)
      · exact Fin.ext (by simp; omega)
    show IsR (cc _)
    rw [e]
    exact h.2 _ _ _ _

/-- The precondition gives finite queries and keys. -/
theorem finite_of_pre (x0 x1 x2 : Vec Ideal S768x32 .f32) (x3 : Vec Ideal S1x32x128x2x4x64 .f32) (x4 : Vec Ideal S1x32x512x2x4x64 .f32)
    (x5 : Vec Ideal S1x32x2048x2x4x64 .f32) (h : fn (F := Ideal) x0 x1 x2 x3 x4 x5 = fun _ => 1#1) :
    FinArr x0 x3 ∧ FinArr x1 x4 ∧ FinArr x2 x5 := by
  have h := congrFun h ix0
  dsimp only [fn, fn_part1, fn_part2] at h
  obtain ⟨h, k2⟩ := and_one h
  obtain ⟨h, q2⟩ := and_one h
  obtain ⟨h, k1⟩ := and_one h
  obtain ⟨h, q1⟩ := and_one h
  obtain ⟨h, k0⟩ := and_one h
  obtain ⟨h, q0⟩ := and_one h
  have Q0 := fun i => Host.reduce_andi_all _ _ _ _ _ q0 i
  have K0 := fun i => Host.reduce_andi_all _ _ _ _ _ k0 i
  have Q1 := fun i => Host.reduce_andi_all _ _ _ _ _ q1 i
  have K1 := fun i => Host.reduce_andi_all _ _ _ _ _ k1 i
  have Q2 := fun i => Host.reduce_andi_all _ _ _ _ _ q2 i
  have K2 := fun i => Host.reduce_andi_all _ _ _ _ _ k2 i
  clear h q0 k0 q1 k1 q2 k2
  refine ⟨⟨fun r n => ?_, fun n l h d => ?_⟩, ⟨fun r n => ?_, fun n l h d => ?_⟩, ⟨fun r n => ?_, fun n l h d => ?_⟩⟩
  · have z := Q0 (ix2 r n)
    clear Q0 Q1 Q2 K0 K1 K2
    refine isR_of_lt _ (Eq.trans ?_ z)
    pointwise
    rfl
  · have z := K0 (ix5 0 n l h d)
    clear Q0 Q1 Q2 K0 K1 K2
    refine isR_of_lt _ (Eq.trans ?_ z)
    pointwise
    rfl
  · have z := Q1 (ix2 r n)
    clear Q0 Q1 Q2 K0 K1 K2
    refine isR_of_lt _ (Eq.trans ?_ z)
    pointwise
    rfl
  · have z := K1 (ix5 0 n l h d)
    clear Q0 Q1 Q2 K0 K1 K2
    refine isR_of_lt _ (Eq.trans ?_ z)
    pointwise
    rfl
  · have z := Q2 (ix2 r n)
    clear Q0 Q1 Q2 K0 K1 K2
    refine isR_of_lt _ (Eq.trans ?_ z)
    pointwise
    rfl
  · have z := K2 (ix5 0 n l h d)
    clear Q0 Q1 Q2 K0 K1 K2
    refine isR_of_lt _ (Eq.trans ?_ z)
    pointwise
    rfl

end Cert.Step
-- ==== Proof.StepClaims.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_scores
public import proofs.«01_k».proof.Proof.Finite
public import Idealize.ShloMosaic.Adequacy
public import Idealize.ShloMosaic.Init

/-!
# The claims about the decode step
-/

@[expose] public section
noncomputable section
namespace Cert.Step
open Idealize.ShloMosaic Idealize.SL.Sem

/-- The reference leaves its arguments and its semaphores as they were. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The finite mask stands for minus infinity. -/
theorem preserves : Cert.preserves_Kernel_KernelIdeal :=
  IdealRules.named_const.statement Cert.KernelIdeal.κ "mask" .f32 0xF149F2CA#32 ⊥ rfl

/-- The four results of the kernel are the four results of the reference. -/
theorem algebraic : Cert.algebraic_KernelIdeal_ReferenceIdeal_pre_finite_scores := by
  intro m ρ m' ρ' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks (F := Ideal) m ρ, ?_⟩
  refine (θ_run Cert.ReferenceIdeal.defs _ _).mono (fun _ h c => ?_) (Cert.ReferenceIdeal.Value.run (F := Ideal) m' ρ')
  obtain ⟨r0, r1, r2, r3, rest⟩ := h c
  obtain ⟨a0, a1, a2, a3, a4, a5⟩ := hagree c
  clear h hagree
  obtain ⟨f0, f1, f2⟩ := finite_of_pre _ _ _ _ _ _ (hpre c)
  refine ⟨r0.trans ?_, r1.trans ?_, r2.trans ?_, r3.trans ?_, rest⟩ <;> clear r0 r1 r2 r3 rest
  · refine (rw0 _ _).trans ?_
    rw [a0, a3]
    exact (final6 m c).symm
  · refine (rw1 _ _).trans ?_
    rw [a1, a4]
    exact (final7 m c).symm
  · refine (rw2 _ _).trans ?_
    rw [a2, a5]
    exact (final8 m c).symm
  · refine (Cert.ReferenceIdeal.Read.val_main_v108_eq m' c).trans ?_
    rw [a0, a1, a2, a3, a4, a5]
    refine Eq.trans ?_ (final9 m c).symm
    funext y
    refine (rt _ _ _ _ _ _ y).trans ?_
    exact (merged_eq _ _ _ rfl rfl rfl (f0.grp 1 _) (f1.grp 4 _) (f2.grp 16 _) _).symm

end Cert.Step
-- ==== Proof.FfnIdealFrame.lean ====
/- The block feed-forward call (`FfnIdeal`): what one body call does to its staging buffers, the pipeline's proof data, and
   the run that ends with every argument array unchanged.

   The only output that some grid points leave alone is the sample rows' `xs1` (window 15): the body stores it at the
   first point alone, its one block is written back after the last point, and in between the buffer carries it. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.Pipeline.TableIdle

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer one store has covered reads what was stored. -/
theorem read_store {κ : Kind} {sp : Space} {S : Shape} {e : EltTy} (v : View sig κ sp S e) (f : v.ty.Contents (Elt F))
    (off : Fin S.rank → Nat) (inb : ∀ a, off a + S.size a ≤ S.size a) (w : S.Idx → Elt F e) (h : ∀ a, off a = 0)
    {w' : S.Idx → Elt F e} (hw : w = w') :
    v.read (Elt F) (v.writes (Elt F) f [⟨Rect.unit off S.size inb, w⟩]) = w' := by
  subst hw
  rw [View.read_writes_eq_canon v f _ fun y => ⟨_, List.mem_singleton_self _, View.mem_set_unit_zero (funext h) inb y⟩]
  exact View.canon_cons_unit_lit inb w [] h

/-- The staging buffers a body call is handed, in window order, each with the fact that it is a whole cell. -/
structure Bufs where
  b0 : Memref sig .tc .vmem S1024x1024 .f32
  h0 : b0.IsWhole
  b1 : Memref sig .tc .vmem S32x1024 .f32
  h1 : b1.IsWhole
  b2 : Memref sig .tc .vmem S1x1024 .f32
  h2 : b2.IsWhole
  b3 : Memref sig .tc .vmem S1024x2816 .bf16
  h3 : b3.IsWhole
  b4 : Memref sig .tc .vmem S1024x2816 .bf16
  h4 : b4.IsWhole
  b5 : Memref sig .tc .vmem S2816x1024 .bf16
  h5 : b5.IsWhole
  b6 : Memref sig .tc .vmem S32x2816 .f32
  h6 : b6.IsWhole
  b7 : Memref sig .tc .vmem S32x2816 .f32
  h7 : b7.IsWhole
  b8 : Memref sig .tc .vmem S128x1024 .f32
  h8 : b8.IsWhole
  b9 : Memref sig .tc .vmem S32x4864 .f32
  h9 : b9.IsWhole
  b10 : Memref sig .tc .vmem S16x128 .f32
  h10 : b10.IsWhole
  b11 : Memref sig .tc .vmem S16x1024 .f32
  h11 : b11.IsWhole
  b12 : Memref sig .tc .vmem S16x1024 .f32
  h12 : b12.IsWhole
  b13 : Memref sig .tc .vmem S32x1024 .f32
  h13 : b13.IsWhole
  b14 : Memref sig .tc .vmem S1024x1024 .f32
  h14 : b14.IsWhole
  b15 : Memref sig .tc .vmem S32x1024 .f32
  h15 : b15.IsWhole
  b16 : Memref sig .tc .vmem S32x2816 .bf16
  h16 : b16.IsWhole
  b17 : Memref sig .tc .vmem S32x2816 .bf16
  h17 : b17.IsWhole
  b18 : Memref sig .tc .vmem S128x1024 .bf16
  h18 : b18.IsWhole
  b19 : Memref sig .tc .vmem S32x4864 .bf16
  h19 : b19.IsWhole
  b20 : Memref sig .tc .vmem S16x128 .bf16
  h20 : b20.IsWhole
  b21 : Memref sig .tc .vmem S16x1024 .bf16
  h21 : b21.IsWhole
  b22 : Memref sig .tc .vmem S16x1024 .bf16
  h22 : b22.IsWhole
  b23 : Memref sig .tc .vmem S32x1024 .bf16
  h23 : b23.IsWhole

/-- What the input buffers hold. -/
structure Ins (F : FTy → Type) where
  x0 : Vec F S1024x1024 .f32
  x1 : Vec F S32x1024 .f32
  x2 : Vec F S1x1024 .f32
  x3 : Vec F S1024x2816 .bf16
  x4 : Vec F S1024x2816 .bf16
  x5 : Vec F S2816x1024 .bf16
  x6 : Vec F S32x2816 .f32
  x7 : Vec F S32x2816 .f32
  x8 : Vec F S128x1024 .f32
  x9 : Vec F S32x4864 .f32
  x10 : Vec F S16x128 .f32
  x11 : Vec F S16x1024 .f32
  x12 : Vec F S16x1024 .f32
  x13 : Vec F S32x1024 .f32

/-- The first 1536 columns of a gate or up weight. -/
abbrev colsA (w : Vec F S1024x2816 .bf16) : Vec F S1024x1536 .bf16 :=
  View.ld w (Rect.unit (s := S1024x2816) ![0, 0] S1024x1536.size inb_S1024x2816_S1024x1536_0_0)
/-- Its last 1280 columns. -/
abbrev colsB (w : Vec F S1024x2816 .bf16) : Vec F S1024x1280 .bf16 :=
  View.ld w (Rect.unit (s := S1024x2816) ![0, 1536] S1024x1280.size inb_S1024x2816_S1024x1280_0_1536)
/-- The first 1536 rows of the down weight. -/
abbrev rowsA (w : Vec F S2816x1024 .bf16) : Vec F S1536x1024 .bf16 :=
  View.ld w (Rect.unit (s := S2816x1024) ![0, 0] S1536x1024.size inb_S2816x1024_S1536x1024_0_0)
/-- Its last 1280 rows. -/
abbrev rowsB (w : Vec F S2816x1024 .bf16) : Vec F S1280x1024 .bf16 :=
  View.ld w (Rect.unit (s := S2816x1024) ![1536, 0] S1280x1024.size inb_S2816x1024_S1280x1024_1536_0)

/-- What a body call leaves of the prompt rows' tile. -/
def promptOut (x : Ins F) : Vec F S1024x1024 .f32 :=
  k0_pay15 (k0_pay11 x.x0) (k0_pay12 x.x0 x.x2) (k0_pay13 x.x0 x.x2 (colsA x.x3) (colsA x.x4) (rowsA x.x5))
    (k0_pay14 x.x0 x.x2 (colsB x.x3)) (colsB x.x4) (rowsB x.x5)

/-- What the first body call leaves of the sample rows. -/
def sampleOut (x : Ins F) : Vec F S32x1024 .f32 :=
  k0_pay10 (k0_pay5 x.x1) (k0_pay7 x.x1 x.x2 (colsA x.x3) (colsA x.x4) (rowsA x.x5)) (k0_pay8 x.x1 x.x2 (colsB x.x4))
    (k0_pay9 x.x1 x.x2 (colsB x.x3)) (rowsB x.x5)

/-- The condition of the body's one branch. -/
abbrev isFirst (i : grid0.Coords) : Prop := k0_cond1 i = 1#1

/-- It holds at the first grid point only. -/
theorem isFirst_iff (t : Fin cfg0.N) : isFirst (grid0.coords t) ↔ t.val = 0 := by
  have ht : t.val < 32 := Nat.lt_of_lt_of_eq t.isLt N_0
  have e0 : (grid0.coords t 0).val = t.val / 1 % 32 := Pipeline.Grid.coords_val t 0 (by decide) rfl
  simp only [isFirst, k0_cond1, e0]
  word_cmp

set_option maxHeartbeats 2000000 in
/-- A body call at the first point: the inputs' buffers as they were, every output stored. -/
theorem bodyA (c : Dev nD) (i : grid0.Coords) (b : Bufs) (hc : isFirst i) (x : Ins F) (E : Set ℕ) (K : PUnit → sProp 𝕄) :
    iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ (∃ d, owns (c : Thread nD τ) b.b14 fullShare d)
        ∗ (∃ d, owns (c : Thread nD τ) b.b15 fullShare d)
        ∗ (∃ d, owns (c : Thread nD τ) b.b16 fullShare d)
        ∗ (∃ d, owns (c : Thread nD τ) b.b17 fullShare d)
        ∗ (∃ d, owns (c : Thread nD τ) b.b18 fullShare d)
        ∗ (∃ d, owns (c : Thread nD τ) b.b19 fullShare d)
        ∗ (∃ d, owns (c : Thread nD τ) b.b20 fullShare d)
        ∗ (∃ d, owns (c : Thread nD τ) b.b21 fullShare d)
        ∗ (∃ d, owns (c : Thread nD τ) b.b22 fullShare d)
        ∗ (∃ d, owns (c : Thread nD τ) b.b23 fullShare d)
        ∗ (iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ owns (c : Thread nD τ) b.b14 fullShare (promptOut x)
        ∗ owns (c : Thread nD τ) b.b15 fullShare (sampleOut x)
        ∗ owns (c : Thread nD τ) b.b16 fullShare (k0_pay16 x.x6)
        ∗ owns (c : Thread nD τ) b.b17 fullShare (k0_pay17 x.x7)
        ∗ owns (c : Thread nD τ) b.b18 fullShare (k0_pay18 x.x8)
        ∗ owns (c : Thread nD τ) b.b19 fullShare (k0_pay19 x.x9)
        ∗ owns (c : Thread nD τ) b.b20 fullShare (k0_pay1 x.x10)
        ∗ owns (c : Thread nD τ) b.b21 fullShare (k0_pay2 x.x11)
        ∗ owns (c : Thread nD τ) b.b22 fullShare (k0_pay3 x.x12)
        ∗ owns (c : Thread nD τ) b.b23 fullShare (k0_pay4 x.x13)) -∗ K ⟨⟩))
      ⊢ wp frame (wpE (defs₀ (F := F)) Variants.none c none) E (cc0_ffn i b.b0 b.h0 b.b1 b.h1 b.b2 b.h2 b.b3 b.h3 b.b4 b.h4 b.b5 b.h5 b.b6 b.h6 b.b7 b.h7 b.b8 b.h8 b.b9 b.h9 b.b10 b.h10 b.b11 b.h11 b.b12 b.h12 b.b13 b.h13 b.b14 b.h14 b.b15 b.h15 b.b16 b.h16 b.b17 b.h17 b.b18 b.h18 b.b19 b.h19 b.b20 b.h20 b.b21 b.h21 b.b22 b.h22 b.b23 b.h23) K := by
  simp only [cc0_ffn_eq_skeleton]; unfold cc0_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := b.h0.eq_unread hf0; obtain rfl := b.h1.eq_unread hf1; obtain rfl := b.h2.eq_unread hf2; obtain rfl := b.h3.eq_unread hf3; obtain rfl := b.h4.eq_unread hf4; obtain rfl := b.h5.eq_unread hf5; obtain rfl := b.h6.eq_unread hf6; obtain rfl := b.h7.eq_unread hf7; obtain rfl := b.h8.eq_unread hf8; obtain rfl := b.h9.eq_unread hf9; obtain rfl := b.h10.eq_unread hf10; obtain rfl := b.h11.eq_unread hf11; obtain rfl := b.h12.eq_unread hf12; obtain rfl := b.h13.eq_unread hf13
  sl_exec (disch := sl_exact hc)
  sl_step
  iapply Hk
  isplitl [H0]
  · iexists _; isplitr; · ipureintro; exact b.h0.read_unread _
    iexact H0
  isplitl [H1]
  · iexists _; isplitr; · ipureintro; exact b.h1.read_unread _
    iexact H1
  isplitl [H2]
  · iexists _; isplitr; · ipureintro; exact b.h2.read_unread _
    iexact H2
  isplitl [H3]
  · iexists _; isplitr; · ipureintro; exact b.h3.read_unread _
    iexact H3
  isplitl [H4]
  · iexists _; isplitr; · ipureintro; exact b.h4.read_unread _
    iexact H4
  isplitl [H5]
  · iexists _; isplitr; · ipureintro; exact b.h5.read_unread _
    iexact H5
  isplitl [H6]
  · iexists _; isplitr; · ipureintro; exact b.h6.read_unread _
    iexact H6
  isplitl [H7]
  · iexists _; isplitr; · ipureintro; exact b.h7.read_unread _
    iexact H7
  isplitl [H8]
  · iexists _; isplitr; · ipureintro; exact b.h8.read_unread _
    iexact H8
  isplitl [H9]
  · iexists _; isplitr; · ipureintro; exact b.h9.read_unread _
    iexact H9
  isplitl [H10]
  · iexists _; isplitr; · ipureintro; exact b.h10.read_unread _
    iexact H10
  isplitl [H11]
  · iexists _; isplitr; · ipureintro; exact b.h11.read_unread _
    iexact H11
  isplitl [H12]
  · iexists _; isplitr; · ipureintro; exact b.h12.read_unread _
    iexact H12
  isplitl [H13]
  · iexists _; isplitr; · ipureintro; exact b.h13.read_unread _
    iexact H13
  isplitl [H14]
  · iexists _; isplitr
    swap; · iexact H14
    ipureintro; exact read_store _ _ _ _ _ (by decide) (by unfold promptOut; sl_unfold_words; simp (disch := decide) only [View.ld_unit_lit, View.readAt_eq_ld, Memref.IsWhole.read_unread])
  isplitl [H15]
  · iexists _; isplitr
    swap; · iexact H15
    ipureintro; exact read_store _ _ _ _ _ (by decide) (by unfold sampleOut; sl_unfold_words; simp (disch := decide) only [View.ld_unit_lit, View.readAt_eq_ld, Memref.IsWhole.read_unread])
  isplitl [H16]
  · iexists _; isplitr
    swap; · iexact H16
    ipureintro; exact read_store _ _ _ _ _ (by decide) (by simp (disch := decide) only [View.ld_unit_lit, View.readAt_eq_ld, Memref.IsWhole.read_unread])
  isplitl [H17]
  · iexists _; isplitr
    swap; · iexact H17
    ipureintro; exact read_store _ _ _ _ _ (by decide) (by simp (disch := decide) only [View.ld_unit_lit, View.readAt_eq_ld, Memref.IsWhole.read_unread])
  isplitl [H18]
  · iexists _; isplitr
    swap; · iexact H18
    ipureintro; exact read_store _ _ _ _ _ (by decide) (by simp (disch := decide) only [View.ld_unit_lit, View.readAt_eq_ld, Memref.IsWhole.read_unread])
  isplitl [H19]
  · iexists _; isplitr
    swap; · iexact H19
    ipureintro; exact read_store _ _ _ _ _ (by decide) (by simp (disch := decide) only [View.ld_unit_lit, View.readAt_eq_ld, Memref.IsWhole.read_unread])
  isplitl [H20]
  · iexists _; isplitr
    swap; · iexact H20
    ipureintro; exact read_store _ _ _ _ _ (by decide) (by simp (disch := decide) only [View.ld_unit_lit, View.readAt_eq_ld, Memref.IsWhole.read_unread])
  isplitl [H21]
  · iexists _; isplitr
    swap; · iexact H21
    ipureintro; exact read_store _ _ _ _ _ (by decide) (by simp (disch := decide) only [View.ld_unit_lit, View.readAt_eq_ld, Memref.IsWhole.read_unread])
  isplitl [H22]
  · iexists _; isplitr
    swap; · iexact H22
    ipureintro; exact read_store _ _ _ _ _ (by decide) (by simp (disch := decide) only [View.ld_unit_lit, View.readAt_eq_ld, Memref.IsWhole.read_unread])
  iexists _; isplitr
  swap; · iexact H23
  ipureintro; exact read_store _ _ _ _ _ (by decide) (by simp (disch := decide) only [View.ld_unit_lit, View.readAt_eq_ld, Memref.IsWhole.read_unread])

set_option maxHeartbeats 2000000 in
/-- A body call at a later point: the same, the sample rows' output left as it was found (`s`). -/
theorem bodyB (c : Dev nD) (i : grid0.Coords) (b : Bufs) (hc : ¬isFirst i) (s : Vec F S32x1024 .f32) (x : Ins F) (E : Set ℕ) (K : PUnit → sProp 𝕄) :
    iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ (∃ d, owns (c : Thread nD τ) b.b14 fullShare d)
        ∗ owns (c : Thread nD τ) b.b15 fullShare s
        ∗ (∃ d, owns (c : Thread nD τ) b.b16 fullShare d)
        ∗ (∃ d, owns (c : Thread nD τ) b.b17 fullShare d)
        ∗ (∃ d, owns (c : Thread nD τ) b.b18 fullShare d)
        ∗ (∃ d, owns (c : Thread nD τ) b.b19 fullShare d)
        ∗ (∃ d, owns (c : Thread nD τ) b.b20 fullShare d)
        ∗ (∃ d, owns (c : Thread nD τ) b.b21 fullShare d)
        ∗ (∃ d, owns (c : Thread nD τ) b.b22 fullShare d)
        ∗ (∃ d, owns (c : Thread nD τ) b.b23 fullShare d)
        ∗ (iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ owns (c : Thread nD τ) b.b14 fullShare (promptOut x)
        ∗ owns (c : Thread nD τ) b.b15 fullShare s
        ∗ owns (c : Thread nD τ) b.b16 fullShare (k0_pay16 x.x6)
        ∗ owns (c : Thread nD τ) b.b17 fullShare (k0_pay17 x.x7)
        ∗ owns (c : Thread nD τ) b.b18 fullShare (k0_pay18 x.x8)
        ∗ owns (c : Thread nD τ) b.b19 fullShare (k0_pay19 x.x9)
        ∗ owns (c : Thread nD τ) b.b20 fullShare (k0_pay1 x.x10)
        ∗ owns (c : Thread nD τ) b.b21 fullShare (k0_pay2 x.x11)
        ∗ owns (c : Thread nD τ) b.b22 fullShare (k0_pay3 x.x12)
        ∗ owns (c : Thread nD τ) b.b23 fullShare (k0_pay4 x.x13)) -∗ K ⟨⟩))
      ⊢ wp frame (wpE (defs₀ (F := F)) Variants.none c none) E (cc0_ffn i b.b0 b.h0 b.b1 b.h1 b.b2 b.h2 b.b3 b.h3 b.b4 b.h4 b.b5 b.h5 b.b6 b.h6 b.b7 b.h7 b.b8 b.h8 b.b9 b.h9 b.b10 b.h10 b.b11 b.h11 b.b12 b.h12 b.b13 b.h13 b.b14 b.h14 b.b15 b.h15 b.b16 b.h16 b.b17 b.h17 b.b18 b.h18 b.b19 b.h19 b.b20 b.h20 b.b21 b.h21 b.b22 b.h22 b.b23 b.h23) K := by
  simp only [cc0_ffn_eq_skeleton]; unfold cc0_ffn_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := b.h0.eq_unread hf0; obtain rfl := b.h1.eq_unread hf1; obtain rfl := b.h2.eq_unread hf2; obtain rfl := b.h3.eq_unread hf3; obtain rfl := b.h4.eq_unread hf4; obtain rfl := b.h5.eq_unread hf5; obtain rfl := b.h6.eq_unread hf6; obtain rfl := b.h7.eq_unread hf7; obtain rfl := b.h8.eq_unread hf8; obtain rfl := b.h9.eq_unread hf9; obtain rfl := b.h10.eq_unread hf10; obtain rfl := b.h11.eq_unread hf11; obtain rfl := b.h12.eq_unread hf12; obtain rfl := b.h13.eq_unread hf13; obtain rfl := b.h15.eq_unread hf15
  sl_exec (disch := sl_exact hc)
  sl_step
  iapply Hk
  isplitl [H0]
  · iexists _; isplitr; · ipureintro; exact b.h0.read_unread _
    iexact H0
  isplitl [H1]
  · iexists _; isplitr; · ipureintro; exact b.h1.read_unread _
    iexact H1
  isplitl [H2]
  · iexists _; isplitr; · ipureintro; exact b.h2.read_unread _
    iexact H2
  isplitl [H3]
  · iexists _; isplitr; · ipureintro; exact b.h3.read_unread _
    iexact H3
  isplitl [H4]
  · iexists _; isplitr; · ipureintro; exact b.h4.read_unread _
    iexact H4
  isplitl [H5]
  · iexists _; isplitr; · ipureintro; exact b.h5.read_unread _
    iexact H5
  isplitl [H6]
  · iexists _; isplitr; · ipureintro; exact b.h6.read_unread _
    iexact H6
  isplitl [H7]
  · iexists _; isplitr; · ipureintro; exact b.h7.read_unread _
    iexact H7
  isplitl [H8]
  · iexists _; isplitr; · ipureintro; exact b.h8.read_unread _
    iexact H8
  isplitl [H9]
  · iexists _; isplitr; · ipureintro; exact b.h9.read_unread _
    iexact H9
  isplitl [H10]
  · iexists _; isplitr; · ipureintro; exact b.h10.read_unread _
    iexact H10
  isplitl [H11]
  · iexists _; isplitr; · ipureintro; exact b.h11.read_unread _
    iexact H11
  isplitl [H12]
  · iexists _; isplitr; · ipureintro; exact b.h12.read_unread _
    iexact H12
  isplitl [H13]
  · iexists _; isplitr; · ipureintro; exact b.h13.read_unread _
    iexact H13
  isplitl [H14]
  · iexists _; isplitr
    swap; · iexact H14
    ipureintro; exact read_store _ _ _ _ _ (by decide) (by unfold promptOut; sl_unfold_words; simp (disch := decide) only [View.ld_unit_lit, View.readAt_eq_ld, Memref.IsWhole.read_unread])
  isplitl [H15]
  · iexists _; isplitr; · ipureintro; exact b.h15.read_unread _
    iexact H15
  isplitl [H16]
  · iexists _; isplitr
    swap; · iexact H16
    ipureintro; exact read_store _ _ _ _ _ (by decide) (by simp (disch := decide) only [View.ld_unit_lit, View.readAt_eq_ld, Memref.IsWhole.read_unread])
  isplitl [H17]
  · iexists _; isplitr
    swap; · iexact H17
    ipureintro; exact read_store _ _ _ _ _ (by decide) (by simp (disch := decide) only [View.ld_unit_lit, View.readAt_eq_ld, Memref.IsWhole.read_unread])
  isplitl [H18]
  · iexists _; isplitr
    swap; · iexact H18
    ipureintro; exact read_store _ _ _ _ _ (by decide) (by simp (disch := decide) only [View.ld_unit_lit, View.readAt_eq_ld, Memref.IsWhole.read_unread])
  isplitl [H19]
  · iexists _; isplitr
    swap; · iexact H19
    ipureintro; exact read_store _ _ _ _ _ (by decide) (by simp (disch := decide) only [View.ld_unit_lit, View.readAt_eq_ld, Memref.IsWhole.read_unread])
  isplitl [H20]
  · iexists _; isplitr
    swap; · iexact H20
    ipureintro; exact read_store _ _ _ _ _ (by decide) (by simp (disch := decide) only [View.ld_unit_lit, View.readAt_eq_ld, Memref.IsWhole.read_unread])
  isplitl [H21]
  · iexists _; isplitr
    swap; · iexact H21
    ipureintro; exact read_store _ _ _ _ _ (by decide) (by simp (disch := decide) only [View.ld_unit_lit, View.readAt_eq_ld, Memref.IsWhole.read_unread])
  isplitl [H22]
  · iexists _; isplitr
    swap; · iexact H22
    ipureintro; exact read_store _ _ _ _ _ (by decide) (by simp (disch := decide) only [View.ld_unit_lit, View.readAt_eq_ld, Memref.IsWhole.read_unread])
  iexists _; isplitr
  swap; · iexact H23
  ipureintro; exact read_store _ _ _ _ _ (by decide) (by simp (disch := decide) only [View.ld_unit_lit, View.readAt_eq_ld, Memref.IsWhole.read_unread])

/-- The buffers at a grid point. -/
abbrev bufs (t : Fin cfg0.N) : Bufs :=
  {b0 := win0_0.stage (cfg0.slots t 0), h0 := hstage0_0 ((cfg0.slots t 0).cast nbuf0_0),
   b1 := win0_1.stage (cfg0.slots t 1), h1 := hstage0_1 ((cfg0.slots t 1).cast nbuf0_1),
   b2 := win0_2.stage (cfg0.slots t 2), h2 := hstage0_2 ((cfg0.slots t 2).cast nbuf0_2),
   b3 := win0_3.stage (cfg0.slots t 3), h3 := hstage0_3 ((cfg0.slots t 3).cast nbuf0_3),
   b4 := win0_4.stage (cfg0.slots t 4), h4 := hstage0_4 ((cfg0.slots t 4).cast nbuf0_4),
   b5 := win0_5.stage (cfg0.slots t 5), h5 := hstage0_5 ((cfg0.slots t 5).cast nbuf0_5),
   b6 := win0_6.stage (cfg0.slots t 6), h6 := hstage0_6 ((cfg0.slots t 6).cast nbuf0_6),
   b7 := win0_7.stage (cfg0.slots t 7), h7 := hstage0_7 ((cfg0.slots t 7).cast nbuf0_7),
   b8 := win0_8.stage (cfg0.slots t 8), h8 := hstage0_8 ((cfg0.slots t 8).cast nbuf0_8),
   b9 := win0_9.stage (cfg0.slots t 9), h9 := hstage0_9 ((cfg0.slots t 9).cast nbuf0_9),
   b10 := win0_10.stage (cfg0.slots t 10), h10 := hstage0_10 ((cfg0.slots t 10).cast nbuf0_10),
   b11 := win0_11.stage (cfg0.slots t 11), h11 := hstage0_11 ((cfg0.slots t 11).cast nbuf0_11),
   b12 := win0_12.stage (cfg0.slots t 12), h12 := hstage0_12 ((cfg0.slots t 12).cast nbuf0_12),
   b13 := win0_13.stage (cfg0.slots t 13), h13 := hstage0_13 ((cfg0.slots t 13).cast nbuf0_13),
   b14 := win0_14.stage (cfg0.slots t 14), h14 := hstage0_14 ((cfg0.slots t 14).cast nbuf0_14),
   b15 := win0_15.stage (cfg0.slots t 15), h15 := hstage0_15 ((cfg0.slots t 15).cast nbuf0_15),
   b16 := win0_16.stage (cfg0.slots t 16), h16 := hstage0_16 ((cfg0.slots t 16).cast nbuf0_16),
   b17 := win0_17.stage (cfg0.slots t 17), h17 := hstage0_17 ((cfg0.slots t 17).cast nbuf0_17),
   b18 := win0_18.stage (cfg0.slots t 18), h18 := hstage0_18 ((cfg0.slots t 18).cast nbuf0_18),
   b19 := win0_19.stage (cfg0.slots t 19), h19 := hstage0_19 ((cfg0.slots t 19).cast nbuf0_19),
   b20 := win0_20.stage (cfg0.slots t 20), h20 := hstage0_20 ((cfg0.slots t 20).cast nbuf0_20),
   b21 := win0_21.stage (cfg0.slots t 21), h21 := hstage0_21 ((cfg0.slots t 21).cast nbuf0_21),
   b22 := win0_22.stage (cfg0.slots t 22), h22 := hstage0_22 ((cfg0.slots t 22).cast nbuf0_22),
   b23 := win0_23.stage (cfg0.slots t 23), h23 := hstage0_23 ((cfg0.slots t 23).cast nbuf0_23)}

/-- What the inputs' buffers hold there. -/
abbrev ins (c : Dev nD) (t : Fin cfg0.N) : Ins F :=
  {x0 := iblk m c 0 t, x1 := iblk m c 1 t, x2 := iblk m c 2 t, x3 := iblk m c 3 t, x4 := iblk m c 4 t, x5 := iblk m c 5 t, x6 := iblk m c 6 t, x7 := iblk m c 7 t, x8 := iblk m c 8 t, x9 := iblk m c 9 t, x10 := iblk m c 10 t, x11 := iblk m c 11 t, x12 := iblk m c 12 t, x13 := iblk m c 13 t}

/-- The first grid point. -/
abbrev t0 : Fin cfg0.N := ⟨0, by rw [show cfg0.N = 32 from N_0]; decide⟩

/-- The pipeline's proof data: every input's buffer left at its block, every output's at what the body stores, the sample
    rows' output at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => promptOut (ins m c t)
    | ⟨15, _⟩ => sampleOut (ins m c t0)
    | ⟨16, _⟩ => k0_pay16 (iblk m c 6 t)
    | ⟨17, _⟩ => k0_pay17 (iblk m c 7 t)
    | ⟨18, _⟩ => k0_pay18 (iblk m c 8 t)
    | ⟨19, _⟩ => k0_pay19 (iblk m c 9 t)
    | ⟨20, _⟩ => k0_pay1 (iblk m c 10 t)
    | ⟨21, _⟩ => k0_pay2 (iblk m c 11 t)
    | ⟨22, _⟩ => k0_pay3 (iblk m c 12 t)
    | ⟨23, _⟩ => k0_pay4 (iblk m c 13 t)
    | ⟨_ + 24, h⟩ => absurd h (Nat.not_lt.2 (Nat.le_add_left _ _))
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by
  dsimp only [dats]

/-! What the body leaves of each output, and what each input's buffer holds when the body starts. -/
theorem after14 (c : Dev nD) (t : Fin cfg0.N) : (dats m 0 c).after 14 t = promptOut (ins m c t) := by dsimp only [dats]
theorem after15 (c : Dev nD) (t : Fin cfg0.N) : (dats m 0 c).after 15 t = sampleOut (ins m c t0) := by dsimp only [dats]
theorem after16 (c : Dev nD) (t : Fin cfg0.N) : (dats m 0 c).after 16 t = k0_pay16 (iblk m c 6 t) := by dsimp only [dats]
theorem after17 (c : Dev nD) (t : Fin cfg0.N) : (dats m 0 c).after 17 t = k0_pay17 (iblk m c 7 t) := by dsimp only [dats]
theorem after18 (c : Dev nD) (t : Fin cfg0.N) : (dats m 0 c).after 18 t = k0_pay18 (iblk m c 8 t) := by dsimp only [dats]
theorem after19 (c : Dev nD) (t : Fin cfg0.N) : (dats m 0 c).after 19 t = k0_pay19 (iblk m c 9 t) := by dsimp only [dats]
theorem after20 (c : Dev nD) (t : Fin cfg0.N) : (dats m 0 c).after 20 t = k0_pay1 (iblk m c 10 t) := by dsimp only [dats]
theorem after21 (c : Dev nD) (t : Fin cfg0.N) : (dats m 0 c).after 21 t = k0_pay2 (iblk m c 11 t) := by dsimp only [dats]
theorem after22 (c : Dev nD) (t : Fin cfg0.N) : (dats m 0 c).after 22 t = k0_pay3 (iblk m c 12 t) := by dsimp only [dats]
theorem after23 (c : Dev nD) (t : Fin cfg0.N) : (dats m 0 c).after 23 t = k0_pay4 (iblk m c 13 t) := by dsimp only [dats]
theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d

/-- From the second point on the body leaves the sample rows' output alone. -/
theorem idle15 : ∀ t : Fin cfg0.N, t.val ≠ 0 → cfg0.idle 15 (grid0.coords t) = true := by decide +kernel
/-- The first point stores it. -/
theorem live15 : ∀ t : Fin cfg0.N, t.val = 0 → cfg0.idle 15 (grid0.coords t) = false := by decide +kernel
/-- It is written back after the last point only. -/
theorem flush15 : ∀ t : Fin cfg0.N, t.val + 1 < 32 → (cfg0.win 15).flush t = false := by decide +kernel

/-- From the second point on its buffer holds something stored since the region's entry. -/
theorem fresh15 : ∀ n : ℕ, n < 32 → n ≠ 0 → cfg0.fresh 15 n = false
  | 0, _, h => absurd rfl h
  | n + 1, hn, _ => by
    have hN : n < cfg0.N := by rw [show cfg0.N = 32 from N_0]; omega
    rw [Cfg.fresh_succ cfg0 15 n hN, flush15 ⟨n, hN⟩ (by simpa using hn)]
    by_cases h : n = 0
    · show (false || (cfg0.idle 15 (grid0.coords ⟨n, hN⟩) && _)) = false
      rw [live15 ⟨n, hN⟩ h]; rfl
    · rw [fresh15 n (by omega) h, Bool.and_false]; rfl

/-- So there it holds what the first point stored. -/
theorem before15 (c : Dev nD) (t : Fin cfg0.N) (ht : t.val ≠ 0) (d) :
    (dats m 0 c).before 15 t d = sampleOut (ins m c t0) := by
  have hN : t.val < 32 := lt_of_lt_of_eq t.isLt (show cfg0.N = 32 from N_0)
  rw [Dat.before_out_traj _ 15 rfl (fun _ _ => rfl) (fun t _ _ _ => by rw [after15, after15]) t.val t rfl d,
    if_neg (by rw [fresh15 t.val hN ht]; exact Bool.false_ne_true), after15]

/-- A window the body stores, or an input, is left at what the proof data says. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- The sample rows' output left as it was found is left as the proof data says. -/
theorem leaves15 (c : Dev nD) (t : Fin cfg0.N) (ht : t.val ≠ 0) :
    owns (c : Thread nD τ) (win0_15.stage (cfg0.slots t 15)) fullShare (sampleOut (ins m c t0))
      ⊢ (dats m 0 c).leavesExact 15 t := by
  unfold Dat.leavesExact
  rw [idle15 t ht]
  cases h : (cfg0.win 15).flush t
  · dsimp only
    iintro H
    iexists (sampleOut (ins m c t0))
    rw [before15 m c t ht]
    iexact H
  · dsimp only
    rw [after15]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 10 t rfl, leaves_live m c 11 t rfl, leaves_live m c 12 t rfl, leaves_live m c 13 t rfl, leaves_live m c 14 t rfl, leaves_live m c 16 t rfl, leaves_live m c 17 t rfl, leaves_live m c 18 t rfl, leaves_live m c 19 t rfl, leaves_live m c 20 t rfl, leaves_live m c 21 t rfl, leaves_live m c 22 t rfl, leaves_live m c 23 t rfl]
  by_cases h0 : t.val = 0
  · obtain rfl : t = t0 := Fin.ext h0
    rw [leaves_live m c 15 t0 (live15 t0 rfl)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (bodyA c (grid0.coords t0) (bufs t0) ((isFirst_iff t0).mpr rfl) (ins m c t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iintro ⟨H0, H1, H2, H3, H4, H5, H6, H7, H8, H9, H10, H11, H12, H13, H14, H15, H16, H17, H18, H19, H20, H21, H22, H23⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · simp only [before15 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (bodyB c (grid0.coords t) (bufs t) (fun h => h0 ((isFirst_iff t).mp h)) (sampleOut (ins m c t0)) (ins m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iintro ⟨H0, H1, H2, H3, H4, H5, H6, H7, H8, H9, H10, H11, H12, H13, H14, H15, H16, H17, H18, H19, H20, H21, H22, H23⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iapply (leaves15 m c t h0); iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The pipeline's body obligation. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- Every execution ends, each pipeline array at what the proof data says, every other buffer as the region found it, and
    every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.FfnIdeal.Body

end
-- ==== Proof.FfnRow.lean ====
module

public import Idealize.ShloMosaic.Lib.Pointwise
public import Mathlib.Algebra.BigOperators.Fin

/-!
What the feed-forward half step does to one row, over the extended reals: the row is divided by
the root of its mean square and multiplied by the gains, two products give 2816 gate and 2816 up
columns, and half of the down product is added to the row.
-/

@[expose] public section

noncomputable section

namespace Cert.Ffn.Row

open Idealize.ShloMosaic

/-- A row over the root of its mean square (with the small number added), times the gains. -/
def normed (r g : Fin 1024 → EReal) (k : Fin 1024) : EReal :=
  r k * Ideal.rsqrt (Ideal.div (∑ l, r l * r l) (Ideal.ofBits FTy.f32 0x44800000#32)
    + Ideal.ofBits FTy.f32 0x358637BD#32) * g k

/-- One column of a product with the normed row. -/
def column (r g : Fin 1024 → EReal) (w : Fin 1024 → Fin 2816 → EReal) (c : Fin 2816) : EReal :=
  ∑ k, normed r g k * w k c

/-- The gate column times its logistic value, times the up column. -/
def gated (r g : Fin 1024 → EReal) (wg wu : Fin 1024 → Fin 2816 → EReal) (c : Fin 2816) : EReal :=
  column r g wg c * Ideal.logistic (column r g wg c) * column r g wu c

/-- The row plus half of the down product of its gated columns. -/
def halfStep (r g : Fin 1024 → EReal) (wg wu : Fin 1024 → Fin 2816 → EReal)
    (wd : Fin 2816 → Fin 1024 → EReal) (j : Fin 1024) : EReal :=
  r j + Ideal.ofBits FTy.f32 0x3F000000#32 * ∑ c, gated r g wg wu c * wd c j

/-- A sum over the 2816 columns is the sum over the first 1536 plus the sum over the last 1280. -/
theorem sum_columns (f : Fin 2816 → EReal) :
    ∑ c, f c = (∑ c : Fin 1536, f ⟨c.val, by omega⟩) + ∑ c : Fin 1280, f ⟨1536 + c.val, by omega⟩ :=
  Fin.sum_univ_add (a := 1536) (b := 1280) f

/-- A weight stack of one member as a matrix. -/
def mat {a b : Nat} (w : (⟨3, ![1, a, b]⟩ : Shape).Idx → EReal) (k : Fin a) (c : Fin b) : EReal :=
  w (ix3 0 k c)

/-- Four blocks of 128 rows laid one after another. -/
def stacked (w : (⟨4, ![1, 4, 128, 128]⟩ : Shape).Idx → EReal) (n : Fin 512) (c : Fin 128) : EReal :=
  w (ix4 0 ⟨n.val / 128, by omega⟩ ⟨n.val % 128, by omega⟩ c)

/-- The gains as a row. -/
def gains (g : (⟨2, ![1, 1024]⟩ : Shape).Idx → EReal) (k : Fin 1024) : EReal := g (ix2 0 k)

/-- Row `n` of the prompt, its sequences of 2048 rows laid one after another. -/
def promptRow (x : (⟨3, ![16, 2048, 1024]⟩ : Shape).Idx → EReal) (n : Fin 32768) (k : Fin 1024) : EReal :=
  x (ix3 ⟨n.val / 2048, by omega⟩ ⟨n.val % 2048, by omega⟩ k)

/-- Row `n` of the sample. -/
def sampleRow (x : (⟨3, ![32, 1, 1024]⟩ : Shape).Idx → EReal) (n : Fin 32) (k : Fin 1024) : EReal :=
  x (ix3 n 0 k)

end Cert.Ffn.Row
-- ==== Proof.FfnRowWise.lean ====
module

public import proofs.«01_k».proof.Proof.FfnIdealFrame
public import proofs.«01_k».proof.Proof.FfnRow
public import Idealize.ShloMosaic.Lib.Pointwise
public import Idealize.ShloMosaic.Lib.WordCmp

/-!
The values a step of the kernel leaves, read row by row: the prompt block and the sample block are
the half step of each of their rows, and the eight weight blocks are handed on as they came.
-/

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Cert.Ffn.Row

/-- The normed prompt block is every row normed. -/
theorem promptNormed (a : Vec Ideal S1024x1024 .f32) (g : Vec Ideal S1x1024 .f32)
    (p k : Fin 1024) :
    k0_pay12 a g (ix2 p k) = normed (fun k => a (ix2 p k)) (fun k => g (ix2 0 k)) k := by
  unfold k0_pay12 k0_pay11 normed
  pointwise

/-- The normed sample block is every row normed. -/
theorem sampleNormed (a : Vec Ideal S32x1024 .f32) (g : Vec Ideal S1x1024 .f32)
    (p : Fin 32) (k : Fin 1024) :
    k0_pay6 a g (ix2 p k) = normed (fun k => a (ix2 p k)) (fun k => g (ix2 0 k)) k := by
  unfold k0_pay6 k0_pay5 normed
  pointwise

/-- The first part of the columns. -/
theorem colsA_eq (w : Vec Ideal S1024x2816 .bf16) :
    colsA w = fun i => w (ix2 (i 0) ⟨(i 1).val, by have := (i 1).isLt; simp at this; omega⟩) := by
  funext i
  unfold colsA
  pointwise

/-- The last part of the columns. -/
theorem colsB_eq (w : Vec Ideal S1024x2816 .bf16) :
    colsB w = fun i => w (ix2 (i 0) ⟨1536 + (i 1).val, by have := (i 1).isLt; simp at this; omega⟩) := by
  funext i
  unfold colsB
  pointwise

/-- The first part of the rows. -/
theorem rowsA_eq (w : Vec Ideal S2816x1024 .bf16) :
    rowsA w = fun i => w (ix2 ⟨(i 0).val, by have := (i 0).isLt; simp at this; omega⟩ (i 1)) := by
  funext i
  unfold rowsA
  pointwise

/-- The last part of the rows. -/
theorem rowsB_eq (w : Vec Ideal S2816x1024 .bf16) :
    rowsB w = fun i => w (ix2 ⟨1536 + (i 0).val, by have := (i 0).isLt; simp at this; omega⟩ (i 1)) := by
  funext i
  unfold rowsB
  pointwise

/-- The prompt block a step leaves is the half step of every row. -/
theorem promptOut_row (x : Ins Ideal) (p : Fin 1024) (j : Fin 1024) :
    promptOut x (ix2 p j) = halfStep (fun k => x.x0 (ix2 p k)) (fun k => x.x2 (ix2 0 k))
      (fun k c => x.x3 (ix2 k c)) (fun k c => x.x4 (ix2 k c)) (fun c j => x.x5 (ix2 c j)) j := by
  unfold promptOut
  rw [colsA_eq x.x3, colsA_eq x.x4, colsB_eq x.x3, colsB_eq x.x4, rowsA_eq x.x5, rowsB_eq x.x5]
  unfold k0_pay15 k0_pay14 k0_pay13 k0_pay11
  unfold halfStep
  rw [sum_columns]
  unfold gated column
  pointwise
  simp only [promptNormed]

/-- The sample block the first step leaves is the half step of every row. -/
theorem sampleOut_row (x : Ins Ideal) (p : Fin 32) (j : Fin 1024) :
    sampleOut x (ix2 p j) = halfStep (fun k => x.x1 (ix2 p k)) (fun k => x.x2 (ix2 0 k))
      (fun k c => x.x3 (ix2 k c)) (fun k c => x.x4 (ix2 k c)) (fun c j => x.x5 (ix2 c j)) j := by
  unfold sampleOut
  rw [colsA_eq x.x3, colsA_eq x.x4, colsB_eq x.x3, colsB_eq x.x4, rowsA_eq x.x5, rowsB_eq x.x5]
  unfold k0_pay10 k0_pay9 k0_pay8 k0_pay7 k0_pay5
  unfold halfStep
  rw [sum_columns]
  unfold gated column
  pointwise
  simp only [sampleNormed]

end Cert.FfnIdeal.Body
-- ==== Proof.FfnValue.lean ====
module

public import proofs.«01_k».proof.Proof.FfnRowWise
public import Idealize.ShloMosaic.Lib.Claim
public import Idealize.ShloMosaic.Lib.Pipeline.ValueKit

/-!
The ten results of the kernel as functions of its arguments: the two activations are the half step
of each row, the eight weights come out entry by entry as they went in.
-/

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Cert.Ffn.Row

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![min t.val 21, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![min t.val 15, 0] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![0, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![min t.val 21, 0] := by decide +kernel
theorem idx19 : ∀ t : Fin cfg0.N, win0_19.index t = ![t.val, 0] := by decide +kernel
theorem idx20 : ∀ t : Fin cfg0.N, win0_20.index t = ![t.val, 0] := by decide +kernel
theorem idx21 : ∀ t : Fin cfg0.N, win0_21.index t = ![t.val, 0] := by decide +kernel
theorem idx22 : ∀ t : Fin cfg0.N, win0_22.index t = ![min t.val 15, 0] := by decide +kernel
theorem idx23 : ∀ t : Fin cfg0.N, win0_23.index t = ![t.val, 0] := by decide +kernel

/-- A step's prompt rows. -/
theorem iblk0 (c : Dev nD) (t : Fin cfg0.N) (a : Fin 1024) (b : Fin 1024) :
    iblk m c 0 t (ix2 a b) = promptRow (m ((c : Thread nD τ).loc main_arg0)) ⟨1024 * t.val + a.val, by have := t.isLt; have : t.val < 32 := this; omega⟩ b := by
  unfold iblk
  entry_read
  blk_simp [idx0 t]
  pointwise
  unfold promptRow
  blk_ext [idx0 t]

/-- The sample rows. -/
theorem iblk1 (c : Dev nD) (t : Fin cfg0.N) (a : Fin 32) (b : Fin 1024) :
    iblk m c 1 t (ix2 a b) = sampleRow (m ((c : Thread nD τ).loc main_arg1)) a b := by
  unfold iblk
  entry_read
  blk_simp [idx1 t]
  pointwise
  unfold sampleRow
  blk_ext [idx1 t]

/-- The gains. -/
theorem iblk2 (c : Dev nD) (t : Fin cfg0.N) (a : Fin 1) (b : Fin 1024) :
    iblk m c 2 t (ix2 a b) = gains (m ((c : Thread nD τ).loc main_arg2)) b := by
  unfold iblk
  entry_read
  blk_simp [idx2 t]
  pointwise
  unfold gains
  blk_ext [idx2 t]

/-- A feed-forward weight. -/
theorem iblk3 (c : Dev nD) (t : Fin cfg0.N) (a : Fin 1024) (b : Fin 2816) :
    iblk m c 3 t (ix2 a b) = mat (m ((c : Thread nD τ).loc main_arg3)) a b := by
  unfold iblk
  entry_read
  blk_simp [idx3 t]
  pointwise
  unfold mat
  blk_ext [idx3 t]

/-- A feed-forward weight. -/
theorem iblk4 (c : Dev nD) (t : Fin cfg0.N) (a : Fin 1024) (b : Fin 2816) :
    iblk m c 4 t (ix2 a b) = mat (m ((c : Thread nD τ).loc main_arg4)) a b := by
  unfold iblk
  entry_read
  blk_simp [idx4 t]
  pointwise
  unfold mat
  blk_ext [idx4 t]

/-- A feed-forward weight. -/
theorem iblk5 (c : Dev nD) (t : Fin cfg0.N) (a : Fin 2816) (b : Fin 1024) :
    iblk m c 5 t (ix2 a b) = mat (m ((c : Thread nD τ).loc main_arg5)) a b := by
  unfold iblk
  entry_read
  blk_simp [idx5 t]
  pointwise
  unfold mat
  blk_ext [idx5 t]

/-- The prompt result after the run. -/
theorem final14 (c : Dev nD) : (dats m 0 c).arrAt 14 cfg0.N
    = fun i : S32768x1024.Idx => halfStep (promptRow (m ((c : Thread nD τ).loc main_arg0)) (i 0)) (gains (m ((c : Thread nD τ).loc main_arg2))) (mat (m ((c : Thread nD τ).loc main_arg3))) (mat (m ((c : Thread nD τ).loc main_arg4))) (mat (m ((c : Thread nD τ).loc main_arg5))) (i 1) := by
  refine (dats m 0 c).arrAt_eq_of_covers 14 _ (by decide +kernel) fun t hf y => ?_
  blk_simp
  rw [after14]
  obtain ⟨p, j, rfl⟩ : ∃ (p j : Fin 1024), y = ix2 p j := ⟨y 0, y 1, eq_ix2 y⟩
  refine (promptOut_row _ p j).trans ?_
  simp only [ins, iblk0, iblk2, iblk3, iblk4, iblk5]
  congr 1
  · refine congrArg (promptRow _) (Fin.ext ?_)
    blk_simp [idx14 t]
    dsimp only
    omega
  · exact Fin.ext (by blk_simp [idx14 t]; try omega)

/-- The sample result after the run. -/
theorem final15 (c : Dev nD) : (dats m 0 c).arrAt 15 cfg0.N
    = fun i : S32x1024.Idx => halfStep (sampleRow (m ((c : Thread nD τ).loc main_arg1)) (i 0)) (gains (m ((c : Thread nD τ).loc main_arg2))) (mat (m ((c : Thread nD τ).loc main_arg3))) (mat (m ((c : Thread nD τ).loc main_arg4))) (mat (m ((c : Thread nD τ).loc main_arg5))) (i 1) := by
  refine (dats m 0 c).arrAt_eq_of_covers 15 _ (by decide +kernel) fun t hf y => ?_
  blk_simp
  rw [after15]
  obtain ⟨p, j, rfl⟩ : ∃ (p : Fin 32) (j : Fin 1024), y = ix2 p j := ⟨y 0, y 1, eq_ix2 y⟩
  refine (sampleOut_row _ p j).trans ?_
  simp only [ins, iblk1, iblk2, iblk3, iblk4, iblk5]
  congr 1
  · refine congrArg (sampleRow _) (Fin.ext ?_)
    blk_simp [idx15 t]
    try omega
  · exact Fin.ext (by blk_simp [idx15 t]; try omega)

/-- A later weight after the run. -/
theorem final16 (c : Dev nD) : (dats m 0 c).arrAt 16 cfg0.N
    = fun i : S1024x2816.Idx => mat (m ((c : Thread nD τ).loc main_arg6)) (i 0) (i 1) := by
  refine (dats m 0 c).arrAt_eq_of_covers 16 _ (by decide +kernel) fun t hf y => ?_
  blk_simp
  rw [after16]
  unfold k0_pay16 mat iblk
  entry_read
  pointwise
  blk_simp [idx6 t, idx16 t]
  pointwise
  blk_ext [idx6 t, idx16 t]

/-- A later weight after the run. -/
theorem final17 (c : Dev nD) : (dats m 0 c).arrAt 17 cfg0.N
    = fun i : S1024x2816.Idx => mat (m ((c : Thread nD τ).loc main_arg7)) (i 0) (i 1) := by
  refine (dats m 0 c).arrAt_eq_of_covers 17 _ (by decide +kernel) fun t hf y => ?_
  blk_simp
  rw [after17]
  unfold k0_pay17 mat iblk
  entry_read
  pointwise
  blk_simp [idx7 t, idx17 t]
  pointwise
  blk_ext [idx7 t, idx17 t]

/-- A later weight after the run. -/
theorem final18 (c : Dev nD) : (dats m 0 c).arrAt 18 cfg0.N
    = fun i : S2816x1024.Idx => mat (m ((c : Thread nD τ).loc main_arg8)) (i 0) (i 1) := by
  refine (dats m 0 c).arrAt_eq_of_covers 18 _ (by decide +kernel) fun t hf y => ?_
  blk_simp
  rw [after18]
  unfold k0_pay18 mat iblk
  entry_read
  pointwise
  blk_simp [idx8 t, idx18 t]
  pointwise
  blk_ext [idx8 t, idx18 t]

/-- A later weight after the run. -/
theorem final19 (c : Dev nD) : (dats m 0 c).arrAt 19 cfg0.N
    = fun i : S1024x4864.Idx => mat (m ((c : Thread nD τ).loc main_arg9)) (i 0) (i 1) := by
  refine (dats m 0 c).arrAt_eq_of_covers 19 _ (by decide +kernel) fun t hf y => ?_
  blk_simp
  rw [after19]
  unfold k0_pay19 mat iblk
  entry_read
  pointwise
  blk_simp [idx9 t, idx19 t]
  pointwise
  blk_ext [idx9 t, idx19 t]

/-- A later weight after the run. -/
theorem final20 (c : Dev nD) : (dats m 0 c).arrAt 20 cfg0.N
    = fun i : S512x128.Idx => stacked (m ((c : Thread nD τ).loc main_arg10)) (i 0) (i 1) := by
  refine (dats m 0 c).arrAt_eq_of_covers 20 _ (by decide +kernel) fun t hf y => ?_
  have e : ((cfg0.win 10).blk t).view.emb y = ((cfg0.win 20).blk t).view.emb y := by
    blk_ext [idx10 t, idx20 t]
  rw [after20]
  unfold k0_pay1 iblk
  entry_read
  pointwise
  blk_simp
  pointwise
  exact congrArg (fun i : S512x128.Idx => stacked (m ((c : Thread nD τ).loc main_arg10)) (i 0) (i 1)) e

/-- A later weight after the run. -/
theorem final21 (c : Dev nD) : (dats m 0 c).arrAt 21 cfg0.N
    = fun i : S512x1024.Idx => mat (m ((c : Thread nD τ).loc main_arg11)) (i 0) (i 1) := by
  refine (dats m 0 c).arrAt_eq_of_covers 21 _ (by decide +kernel) fun t hf y => ?_
  blk_simp
  rw [after21]
  unfold k0_pay2 mat iblk
  entry_read
  pointwise
  blk_simp [idx11 t, idx21 t]
  pointwise
  blk_ext [idx11 t, idx21 t]

/-- A later weight after the run. -/
theorem final22 (c : Dev nD) : (dats m 0 c).arrAt 22 cfg0.N
    = fun i : S256x1024.Idx => mat (m ((c : Thread nD τ).loc main_arg12)) (i 0) (i 1) := by
  refine (dats m 0 c).arrAt_eq_of_covers 22 _ (by decide +kernel) fun t hf y => ?_
  blk_simp
  rw [after22]
  unfold k0_pay3 mat iblk
  entry_read
  pointwise
  blk_simp [idx12 t, idx22 t]
  pointwise
  blk_ext [idx12 t, idx22 t]

/-- A later weight after the run. -/
theorem final23 (c : Dev nD) : (dats m 0 c).arrAt 23 cfg0.N
    = fun i : S1024x1024.Idx => mat (m ((c : Thread nD τ).loc main_arg13)) (i 0) (i 1) := by
  refine (dats m 0 c).arrAt_eq_of_covers 23 _ (by decide +kernel) fun t hf y => ?_
  blk_simp
  rw [after23]
  unfold k0_pay4 mat iblk
  entry_read
  pointwise
  blk_simp [idx13 t, idx23 t]
  pointwise
  blk_ext [idx13 t, idx23 t]

end Cert.FfnIdeal.Body
-- ==== Proof.FfnRef.lean ====
module

public import proofs.«01_k».proof.Proof.FfnRow
public import proofs.«01_k».proof.Proof.Gen.FfnRefIdeal.Read
public import Idealize.ShloMosaic.Lib.Pointwise
public import Idealize.ShloMosaic.Lib.WordCmp

/-!
The ten results of the reference, read row by row: the same half step of each row, the same weights.
-/

@[expose] public section

set_option maxRecDepth 16384

noncomputable section

namespace Cert.FfnRefIdeal.Read

open Cert.FfnRefIdeal Cert.FfnRefIdeal.Gen
open Idealize.ShloMosaic Idealize.ShloMosaic.TcCoe Idealize.ShloMosaic.Tactic
open Cert.Ffn.Row

variable (x : (⟨S16x2048x1024, .f32⟩ : BufTy).Contents (Elt Ideal)) (xs : (⟨S32x1x1024, .f32⟩ : BufTy).Contents (Elt Ideal))
  (g : (⟨S1x1024, .f32⟩ : BufTy).Contents (Elt Ideal)) (wg wu : (⟨S1x1024x2816, .f32⟩ : BufTy).Contents (Elt Ideal))
  (wd : (⟨S1x2816x1024, .f32⟩ : BufTy).Contents (Elt Ideal))

/-- The normed prompt. -/
theorem normed_prompt (a : Fin 16) (b : Fin 2048) (k : Fin 1024) :
    val_main_v22 (F := Ideal) x g (ix3 a b k) = normed (fun l => x (ix3 a b l)) (gains g) k := by
  unfold val_main_v22 val_main_v19 val_main_v18 val_main_v17 val_main_v16 val_main_v15 val_main_v14 val_main_v13
    val_main_v12 val_main_v11 val_main_v10 val_main_v21 val_main_v20 val_main_v9 val_main_cst val_main_cst_0
    val_main_cst_1 normed gains
  pointwise

/-- The gated columns of the prompt. -/
theorem gated_prompt (a : Fin 16) (b : Fin 2048) (k : Fin 2816) :
    val_main_v28 (F := Ideal) x g wg wu (ix3 a b k) = gated (fun l => x (ix3 a b l)) (gains g) (mat wg) (mat wu) k := by
  unfold val_main_v28 val_main_v25 val_main_v27 val_main_call0_v5 val_main_call0_v4 val_main_call0_v3 val_main_call0_v2
    val_main_call0_v1 val_main_call0_v0 val_main_call0_cst val_main_call0_cst_0
    val_main_v24 val_main_v23 val_main_v26 gated column mat
  pointwise
  simp only [normed_prompt]
  rfl

/-- The prompt result. -/
theorem prompt_eq : val_main_v34 (F := Ideal) x g wg wu wd
    = fun i : S32768x1024.Idx => halfStep (promptRow x (i 0)) (gains g) (mat wg) (mat wu) (mat wd) (i 1) := by
  funext i
  unfold val_main_v34 val_main_v33 val_main_v32 val_main_v31 val_main_v30 val_main_v29 val_main_cst_2 halfStep mat
  pointwise
  simp only [gated_prompt]
  rfl

/-- The normed sample. -/
theorem normed_sample (a : Fin 32) (b : Fin 1) (k : Fin 1024) :
    val_main_v48 (F := Ideal) xs g (ix3 a b k) = normed (fun l => xs (ix3 a b l)) (gains g) k := by
  unfold val_main_v48 val_main_v45 val_main_v44 val_main_v43 val_main_v42 val_main_v41 val_main_v40 val_main_v39
    val_main_v38 val_main_v37 val_main_v36 val_main_v47 val_main_v46 val_main_v35 val_main_cst_3 val_main_cst_4
    val_main_cst_5 normed gains
  obtain rfl : b = 0 := Subsingleton.elim _ _
  pointwise

/-- The gated columns of the sample. -/
theorem gated_sample (a : Fin 32) (b : Fin 1) (k : Fin 2816) :
    val_main_v54 (F := Ideal) xs g wg wu (ix3 a b k) = gated (fun l => xs (ix3 a b l)) (gains g) (mat wg) (mat wu) k := by
  unfold val_main_v54 val_main_v51 val_main_v53 val_main_call1_v5 val_main_call1_v4 val_main_call1_v3 val_main_call1_v2
    val_main_call1_v1 val_main_call1_v0 val_main_call1_cst val_main_call1_cst_0
    val_main_v50 val_main_v49 val_main_v52 gated column mat
  pointwise
  simp only [normed_sample]
  rfl

/-- The sample result. -/
theorem sample_eq : val_main_v60 (F := Ideal) xs g wg wu wd
    = fun i : S32x1024.Idx => halfStep (sampleRow xs (i 0)) (gains g) (mat wg) (mat wu) (mat wd) (i 1) := by
  funext i
  obtain ⟨n, j, rfl⟩ : ∃ (n : Fin 32) (j : Fin 1024), i = ix2 n j := ⟨i 0, i 1, eq_ix2 i⟩
  unfold val_main_v60 val_main_v59 val_main_v58 val_main_v57 val_main_v56 val_main_v55 val_main_cst_6 halfStep mat
  pointwise
  simp only [gated_sample]
  rfl

/-- A later weight, entry by entry. -/
theorem w61_eq (w) : val_main_v61 (F := Ideal) w = fun i : S1024x2816.Idx => mat w (i 0) (i 1) := by
  funext i
  unfold val_main_v61 val_main_v0 mat
  pointwise

/-- A later weight, entry by entry. -/
theorem w62_eq (w) : val_main_v62 (F := Ideal) w = fun i : S1024x2816.Idx => mat w (i 0) (i 1) := by
  funext i
  unfold val_main_v62 val_main_v1 mat
  pointwise

/-- A later weight, entry by entry. -/
theorem w63_eq (w) : val_main_v63 (F := Ideal) w = fun i : S2816x1024.Idx => mat w (i 0) (i 1) := by
  funext i
  unfold val_main_v63 val_main_v2 mat
  pointwise

/-- A later weight, entry by entry. -/
theorem w64_eq (w) : val_main_v64 (F := Ideal) w = fun i : S1024x4864.Idx => mat w (i 0) (i 1) := by
  funext i
  unfold val_main_v64 val_main_v3 mat
  pointwise

/-- A later weight, entry by entry. -/
theorem w65_eq (w) : val_main_v65 (F := Ideal) w = fun i : S512x128.Idx => stacked w (i 0) (i 1) := by
  funext i
  unfold val_main_v65 val_main_v5 val_main_v4 stacked
  pointwise

/-- A later weight, entry by entry. -/
theorem w66_eq (w) : val_main_v66 (F := Ideal) w = fun i : S512x1024.Idx => mat w (i 0) (i 1) := by
  funext i
  unfold val_main_v66 val_main_v6 mat
  pointwise

/-- A later weight, entry by entry. -/
theorem w67_eq (w) : val_main_v67 (F := Ideal) w = fun i : S256x1024.Idx => mat w (i 0) (i 1) := by
  funext i
  unfold val_main_v67 val_main_v7 mat
  pointwise

/-- A later weight, entry by entry. -/
theorem w68_eq (w) : val_main_v68 (F := Ideal) w = fun i : S1024x1024.Idx => mat w (i 0) (i 1) := by
  funext i
  unfold val_main_v68 val_main_v8 mat
  pointwise

end Cert.FfnRefIdeal.Read
-- ==== Proof.FfnClaims.lean ====
module

public import proofs.«01_k».proof.Defs
public import proofs.«01_k».proof.Proof.Gen.FfnRefIdeal
public import proofs.«01_k».proof.Proof.Gen.FfnRefIdeal.Run
public import proofs.«01_k».proof.Proof.FfnValue
public import proofs.«01_k».proof.Proof.FfnRef
public import Idealize.ShloMosaic.Adequacy
public import Idealize.ShloMosaic.Init

/-!
# The claims about the first feed-forward half step
-/

@[expose] public section
noncomputable section
namespace Cert.Ffn.Row
open Idealize.ShloMosaic Idealize.SL.Sem

/-- The reference leaves its arguments and its semaphores as they were. -/
theorem reference_frame : Cert.quiescent_FfnRefIdeal := fun m ρ _ =>
  (θ_run Cert.FfnRefIdeal.defs _ _).mono
    (fun r h => ⟨fun c => (h c).2.2.2.2.2.2.2.2.2.2, sem_eq_zero_of_no_sems (by decide) r.2⟩)
    (Cert.FfnRefIdeal.Value.run (F := Ideal) m ρ)

/-- The kernel's run: its ten results by name, its arguments as they were. -/
theorem kernel_run (m : (ℓ : Loc Cert.FfnIdeal.nD Cert.FfnIdeal.τ Cert.FfnIdeal.sig) → Buf (Elt Ideal) ℓ) (ρ : Dev Cert.FfnIdeal.nD → PrngReg) :
    θ_run (Cert.FfnIdeal.defs (F := Ideal)) (onTc (τ := Cert.FfnIdeal.τ) (Cert.FfnIdeal.main (F := Ideal))) ⟨m, fun _ => 0, ρ⟩ fun r => ∀ c : Dev Cert.FfnIdeal.nD,
      r.2.mem ((c.tc : Thread Cert.FfnIdeal.nD Cert.FfnIdeal.τ).loc Cert.FfnIdeal.main_v19_0) = (Cert.FfnIdeal.Body.dats m 0 c).arrAt 14 Cert.FfnIdeal.cfg0.N
      ∧ r.2.mem ((c.tc : Thread Cert.FfnIdeal.nD Cert.FfnIdeal.τ).loc Cert.FfnIdeal.main_v19_1) = (Cert.FfnIdeal.Body.dats m 0 c).arrAt 15 Cert.FfnIdeal.cfg0.N
      ∧ r.2.mem ((c.tc : Thread Cert.FfnIdeal.nD Cert.FfnIdeal.τ).loc Cert.FfnIdeal.main_v19_2) = (Cert.FfnIdeal.Body.dats m 0 c).arrAt 16 Cert.FfnIdeal.cfg0.N
      ∧ r.2.mem ((c.tc : Thread Cert.FfnIdeal.nD Cert.FfnIdeal.τ).loc Cert.FfnIdeal.main_v19_3) = (Cert.FfnIdeal.Body.dats m 0 c).arrAt 17 Cert.FfnIdeal.cfg0.N
      ∧ r.2.mem ((c.tc : Thread Cert.FfnIdeal.nD Cert.FfnIdeal.τ).loc Cert.FfnIdeal.main_v19_4) = (Cert.FfnIdeal.Body.dats m 0 c).arrAt 18 Cert.FfnIdeal.cfg0.N
      ∧ r.2.mem ((c.tc : Thread Cert.FfnIdeal.nD Cert.FfnIdeal.τ).loc Cert.FfnIdeal.main_v19_5) = (Cert.FfnIdeal.Body.dats m 0 c).arrAt 19 Cert.FfnIdeal.cfg0.N
      ∧ r.2.mem ((c.tc : Thread Cert.FfnIdeal.nD Cert.FfnIdeal.τ).loc Cert.FfnIdeal.main_v19_6) = (Cert.FfnIdeal.Body.dats m 0 c).arrAt 20 Cert.FfnIdeal.cfg0.N
      ∧ r.2.mem ((c.tc : Thread Cert.FfnIdeal.nD Cert.FfnIdeal.τ).loc Cert.FfnIdeal.main_v19_7) = (Cert.FfnIdeal.Body.dats m 0 c).arrAt 21 Cert.FfnIdeal.cfg0.N
      ∧ r.2.mem ((c.tc : Thread Cert.FfnIdeal.nD Cert.FfnIdeal.τ).loc Cert.FfnIdeal.main_v19_8) = (Cert.FfnIdeal.Body.dats m 0 c).arrAt 22 Cert.FfnIdeal.cfg0.N
      ∧ r.2.mem ((c.tc : Thread Cert.FfnIdeal.nD Cert.FfnIdeal.τ).loc Cert.FfnIdeal.main_v19_9) = (Cert.FfnIdeal.Body.dats m 0 c).arrAt 23 Cert.FfnIdeal.cfg0.N
      ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13) :=
  (θ_run Cert.FfnIdeal.defs _ _).mono
    (fun r h c => ⟨(h.1 c).1 14, (h.1 c).1 15, (h.1 c).1 16, (h.1 c).1 17, (h.1 c).1 18, (h.1 c).1 19, (h.1 c).1 20, (h.1 c).1 21, (h.1 c).1 22, (h.1 c).1 23, h.2.1 c⟩)
    (θ_run_and (Cert.FfnIdeal.Body.run_main (F := Ideal) m ρ) (Cert.FfnIdeal.Body.frame (F := Ideal) m ρ))

/-- The reference's run: its ten results by name, its arguments as they were. -/
theorem reference_run (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ fun r => ∀ c : Dev Cert.FfnRefIdeal.nD,
      r.2.mem ((c.tc : Thread Cert.FfnRefIdeal.nD Cert.FfnRefIdeal.τ).loc Cert.FfnRefIdeal.main_v34) = Cert.FfnRefIdeal.Read.val_main_v34 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))
      ∧ r.2.mem ((c.tc : Thread Cert.FfnRefIdeal.nD Cert.FfnRefIdeal.τ).loc Cert.FfnRefIdeal.main_v60) = Cert.FfnRefIdeal.Read.val_main_v60 (F := Ideal) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))
      ∧ r.2.mem ((c.tc : Thread Cert.FfnRefIdeal.nD Cert.FfnRefIdeal.τ).loc Cert.FfnRefIdeal.main_v61) = Cert.FfnRefIdeal.Read.val_main_v61 (F := Ideal) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v62) = Cert.FfnRefIdeal.Read.val_main_v62 (F := Ideal) (m ((c.tc : Thread Cert.FfnRefIdeal.nD Cert.FfnRefIdeal.τ).loc Cert.FfnRefIdeal.main_arg7))
      ∧ r.2.mem ((c.tc : Thread Cert.FfnRefIdeal.nD Cert.FfnRefIdeal.τ).loc Cert.FfnRefIdeal.main_v63) = Cert.FfnRefIdeal.Read.val_main_v63 (F := Ideal) (m ((c.tc : Thread Cert.FfnRefIdeal.nD Cert.FfnRefIdeal.τ).loc Cert.FfnRefIdeal.main_arg8))
      ∧ r.2.mem ((c.tc : Thread Cert.FfnRefIdeal.nD Cert.FfnRefIdeal.τ).loc Cert.FfnRefIdeal.main_v64) = Cert.FfnRefIdeal.Read.val_main_v64 (F := Ideal) (m ((c.tc : Thread Cert.FfnRefIdeal.nD Cert.FfnRefIdeal.τ).loc Cert.FfnRefIdeal.main_arg9))
      ∧ r.2.mem ((c.tc : Thread Cert.FfnRefIdeal.nD Cert.FfnRefIdeal.τ).loc Cert.FfnRefIdeal.main_v65) = Cert.FfnRefIdeal.Read.val_main_v65 (F := Ideal) (m ((c.tc : Thread Cert.FfnRefIdeal.nD Cert.FfnRefIdeal.τ).loc Cert.FfnRefIdeal.main_arg10))
      ∧ r.2.mem ((c.tc : Thread Cert.FfnRefIdeal.nD Cert.FfnRefIdeal.τ).loc Cert.FfnRefIdeal.main_v66) = Cert.FfnRefIdeal.Read.val_main_v66 (F := Ideal) (m ((c.tc : Thread Cert.FfnRefIdeal.nD Cert.FfnRefIdeal.τ).loc Cert.FfnRefIdeal.main_arg11))
      ∧ r.2.mem ((c.tc : Thread Cert.FfnRefIdeal.nD Cert.FfnRefIdeal.τ).loc Cert.FfnRefIdeal.main_v67) = Cert.FfnRefIdeal.Read.val_main_v67 (F := Ideal) (m ((c.tc : Thread Cert.FfnRefIdeal.nD Cert.FfnRefIdeal.τ).loc Cert.FfnRefIdeal.main_arg12))
      ∧ r.2.mem ((c.tc : Thread Cert.FfnRefIdeal.nD Cert.FfnRefIdeal.τ).loc Cert.FfnRefIdeal.main_v68) = Cert.FfnRefIdeal.Read.val_main_v68 (F := Ideal) (m ((c.tc : Thread Cert.FfnRefIdeal.nD Cert.FfnRefIdeal.τ).loc Cert.FfnRefIdeal.main_arg13))
      ∧ r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13) := by
  refine (θ_run Cert.FfnRefIdeal.defs _ _).mono (fun _ h c => ?_) (Cert.FfnRefIdeal.Value.run (F := Ideal) m ρ)
  obtain ⟨r0, r1, r2, r3, r4, r5, r6, r7, r8, r9, rest⟩ := h c
  refine ⟨r0.trans (Cert.FfnRefIdeal.Read.val_main_v34_eq _ _ _ _ _), r1.trans (Cert.FfnRefIdeal.Read.val_main_v60_eq _ _ _ _ _), r2.trans (Cert.FfnRefIdeal.Read.val_main_v61_eq _), r3.trans (Cert.FfnRefIdeal.Read.val_main_v62_eq _), r4.trans (Cert.FfnRefIdeal.Read.val_main_v63_eq _), r5.trans (Cert.FfnRefIdeal.Read.val_main_v64_eq _), r6.trans (Cert.FfnRefIdeal.Read.val_main_v65_eq _), r7.trans (Cert.FfnRefIdeal.Read.val_main_v66_eq _), r8.trans (Cert.FfnRefIdeal.Read.val_main_v67_eq _), r9.trans (Cert.FfnRefIdeal.Read.val_main_v68_eq _), rest⟩

/-- Result 0 is the same. -/
theorem same0 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)) (a2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) (a3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) (a4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) (a5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    Cert.FfnRefIdeal.Read.val_main_v34 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5))
      = (Cert.FfnIdeal.Body.dats m 0 c).arrAt 14 Cert.FfnIdeal.cfg0.N := by
  rw [a0, a2, a3, a4, a5]
  exact (Cert.FfnRefIdeal.Read.prompt_eq _ _ _ _ _).trans (Cert.FfnIdeal.Body.final14 m c).symm

/-- Result 1 is the same. -/
theorem same1 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) (a2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) (a3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) (a4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) (a5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    Cert.FfnRefIdeal.Read.val_main_v60 (F := Ideal) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5))
      = (Cert.FfnIdeal.Body.dats m 0 c).arrAt 15 Cert.FfnIdeal.cfg0.N := by
  rw [a1, a2, a3, a4, a5]
  exact (Cert.FfnRefIdeal.Read.sample_eq _ _ _ _ _).trans (Cert.FfnIdeal.Body.final15 m c).symm

/-- Result 2 is the same. -/
theorem same2 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a6 : m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) :
    Cert.FfnRefIdeal.Read.val_main_v61 (F := Ideal) (m' ((c.tc : Thread Cert.FfnRefIdeal.nD Cert.FfnRefIdeal.τ).loc Cert.FfnRefIdeal.main_arg6))
      = (Cert.FfnIdeal.Body.dats m 0 c).arrAt 16 Cert.FfnIdeal.cfg0.N := by
  rw [a6]
  exact (Cert.FfnRefIdeal.Read.w61_eq _).trans (Cert.FfnIdeal.Body.final16 m c).symm

/-- Result 3 is the same. -/
theorem same3 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a7 : m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) :
    Cert.FfnRefIdeal.Read.val_main_v62 (F := Ideal) (m' ((c.tc : Thread Cert.FfnRefIdeal.nD Cert.FfnRefIdeal.τ).loc Cert.FfnRefIdeal.main_arg7))
      = (Cert.FfnIdeal.Body.dats m 0 c).arrAt 17 Cert.FfnIdeal.cfg0.N := by
  rw [a7]
  exact (Cert.FfnRefIdeal.Read.w62_eq _).trans (Cert.FfnIdeal.Body.final17 m c).symm

/-- Result 4 is the same. -/
theorem same4 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a8 : m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) :
    Cert.FfnRefIdeal.Read.val_main_v63 (F := Ideal) (m' ((c.tc : Thread Cert.FfnRefIdeal.nD Cert.FfnRefIdeal.τ).loc Cert.FfnRefIdeal.main_arg8))
      = (Cert.FfnIdeal.Body.dats m 0 c).arrAt 18 Cert.FfnIdeal.cfg0.N := by
  rw [a8]
  exact (Cert.FfnRefIdeal.Read.w63_eq _).trans (Cert.FfnIdeal.Body.final18 m c).symm

/-- Result 5 is the same. -/
theorem same5 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a9 : m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) :
    Cert.FfnRefIdeal.Read.val_main_v64 (F := Ideal) (m' ((c.tc : Thread Cert.FfnRefIdeal.nD Cert.FfnRefIdeal.τ).loc Cert.FfnRefIdeal.main_arg9))
      = (Cert.FfnIdeal.Body.dats m 0 c).arrAt 19 Cert.FfnIdeal.cfg0.N := by
  rw [a9]
  exact (Cert.FfnRefIdeal.Read.w64_eq _).trans (Cert.FfnIdeal.Body.final19 m c).symm

/-- Result 6 is the same. -/
theorem same6 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a10 : m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) :
    Cert.FfnRefIdeal.Read.val_main_v65 (F := Ideal) (m' ((c.tc : Thread Cert.FfnRefIdeal.nD Cert.FfnRefIdeal.τ).loc Cert.FfnRefIdeal.main_arg10))
      = (Cert.FfnIdeal.Body.dats m 0 c).arrAt 20 Cert.FfnIdeal.cfg0.N := by
  rw [a10]
  exact (Cert.FfnRefIdeal.Read.w65_eq _).trans (Cert.FfnIdeal.Body.final20 m c).symm

/-- Result 7 is the same. -/
theorem same7 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a11 : m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) :
    Cert.FfnRefIdeal.Read.val_main_v66 (F := Ideal) (m' ((c.tc : Thread Cert.FfnRefIdeal.nD Cert.FfnRefIdeal.τ).loc Cert.FfnRefIdeal.main_arg11))
      = (Cert.FfnIdeal.Body.dats m 0 c).arrAt 21 Cert.FfnIdeal.cfg0.N := by
  rw [a11]
  exact (Cert.FfnRefIdeal.Read.w66_eq _).trans (Cert.FfnIdeal.Body.final21 m c).symm

/-- Result 8 is the same. -/
theorem same8 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a12 : m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)) :
    Cert.FfnRefIdeal.Read.val_main_v67 (F := Ideal) (m' ((c.tc : Thread Cert.FfnRefIdeal.nD Cert.FfnRefIdeal.τ).loc Cert.FfnRefIdeal.main_arg12))
      = (Cert.FfnIdeal.Body.dats m 0 c).arrAt 22 Cert.FfnIdeal.cfg0.N := by
  rw [a12]
  exact (Cert.FfnRefIdeal.Read.w67_eq _).trans (Cert.FfnIdeal.Body.final22 m c).symm

/-- Result 9 is the same. -/
theorem same9 (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (a13 : m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)) :
    Cert.FfnRefIdeal.Read.val_main_v68 (F := Ideal) (m' ((c.tc : Thread Cert.FfnRefIdeal.nD Cert.FfnRefIdeal.τ).loc Cert.FfnRefIdeal.main_arg13))
      = (Cert.FfnIdeal.Body.dats m 0 c).arrAt 23 Cert.FfnIdeal.cfg0.N := by
  rw [a13]
  exact (Cert.FfnRefIdeal.Read.w68_eq _).trans (Cert.FfnIdeal.Body.final23 m c).symm

set_option maxHeartbeats 4000000 in
/-- The ten results of the kernel are the ten results of the reference. -/
theorem algebraic : Cert.algebraic_FfnIdeal_FfnRefIdeal := by
  intro m ρ m' ρ' _ hagree
  refine ⟨fun c => (Cert.FfnIdeal.Body.dats m 0 c).arrAt 14 Cert.FfnIdeal.cfg0.N,
    fun c => (Cert.FfnIdeal.Body.dats m 0 c).arrAt 15 Cert.FfnIdeal.cfg0.N,
    fun c => (Cert.FfnIdeal.Body.dats m 0 c).arrAt 16 Cert.FfnIdeal.cfg0.N,
    fun c => (Cert.FfnIdeal.Body.dats m 0 c).arrAt 17 Cert.FfnIdeal.cfg0.N,
    fun c => (Cert.FfnIdeal.Body.dats m 0 c).arrAt 18 Cert.FfnIdeal.cfg0.N,
    fun c => (Cert.FfnIdeal.Body.dats m 0 c).arrAt 19 Cert.FfnIdeal.cfg0.N,
    fun c => (Cert.FfnIdeal.Body.dats m 0 c).arrAt 20 Cert.FfnIdeal.cfg0.N,
    fun c => (Cert.FfnIdeal.Body.dats m 0 c).arrAt 21 Cert.FfnIdeal.cfg0.N,
    fun c => (Cert.FfnIdeal.Body.dats m 0 c).arrAt 22 Cert.FfnIdeal.cfg0.N,
    fun c => (Cert.FfnIdeal.Body.dats m 0 c).arrAt 23 Cert.FfnIdeal.cfg0.N, kernel_run m ρ, ?_⟩
  refine (θ_run Cert.FfnRefIdeal.defs _ _).mono (fun _ h c => ?_) (reference_run m' ρ')
  obtain ⟨r0, r1, r2, r3, r4, r5, r6, r7, r8, r9, rest⟩ := h c
  obtain ⟨a0, a1, a2, a3, a4, a5, a6, a7, a8, a9, a10, a11, a12, a13⟩ := hagree c
  exact ⟨r0.trans (same0 m m' c a0 a2 a3 a4 a5),
    r1.trans (same1 m m' c a1 a2 a3 a4 a5),
    r2.trans (same2 m m' c a6),
    r3.trans (same3 m m' c a7),
    r4.trans (same4 m m' c a8),
    r5.trans (same5 m m' c a9),
    r6.trans (same6 m m' c a10),
    r7.trans (same7 m m' c a11),
    r8.trans (same8 m m' c a12),
    r9.trans (same9 m m' c a13), rest⟩

end Cert.Ffn.Row
-- ==== Proof.MixStage.lean ====
module

public import Idealize.ShloMosaic.Lib.Pointwise
public import Idealize.ShloMosaic.Lib.Pipeline.ValueKit

/-!
Rows stored with a stride of four into one slot of a scratch buffer and read back whole.
-/

@[expose] public section

noncomputable section

namespace Cert.Mix.Stage

open Idealize.ShloMosaic

/-- The rows of residue stream `r` of head pair `h`, of four. -/
def stream4 {E : Type} (o : (⟨5, ![1, 2, 4, 128, 128]⟩ : Shape).Idx → E) {h r : Nat} (hh : h < 2) (hr : r < 4) :
    (⟨3, ![1, 128, 128]⟩ : Shape).Idx → E :=
  fun y => o (ix5 0 ⟨h, hh⟩ ⟨r, hr⟩ ⟨(y 1).val, (y 1).isLt⟩ ⟨(y 2).val, (y 2).isLt⟩)

/-- The rows of residue stream `r` of head pair `h`, of sixteen. -/
def stream16 {E : Type} (o : (⟨5, ![1, 2, 16, 32, 128]⟩ : Shape).Idx → E) {h r : Nat} (hh : h < 2) (hr : r < 16) :
    (⟨3, ![1, 32, 128]⟩ : Shape).Idx → E :=
  fun y => o (ix5 0 ⟨h, hh⟩ ⟨r, hr⟩ ⟨(y 1).val, (y 1).isLt⟩ ⟨(y 2).val, (y 2).isLt⟩)

/-- Four residue streams of 128 rows in token order: token `t` is row `t / 4` of stream `t % 4`. -/
def byFour {E : Type} (o : (⟨5, ![1, 2, 4, 128, 128]⟩ : Shape).Idx → E) {h : Nat} (hh : h < 2) : (⟨3, ![1, 512, 128]⟩ : Shape).Idx → E :=
  fun y => o (ix5 0 ⟨h, hh⟩ ⟨(y 1).val % 4, Nat.mod_lt _ (by decide)⟩
    ⟨(y 1).val / 4, Nat.div_lt_of_lt_mul (y 1).isLt⟩ ⟨(y 2).val, (y 2).isLt⟩)

/-- Sixteen residue streams of 32 rows in token order: token `t` is row `t / 16` of stream `t % 16`. -/
def bySixteen {E : Type} (o : (⟨5, ![1, 2, 16, 32, 128]⟩ : Shape).Idx → E) {h : Nat} (hh : h < 2) : (⟨3, ![1, 512, 128]⟩ : Shape).Idx → E :=
  fun y => o (ix5 0 ⟨h, hh⟩ ⟨(y 1).val % 16, Nat.mod_lt _ (by decide)⟩
    ⟨(y 1).val / 16, Nat.div_lt_of_lt_mul (y 1).isLt⟩ ⟨(y 2).val, (y 2).isLt⟩)

/-- Four pieces of `n` rows taken in turn, a row of each. -/
def inTurn {E : Type} {n m : Nat} (hm : m = 4 * n) (w0 w1 w2 w3 : (⟨3, ![1, n, 128]⟩ : Shape).Idx → E) :
    (⟨3, ![1, m, 128]⟩ : Shape).Idx → E := fun y =>
  (if (y 1).val % 4 = 0 then w0 else if (y 1).val % 4 = 1 then w1 else if (y 1).val % 4 = 2 then w2 else w3)
    (ix3 0 ⟨(y 1).val / 4, Nat.div_lt_of_lt_mul (Nat.lt_of_lt_of_eq (y 1).isLt hm)⟩ (y 2))

/-- Four streams taken in turn are in token order. -/
theorem inTurn_byFour {E : Type} (o : (⟨5, ![1, 2, 4, 128, 128]⟩ : Shape).Idx → E) {h : Nat} (hh : h < 2) (hm : 512 = 4 * 128)
    (h0 : 0 < 4) (h1 : 1 < 4) (h2 : 2 < 4) (h3 : 3 < 4) :
    inTurn hm (stream4 o hh (r := 0) h0) (stream4 o hh (r := 1) h1)
      (stream4 o hh (r := 2) h2) (stream4 o hh (r := 3) h3) = byFour o hh := by
  funext y
  unfold inTurn byFour stream4
  have e : (y 1).val % 4 = 0 ∨ (y 1).val % 4 = 1 ∨ (y 1).val % 4 = 2 ∨ (y 1).val % 4 = 3 := by omega
  rcases e with e | e | e | e <;> simp only [e] <;> rfl

section
variable {E : Type} {n m : Nat} (hm : m = 4 * n) (w0 w1 w2 w3 : (⟨3, ![1, n, 128]⟩ : Shape).Idx → E) (y : (⟨3, ![1, m, 128]⟩ : Shape).Idx)

/-- Row `4 k + 0` is row `k` of piece 0. -/
theorem inTurn_0 (e : (y 1).val % 4 = 0) : inTurn hm w0 w1 w2 w3 y
    = w0 (ix3 0 ⟨(y 1).val / 4, Nat.div_lt_of_lt_mul (Nat.lt_of_lt_of_eq (y 1).isLt hm)⟩ (y 2)) := by
  unfold inTurn
  simp only [e]
  rfl

/-- Row `4 k + 1` is row `k` of piece 1. -/
theorem inTurn_1 (e : (y 1).val % 4 = 1) : inTurn hm w0 w1 w2 w3 y
    = w1 (ix3 0 ⟨(y 1).val / 4, Nat.div_lt_of_lt_mul (Nat.lt_of_lt_of_eq (y 1).isLt hm)⟩ (y 2)) := by
  unfold inTurn
  simp only [e]
  rfl

/-- Row `4 k + 2` is row `k` of piece 2. -/
theorem inTurn_2 (e : (y 1).val % 4 = 2) : inTurn hm w0 w1 w2 w3 y
    = w2 (ix3 0 ⟨(y 1).val / 4, Nat.div_lt_of_lt_mul (Nat.lt_of_lt_of_eq (y 1).isLt hm)⟩ (y 2)) := by
  unfold inTurn
  simp only [e]
  rfl

/-- Row `4 k + 3` is row `k` of piece 3. -/
theorem inTurn_3 (e : (y 1).val % 4 = 3) : inTurn hm w0 w1 w2 w3 y
    = w3 (ix3 0 ⟨(y 1).val / 4, Nat.div_lt_of_lt_mul (Nat.lt_of_lt_of_eq (y 1).isLt hm)⟩ (y 2)) := by
  unfold inTurn
  simp only [e]
  rfl

end

/-- A stream's row is the token it came from. -/
theorem sixteen_at {E : Type} (o : (⟨5, ![1, 2, 16, 32, 128]⟩ : Shape).Idx → E) {h : Nat} (hh : h < 2) (y : (⟨3, ![1, 512, 128]⟩ : Shape).Idx)
    (r : Nat) (hr : r < 16) (k : Nat) (hk : k < 32) (er : r = (y 1).val % 16) (ek : k = (y 1).val / 16) :
    o (ix5 0 ⟨h, hh⟩ ⟨r, hr⟩ ⟨k, hk⟩ ⟨(y 2).val, (y 2).isLt⟩) = bySixteen o hh y := by
  subst er ek
  rfl

/-- Sixteen streams taken in turn by fours, and the four results in turn again, are in token order. -/
theorem inTurn_bySixteen {E : Type} (o : (⟨5, ![1, 2, 16, 32, 128]⟩ : Shape).Idx → E) {h : Nat} (hh : h < 2) (hm : 512 = 4 * 128)
    (hn0 hn1 hn2 hn3 : 128 = 4 * 32)
    (h0 : 0 < 16) (h1 : 1 < 16) (h2 : 2 < 16) (h3 : 3 < 16) (h4 : 4 < 16) (h5 : 5 < 16) (h6 : 6 < 16) (h7 : 7 < 16)
    (h8 : 8 < 16) (h9 : 9 < 16) (h10 : 10 < 16) (h11 : 11 < 16) (h12 : 12 < 16) (h13 : 13 < 16) (h14 : 14 < 16) (h15 : 15 < 16) :
    inTurn hm
      (inTurn hn0 (stream16 o hh (r := 0) h0) (stream16 o hh (r := 4) h4) (stream16 o hh (r := 8) h8) (stream16 o hh (r := 12) h12))
      (inTurn hn1 (stream16 o hh (r := 1) h1) (stream16 o hh (r := 5) h5) (stream16 o hh (r := 9) h9) (stream16 o hh (r := 13) h13))
      (inTurn hn2 (stream16 o hh (r := 2) h2) (stream16 o hh (r := 6) h6) (stream16 o hh (r := 10) h10) (stream16 o hh (r := 14) h14))
      (inTurn hn3 (stream16 o hh (r := 3) h3) (stream16 o hh (r := 7) h7) (stream16 o hh (r := 11) h11) (stream16 o hh (r := 15) h15))
      = bySixteen o hh := by
  funext y
  have hy : (y 1).val < 512 := (y 1).isLt
  have e1 : (y 1).val % 4 = 0 ∨ (y 1).val % 4 = 1 ∨ (y 1).val % 4 = 2 ∨ (y 1).val % 4 = 3 := by omega
  have e2 : (y 1).val / 4 % 4 = 0 ∨ (y 1).val / 4 % 4 = 1 ∨ (y 1).val / 4 % 4 = 2 ∨ (y 1).val / 4 % 4 = 3 := by omega
  rcases e1 with e1 | e1 | e1 | e1
  · refine (inTurn_0 hm _ _ _ _ y e1).trans ?_
    rcases e2 with e2 | e2 | e2 | e2
    · exact (inTurn_0 hn0 _ _ _ _ _ e2).trans (sixteen_at o hh y 0 h0 ((y 1).val / 4 / 4) (by omega) (by omega) (by omega))
    · exact (inTurn_1 hn0 _ _ _ _ _ e2).trans (sixteen_at o hh y 4 h4 ((y 1).val / 4 / 4) (by omega) (by omega) (by omega))
    · exact (inTurn_2 hn0 _ _ _ _ _ e2).trans (sixteen_at o hh y 8 h8 ((y 1).val / 4 / 4) (by omega) (by omega) (by omega))
    · exact (inTurn_3 hn0 _ _ _ _ _ e2).trans (sixteen_at o hh y 12 h12 ((y 1).val / 4 / 4) (by omega) (by omega) (by omega))
  · refine (inTurn_1 hm _ _ _ _ y e1).trans ?_
    rcases e2 with e2 | e2 | e2 | e2
    · exact (inTurn_0 hn1 _ _ _ _ _ e2).trans (sixteen_at o hh y 1 h1 ((y 1).val / 4 / 4) (by omega) (by omega) (by omega))
    · exact (inTurn_1 hn1 _ _ _ _ _ e2).trans (sixteen_at o hh y 5 h5 ((y 1).val / 4 / 4) (by omega) (by omega) (by omega))
    · exact (inTurn_2 hn1 _ _ _ _ _ e2).trans (sixteen_at o hh y 9 h9 ((y 1).val / 4 / 4) (by omega) (by omega) (by omega))
    · exact (inTurn_3 hn1 _ _ _ _ _ e2).trans (sixteen_at o hh y 13 h13 ((y 1).val / 4 / 4) (by omega) (by omega) (by omega))
  · refine (inTurn_2 hm _ _ _ _ y e1).trans ?_
    rcases e2 with e2 | e2 | e2 | e2
    · exact (inTurn_0 hn2 _ _ _ _ _ e2).trans (sixteen_at o hh y 2 h2 ((y 1).val / 4 / 4) (by omega) (by omega) (by omega))
    · exact (inTurn_1 hn2 _ _ _ _ _ e2).trans (sixteen_at o hh y 6 h6 ((y 1).val / 4 / 4) (by omega) (by omega) (by omega))
    · exact (inTurn_2 hn2 _ _ _ _ _ e2).trans (sixteen_at o hh y 10 h10 ((y 1).val / 4 / 4) (by omega) (by omega) (by omega))
    · exact (inTurn_3 hn2 _ _ _ _ _ e2).trans (sixteen_at o hh y 14 h14 ((y 1).val / 4 / 4) (by omega) (by omega) (by omega))
  · refine (inTurn_3 hm _ _ _ _ y e1).trans ?_
    rcases e2 with e2 | e2 | e2 | e2
    · exact (inTurn_0 hn3 _ _ _ _ _ e2).trans (sixteen_at o hh y 3 h3 ((y 1).val / 4 / 4) (by omega) (by omega) (by omega))
    · exact (inTurn_1 hn3 _ _ _ _ _ e2).trans (sixteen_at o hh y 7 h7 ((y 1).val / 4 / 4) (by omega) (by omega) (by omega))
    · exact (inTurn_2 hn3 _ _ _ _ _ e2).trans (sixteen_at o hh y 11 h11 ((y 1).val / 4 / 4) (by omega) (by omega) (by omega))
    · exact (inTurn_3 hn3 _ _ _ _ _ e2).trans (sixteen_at o hh y 15 h15 ((y 1).val / 4 / 4) (by omega) (by omega) (by omega))

variable {Val : EltTy → Type} {sig : RefSig} {κ : Kind} {sp : Space} {e : EltTy}

/-- A read of rows the newest strided store left alone reads the older stores. -/
theorem skip (v : View sig κ sp (⟨3, ![7, 512, 128]⟩ : Shape) e) (f : v.ty.Contents Val) {s r n s' r' m : Nat} (inb) (pos) (w) (L) (inb')
    (h : s ≠ s' ∨ r + 4 * n ≤ r' + 3 ∨ r' + m ≤ r) :
    v.readAt Val (Rect.unit (s := (⟨3, ![7, 512, 128]⟩ : Shape)) ![s', r', 0] ![1, m, 128] inb').toLoadRect
        (v.writes Val f (⟨⟨⟨![s, r, 0], ![1, n, 128], ![1, 4, 1], inb⟩, pos⟩, w⟩ :: L : List (View.Piece Val (⟨3, ![7, 512, 128]⟩ : Shape) e)))
      = v.readAt Val (Rect.unit (s := (⟨3, ![7, 512, 128]⟩ : Shape)) ![s', r', 0] ![1, m, 128] inb').toLoadRect (v.writes Val f L) := by
  have hd : Disjoint (⟨⟨![s, r, 0], ![1, n, 128], ![1, 4, 1], inb⟩, pos⟩ : Rect (⟨3, ![7, 512, 128]⟩ : Shape)).set
      (Rect.unit (s := (⟨3, ![7, 512, 128]⟩ : Shape)) ![s', r', 0] ![1, m, 128] inb').toLoadRect.set := ?_
  · funext j
    have hy := Finset.disjoint_right.mp hd (LoadRect.idx_mem _ j)
    rw [← Rect.map_emb_univ] at hy
    rw [View.readAt_apply, View.readAt_apply, View.writes_cons]
    exact View.read_slice_write_of_not_mem _ _ _ _ hy
  refine Finset.disjoint_left.mpr fun y hy hy' => ?_
  rw [LoadRect.mem_set] at hy hy'
  obtain ⟨a, ha, ea⟩ := hy 0
  obtain ⟨b, hb, eb⟩ := hy 1
  obtain ⟨a', ha', ea'⟩ := hy' 0
  obtain ⟨b', hb', eb'⟩ := hy' 1
  change a < 1 at ha
  change b < n at hb
  change a' < 1 at ha'
  change b' < m at hb'
  change (y 0).val = s + 1 * a at ea
  change (y 1).val = r + 4 * b at eb
  change (y 0).val = s' + 1 * a' at ea'
  change (y 1).val = r' + 1 * b' at eb'
  omega

/-- Four strided stores, read back whole: their rows in turn. -/
theorem four (v : View sig κ sp (⟨3, ![7, 512, 128]⟩ : Shape) e) (f : v.ty.Contents Val) {s r r1 r2 r3 n m : Nat} (inb0 inb1 inb2 inb3) (pos0 pos1 pos2 pos3)
    (w0 w1 w2 w3 : (⟨3, ![1, n, 128]⟩ : Shape).Idx → Val e) (L) (inb') (hm : m = 4 * n) (h1 : r1 = r + 1) (h2 : r2 = r + 2) (h3 : r3 = r + 3) :
    v.readAt Val (Rect.unit (s := (⟨3, ![7, 512, 128]⟩ : Shape)) ![s, r, 0] ![1, m, 128] inb').toLoadRect
        (v.writes Val f (⟨⟨⟨![s, r3, 0], ![1, n, 128], ![1, 4, 1], inb3⟩, pos3⟩, w3⟩ :: ⟨⟨⟨![s, r2, 0], ![1, n, 128], ![1, 4, 1], inb2⟩, pos2⟩, w2⟩
          :: ⟨⟨⟨![s, r1, 0], ![1, n, 128], ![1, 4, 1], inb1⟩, pos1⟩, w1⟩ :: ⟨⟨⟨![s, r, 0], ![1, n, 128], ![1, 4, 1], inb0⟩, pos0⟩, w0⟩ :: L
          : List (View.Piece Val (⟨3, ![7, 512, 128]⟩ : Shape) e)))
      = inTurn hm w0 w1 w2 w3 := by
  subst hm h1 h2 h3
  funext j
  rw [View.readAt_apply]
  have hj : (j 1).val < 4 * n := (j 1).isLt
  have hj0 : (j 0).val < 1 := (j 0).isLt
  have miss : ∀ (c : Nat) (inb) (pos) (w) (L : List (View.Piece Val (⟨3, ![7, 512, 128]⟩ : Shape) e)), (j 1).val % 4 ≠ c → c < 4 →
      v.read Val (v.writes Val f (⟨⟨⟨![s, r + c, 0], ![1, n, 128], ![1, 4, 1], inb⟩, pos⟩, w⟩ :: L))
        ((Rect.unit (s := (⟨3, ![7, 512, 128]⟩ : Shape)) ![s, r, 0] ![1, 4 * n, 128] inb').toLoadRect.idx j)
      = v.read Val (v.writes Val f L) ((Rect.unit (s := (⟨3, ![7, 512, 128]⟩ : Shape)) ![s, r, 0] ![1, 4 * n, 128] inb').toLoadRect.idx j) := by
    intro c inb pos w L hc hc4
    rw [View.writes_cons]
    refine View.read_slice_write_of_not_mem _ _ _ _ fun hy => ?_
    rw [Rect.map_emb_univ, LoadRect.mem_set] at hy
    obtain ⟨b, hb, eb⟩ := hy 1
    change b < n at hb
    change r + 1 * (j 1).val = r + c + 4 * b at eb
    omega
  have hit : ∀ (c : Nat) (inb) (pos) (w : (⟨3, ![1, n, 128]⟩ : Shape).Idx → Val e) (L : List (View.Piece Val (⟨3, ![7, 512, 128]⟩ : Shape) e)), (j 1).val % 4 = c →
      v.read Val (v.writes Val f (⟨⟨⟨![s, r + c, 0], ![1, n, 128], ![1, 4, 1], inb⟩, pos⟩, w⟩ :: L))
        ((Rect.unit (s := (⟨3, ![7, 512, 128]⟩ : Shape)) ![s, r, 0] ![1, 4 * n, 128] inb').toLoadRect.idx j)
      = w (ix3 0 ⟨(j 1).val / 4, Nat.div_lt_of_lt_mul hj⟩ (j 2)) := by
    intro c inb pos w L hc
    rw [← View.read_writes_cons_emb v f (⟨⟨![s, r + c, 0], ![1, n, 128], ![1, 4, 1], inb⟩, pos⟩ : Rect (⟨3, ![7, 512, 128]⟩ : Shape)) w L
      (ix3 0 ⟨(j 1).val / 4, Nat.div_lt_of_lt_mul hj⟩ (j 2))]
    congr 1
    funext a
    apply Fin.ext
    match a with
    | ⟨0, _⟩ => show s + 1 * (j 0).val = s + 1 * 0; omega
    | ⟨1, _⟩ => show r + 1 * (j 1).val = r + c + 4 * ((j 1).val / 4); omega
    | ⟨2, _⟩ => show 0 + 1 * (j 2).val = 0 + 1 * (j 2).val; rfl
  unfold inTurn
  have e : (j 1).val % 4 = 0 ∨ (j 1).val % 4 = 1 ∨ (j 1).val % 4 = 2 ∨ (j 1).val % 4 = 3 := by omega
  rcases e with e | e | e | e
  · rw [miss 3 _ _ _ _ (by omega) (by omega), miss 2 _ _ _ _ (by omega) (by omega), miss 1 _ _ _ _ (by omega) (by omega)]
    exact (hit 0 _ _ _ _ e).trans (by simp only [e]; rfl)
  · rw [miss 3 _ _ _ _ (by omega) (by omega), miss 2 _ _ _ _ (by omega) (by omega)]
    exact (hit 1 _ _ _ _ e).trans (by simp only [e]; rfl)
  · rw [miss 3 _ _ _ _ (by omega) (by omega)]
    exact (hit 2 _ _ _ _ e).trans (by simp only [e]; rfl)
  · exact (hit 3 _ _ _ _ e).trans (by simp only [e]; rfl)

/-- A plane loaded from the four streams' block, its unit axes dropped and one put back. -/
theorem plane4 {F : FTy → Type} [FloatOps F] (o : (⟨5, ![1, 2, 4, 128, 128]⟩ : Shape).Idx → Elt F .f32) {h r : Nat} (inb) (c1) (c2)
    (hh : h < 2) (hr : r < 4) :
    shapeCast (⟨3, ![1, 128, 128]⟩ : Shape) (shapeCast (⟨2, ![128, 128]⟩ : Shape)
      (View.ld o (Rect.unit (s := (⟨5, ![1, 2, 4, 128, 128]⟩ : Shape)) ![0, h, r, 0, 0] ![1, 1, 1, 128, 128] inb)) c1) c2
      = stream4 o hh hr := by
  funext y
  have hy : (y 0).val < 1 := (y 0).isLt
  rw [shapeCast_comp]
  refine (shapeCast_apply _ _ y (ix5 0 0 0 ⟨(y 1).val, (y 1).isLt⟩ ⟨(y 2).val, (y 2).isLt⟩) ?_).trans ?_
  · rw [Shape.rowMajor_val_five, Shape.rowMajor_val_three]
    show (((0 * 1 + 0) * 1 + 0) * 128 + (y 1).val) * 128 + (y 2).val = ((y 0).val * 128 + (y 1).val) * 128 + (y 2).val
    omega
  · unfold stream4
    refine congrArg o (funext fun a => Fin.ext ?_)
    match a with
    | ⟨0, _⟩ => rfl
    | ⟨1, _⟩ => show h + 1 * 0 = h; omega
    | ⟨2, _⟩ => show r + 1 * 0 = r; omega
    | ⟨3, _⟩ => show 0 + 1 * (y 1).val = (y 1).val; omega
    | ⟨4, _⟩ => show 0 + 1 * (y 2).val = (y 2).val; omega

/-- A plane loaded from the sixteen streams' block, its unit axes dropped and one put back. -/
theorem plane16 {F : FTy → Type} [FloatOps F] (o : (⟨5, ![1, 2, 16, 32, 128]⟩ : Shape).Idx → Elt F .f32) {h r : Nat} (inb) (c1) (c2)
    (hh : h < 2) (hr : r < 16) :
    shapeCast (⟨3, ![1, 32, 128]⟩ : Shape) (shapeCast (⟨2, ![32, 128]⟩ : Shape)
      (View.ld o (Rect.unit (s := (⟨5, ![1, 2, 16, 32, 128]⟩ : Shape)) ![0, h, r, 0, 0] ![1, 1, 1, 32, 128] inb)) c1) c2
      = stream16 o hh hr := by
  funext y
  have hy : (y 0).val < 1 := (y 0).isLt
  rw [shapeCast_comp]
  refine (shapeCast_apply _ _ y (ix5 0 0 0 ⟨(y 1).val, (y 1).isLt⟩ ⟨(y 2).val, (y 2).isLt⟩) ?_).trans ?_
  · rw [Shape.rowMajor_val_five, Shape.rowMajor_val_three]
    show (((0 * 1 + 0) * 1 + 0) * 32 + (y 1).val) * 128 + (y 2).val = ((y 0).val * 32 + (y 1).val) * 128 + (y 2).val
    omega
  · unfold stream16
    refine congrArg o (funext fun a => Fin.ext ?_)
    match a with
    | ⟨0, _⟩ => rfl
    | ⟨1, _⟩ => show h + 1 * 0 = h; omega
    | ⟨2, _⟩ => show r + 1 * 0 = r; omega
    | ⟨3, _⟩ => show 0 + 1 * (y 1).val = (y 1).val; omega
    | ⟨4, _⟩ => show 0 + 1 * (y 2).val = (y 2).val; omega

/-- The plane read out of the buffer that holds the four streams' block. -/
theorem read4 {F : FTy → Type} [FloatOps F] {b : Memref sig κ sp (⟨5, ![1, 2, 4, 128, 128]⟩ : Shape) .f32} (hb : b.IsWhole)
    (o : (⟨5, ![1, 2, 4, 128, 128]⟩ : Shape).Idx → Elt F .f32) {h r : Nat} (inb) (c1) (c2) (hh : h < 2) (hr : r < 4) :
    shapeCast (α := no_index (Elt F .f32)) (⟨3, ![1, 128, 128]⟩ : Shape) (shapeCast (α := no_index (Elt F .f32)) (⟨2, ![128, 128]⟩ : Shape)
      (b.view.readAt (Elt F) (Rect.unit (s := (⟨5, ![1, 2, 4, 128, 128]⟩ : Shape)) ![0, h, r, 0, 0] ![1, 1, 1, 128, 128] inb).toLoadRect
        (hb.unread o)) c1) c2 = stream4 o hh hr := by
  rw [View.readAt_eq_ld, hb.read_unread]
  exact plane4 o inb c1 c2 hh hr

/-- The plane read out of the buffer that holds the sixteen streams' block. -/
theorem read16 {F : FTy → Type} [FloatOps F] {b : Memref sig κ sp (⟨5, ![1, 2, 16, 32, 128]⟩ : Shape) .f32} (hb : b.IsWhole)
    (o : (⟨5, ![1, 2, 16, 32, 128]⟩ : Shape).Idx → Elt F .f32) {h r : Nat} (inb) (c1) (c2) (hh : h < 2) (hr : r < 16) :
    shapeCast (α := no_index (Elt F .f32)) (⟨3, ![1, 32, 128]⟩ : Shape) (shapeCast (α := no_index (Elt F .f32)) (⟨2, ![32, 128]⟩ : Shape)
      (b.view.readAt (Elt F) (Rect.unit (s := (⟨5, ![1, 2, 16, 32, 128]⟩ : Shape)) ![0, h, r, 0, 0] ![1, 1, 1, 32, 128] inb).toLoadRect
        (hb.unread o)) c1) c2 = stream16 o hh hr := by
  rw [View.readAt_eq_ld, hb.read_unread]
  exact plane16 o inb c1 c2 hh hr

/-- A unit axis dropped and put back. -/
theorem recast {F : FTy → Type} [FloatOps F] (w : (⟨3, ![1, 128, 128]⟩ : Shape).Idx → Elt F .f32) (c1) (c2) :
    shapeCast (α := no_index (Elt F .f32)) (⟨3, ![1, 128, 128]⟩ : Shape) (shapeCast (α := no_index (Elt F .f32)) (⟨2, ![128, 128]⟩ : Shape) w c1) c2 = w :=
  shapeCast_shapeCast _ _ _

end Cert.Mix.Stage
-- ==== Proof.MixIdealBody.lean ====
/- The last call of the layer (`MixIdeal`): what one body call does to its staging buffers.

   The body brings the streams of the two dilated groups back to token order through a scratch buffer: it stores a
   stream's rows with a stride and loads the whole slot. What it loads is named here as a function of the stream
   (`byFour`, `bySixteen`), so that nothing the scratch held before the call is left in what the call stores.
   The sample rows' output (window 21) is stored at the first point alone and written back after the last. -/
module

public import proofs.«01_k».proof.Proof.Gen.MixIdeal.Frame
public import proofs.«01_k».proof.Proof.Gen.MixIdeal.Skeleton
public import proofs.«01_k».proof.Proof.MixStage
public import Idealize.ShloMosaic.Lib.Pipeline.ValueKit
public import Idealize.ShloMosaic.Lib.Pipeline.TableIdle

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mix.Stage

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer one store has covered reads what was stored. -/
theorem read_store {κ : Kind} {sp : Space} {S : Shape} {e : EltTy} (v : View sig κ sp S e) (f : v.ty.Contents (Elt F))
    (off : Fin S.rank → Nat) (inb : ∀ a, off a + S.size a ≤ S.size a) (w : S.Idx → Elt F e) (h : ∀ a, off a = 0)
    {w' : S.Idx → Elt F e} (hw : w = w') :
    v.read (Elt F) (v.writes (Elt F) f [⟨Rect.unit off S.size inb, w⟩]) = w' := by
  subst hw
  rw [View.read_writes_eq_canon v f _ fun y => ⟨_, List.mem_singleton_self _, View.mem_set_unit_zero (funext h) inb y⟩]
  exact View.canon_cons_unit_lit inb w [] h

/-- The buffers a body call is handed, in window order and then the scratch, each with the fact that it is a whole cell. -/
structure Bufs where
  b0 : Memref sig .tc .vmem S512x1024 .f32
  h0 : b0.IsWhole
  b1 : Memref sig .tc .vmem S512x1024 .f32
  h1 : b1.IsWhole
  b2 : Memref sig .tc .vmem S512x1024 .f32
  h2 : b2.IsWhole
  b3 : Memref sig .tc .vmem S1x2x1x512x128 .f32
  h3 : b3.IsWhole
  b4 : Memref sig .tc .vmem S1x2x1x512x128 .f32
  h4 : b4.IsWhole
  b5 : Memref sig .tc .vmem S1x2x4x128x128 .f32
  h5 : b5.IsWhole
  b6 : Memref sig .tc .vmem S1x2x4x128x128 .f32
  h6 : b6.IsWhole
  b7 : Memref sig .tc .vmem S1x2x16x32x128 .f32
  h7 : b7.IsWhole
  b8 : Memref sig .tc .vmem S1x2x16x32x128 .f32
  h8 : b8.IsWhole
  b9 : Memref sig .tc .vmem S256x1024 .bf16
  h9 : b9.IsWhole
  b10 : Memref sig .tc .vmem S1024x1024 .bf16
  h10 : b10.IsWhole
  b11 : Memref sig .tc .vmem S1x1024 .f32
  h11 : b11.IsWhole
  b12 : Memref sig .tc .vmem S1024x2816 .bf16
  h12 : b12.IsWhole
  b13 : Memref sig .tc .vmem S1024x2816 .bf16
  h13 : b13.IsWhole
  b14 : Memref sig .tc .vmem S2816x1024 .bf16
  h14 : b14.IsWhole
  b15 : Memref sig .tc .vmem S1x1024 .f32
  h15 : b15.IsWhole
  b16 : Memref sig .tc .vmem S32x1024 .f32
  h16 : b16.IsWhole
  b17 : Memref sig .tc .vmem S32x1024 .f32
  h17 : b17.IsWhole
  b18 : Memref sig .tc .vmem S32x1024 .f32
  h18 : b18.IsWhole
  b19 : Memref sig .tc .vmem S32x256 .bf16
  h19 : b19.IsWhole
  b20 : Memref sig .tc .vmem S512x1024 .f32
  h20 : b20.IsWhole
  b21 : Memref sig .tc .vmem S32x1024 .f32
  h21 : b21.IsWhole
  b22 : Memref sig .tc .vmem S7x512x128 .f32
  h22 : b22.IsWhole

/-- What the input buffers hold. -/
structure Ins (F : FTy → Type) where
  x0 : Vec F S512x1024 .f32
  x1 : Vec F S512x1024 .f32
  x2 : Vec F S512x1024 .f32
  x3 : Vec F S1x2x1x512x128 .f32
  x4 : Vec F S1x2x1x512x128 .f32
  x5 : Vec F S1x2x4x128x128 .f32
  x6 : Vec F S1x2x4x128x128 .f32
  x7 : Vec F S1x2x16x32x128 .f32
  x8 : Vec F S1x2x16x32x128 .f32
  x9 : Vec F S256x1024 .bf16
  x10 : Vec F S1024x1024 .bf16
  x11 : Vec F S1x1024 .f32
  x12 : Vec F S1024x2816 .bf16
  x13 : Vec F S1024x2816 .bf16
  x14 : Vec F S2816x1024 .bf16
  x15 : Vec F S1x1024 .f32
  x16 : Vec F S32x1024 .f32
  x17 : Vec F S32x1024 .f32
  x18 : Vec F S32x1024 .f32
  x19 : Vec F S32x256 .bf16

/-- The first 1536 columns of a gate or up weight. -/
abbrev colsA (w : Vec F S1024x2816 .bf16) : Vec F S1024x1536 .bf16 :=
  View.ld w (Rect.unit (s := S1024x2816) ![0, 0] S1024x1536.size inb_S1024x2816_S1024x1536_0_0)
/-- Its last 1280 columns. -/
abbrev colsB (w : Vec F S1024x2816 .bf16) : Vec F S1024x1280 .bf16 :=
  View.ld w (Rect.unit (s := S1024x2816) ![0, 1536] S1024x1280.size inb_S1024x2816_S1024x1280_0_1536)
/-- The first 1536 rows of the down weight. -/
abbrev rowsA (w : Vec F S2816x1024 .bf16) : Vec F S1536x1024 .bf16 :=
  View.ld w (Rect.unit (s := S2816x1024) ![0, 0] S1536x1024.size inb_S2816x1024_S1536x1024_0_0)
/-- Its last 1280 rows. -/
abbrev rowsB (w : Vec F S2816x1024 .bf16) : Vec F S1280x1024 .bf16 :=
  View.ld w (Rect.unit (s := S2816x1024) ![1536, 0] S1280x1024.size inb_S2816x1024_S1280x1024_1536_0)
/-- The first head pair's plane of the undilated group. -/
abbrev pair0 (o : Vec F S1x2x1x512x128 .f32) : Vec F S1x1x1x512x128 .f32 :=
  View.ld o (Rect.unit (s := S1x2x1x512x128) ![0, 0, 0, 0, 0] S1x1x1x512x128.size inb_S1x2x1x512x128_S1x1x1x512x128_0_0_0_0_0)
/-- The second head pair's. -/
abbrev pair1 (o : Vec F S1x2x1x512x128 .f32) : Vec F S1x1x1x512x128 .f32 :=
  View.ld o (Rect.unit (s := S1x2x1x512x128) ![0, 1, 0, 0, 0] S1x1x1x512x128.size inb_S1x2x1x512x128_S1x1x1x512x128_0_1_0_0_0)

/-- The first head pair's attention columns of the tile. -/
def attnA (x : Ins F) : FVec F S512x128 .bf16 :=
  k0_pay63 (k0_pay6 (pair0 x.x3)) (k0_pay11 (byFour x.x5 (h := 0) (by decide))) (k0_pay34 (bySixteen x.x7 (h := 0) (by decide))) (k0_pay35 (pair0 x.x4))
    (k0_pay40 (byFour x.x6 (h := 0) (by decide))) (bySixteen x.x8 (h := 0) (by decide))

/-- The tile's rows before the output product: the pooled branch plus the gated attention branch. -/
def branches (x : Ins F) : FVec F S512x1024 .f32 :=
  k0_pay121 (attnA x) (k0_pay64 (pair1 x.x3)) (k0_pay69 (byFour x.x5 (h := 1) (by decide))) (k0_pay91 (bySixteen x.x7 (h := 1) (by decide))) (k0_pay92 (pair1 x.x4))
    (k0_pay97 (byFour x.x6 (h := 1) (by decide))) (bySixteen x.x8 (h := 1) (by decide)) x.x1 x.x2 x.x9

/-- What a body call leaves of the prompt rows' tile. -/
def promptOut (x : Ins F) : Vec F S512x1024 .f32 :=
  k0_pay1 (k0_pay122 x.x0 (branches x) x.x10) (k0_pay124 x.x0 (branches x) x.x10 x.x11 (colsA x.x12) (colsA x.x13) (rowsA x.x14))
    (k0_pay125 x.x0 (branches x) x.x10 x.x11 (colsB x.x12) (colsB x.x13)) (rowsB x.x14) x.x15

/-- What the first body call leaves of the sample rows. -/
def sampleOut (x : Ins F) : Vec F S32x1024 .f32 :=
  k0_pay5 (k0_pay2 x.x16 x.x17 x.x18 x.x19 x.x9 x.x10) (k0_pay3 x.x16 x.x17 x.x18 x.x19 x.x9 x.x10 x.x11)
    (k0_pay4 x.x16 x.x17 x.x18 x.x19 x.x9 x.x10 x.x11 (colsA x.x12) (colsA x.x13)) (rowsA x.x14) (colsB x.x12) (colsB x.x13)
    (rowsB x.x14) x.x15

/-- The condition of the body's one branch. -/
abbrev isFirst (i : grid0.Coords) : Prop := k0_cond1 i = 1#1

/-- It holds at the first grid point only. -/
theorem isFirst_iff (t : Fin cfg0.N) : isFirst (grid0.coords t) ↔ t.val = 0 := by
  have ht : t.val < 64 := Nat.lt_of_lt_of_eq t.isLt N_0
  have e0 : (grid0.coords t 0).val = t.val / 1 % 64 := Pipeline.Grid.coords_val t 0 (by decide) rfl
  simp only [isFirst, k0_cond1, e0]
  word_cmp

set_option maxHeartbeats 40000000 in
/-- A body call at the first point: the inputs' buffers as they were, both outputs stored, the scratch at anything. -/
theorem bodyA (c : Dev nD) (i : grid0.Coords) (b : Bufs) (hc : isFirst i) (x : Ins F) (E : Set ℕ) (K : PUnit → sProp 𝕄) :
    iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ owns (c : Thread nD τ) b.b14 fullShare x.x14
        ∗ owns (c : Thread nD τ) b.b15 fullShare x.x15
        ∗ owns (c : Thread nD τ) b.b16 fullShare x.x16
        ∗ owns (c : Thread nD τ) b.b17 fullShare x.x17
        ∗ owns (c : Thread nD τ) b.b18 fullShare x.x18
        ∗ owns (c : Thread nD τ) b.b19 fullShare x.x19
        ∗ (∃ d, owns (c : Thread nD τ) b.b20 fullShare d) ∗ (∃ d, owns (c : Thread nD τ) b.b21 fullShare d) ∗ (∃ d, owns (c : Thread nD τ) b.b22 fullShare d)
        ∗ (iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ owns (c : Thread nD τ) b.b14 fullShare x.x14
        ∗ owns (c : Thread nD τ) b.b15 fullShare x.x15
        ∗ owns (c : Thread nD τ) b.b16 fullShare x.x16
        ∗ owns (c : Thread nD τ) b.b17 fullShare x.x17
        ∗ owns (c : Thread nD τ) b.b18 fullShare x.x18
        ∗ owns (c : Thread nD τ) b.b19 fullShare x.x19
        ∗ owns (c : Thread nD τ) b.b20 fullShare (promptOut x) ∗ owns (c : Thread nD τ) b.b21 fullShare (sampleOut x) ∗ (∃ d, owns (c : Thread nD τ) b.b22 fullShare d)) -∗ K ⟨⟩))
      ⊢ wp frame (wpE (defs₀ (F := F)) Variants.none c none) E (cc0_mix_out i b.b0 b.h0 b.b1 b.h1 b.b2 b.h2 b.b3 b.h3 b.b4 b.h4 b.b5 b.h5 b.b6 b.h6 b.b7 b.h7 b.b8 b.h8 b.b9 b.h9 b.b10 b.h10 b.b11 b.h11 b.b12 b.h12 b.b13 b.h13 b.b14 b.h14 b.b15 b.h15 b.b16 b.h16 b.b17 b.h17 b.b18 b.h18 b.b19 b.h19 b.b20 b.h20 b.b21 b.h21 b.b22 b.h22) K := by
  simp only [cc0_mix_out_eq_skeleton]; unfold cc0_mix_out_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  obtain rfl := b.h0.eq_unread hf0; obtain rfl := b.h1.eq_unread hf1; obtain rfl := b.h2.eq_unread hf2; obtain rfl := b.h3.eq_unread hf3; obtain rfl := b.h4.eq_unread hf4; obtain rfl := b.h5.eq_unread hf5; obtain rfl := b.h6.eq_unread hf6; obtain rfl := b.h7.eq_unread hf7; obtain rfl := b.h8.eq_unread hf8; obtain rfl := b.h9.eq_unread hf9; obtain rfl := b.h10.eq_unread hf10; obtain rfl := b.h11.eq_unread hf11; obtain rfl := b.h12.eq_unread hf12; obtain rfl := b.h13.eq_unread hf13; obtain rfl := b.h14.eq_unread hf14; obtain rfl := b.h15.eq_unread hf15; obtain rfl := b.h16.eq_unread hf16; obtain rfl := b.h17.eq_unread hf17; obtain rfl := b.h18.eq_unread hf18; obtain rfl := b.h19.eq_unread hf19
  sl_exec (disch := sl_exact hc)
  sl_step
  iapply Hk
  isplitl [H0]
  · iexists _; isplitr; · ipureintro; exact b.h0.read_unread _
    iexact H0
  isplitl [H1]
  · iexists _; isplitr; · ipureintro; exact b.h1.read_unread _
    iexact H1
  isplitl [H2]
  · iexists _; isplitr; · ipureintro; exact b.h2.read_unread _
    iexact H2
  isplitl [H3]
  · iexists _; isplitr; · ipureintro; exact b.h3.read_unread _
    iexact H3
  isplitl [H4]
  · iexists _; isplitr; · ipureintro; exact b.h4.read_unread _
    iexact H4
  isplitl [H5]
  · iexists _; isplitr; · ipureintro; exact b.h5.read_unread _
    iexact H5
  isplitl [H6]
  · iexists _; isplitr; · ipureintro; exact b.h6.read_unread _
    iexact H6
  isplitl [H7]
  · iexists _; isplitr; · ipureintro; exact b.h7.read_unread _
    iexact H7
  isplitl [H8]
  · iexists _; isplitr; · ipureintro; exact b.h8.read_unread _
    iexact H8
  isplitl [H9]
  · iexists _; isplitr; · ipureintro; exact b.h9.read_unread _
    iexact H9
  isplitl [H10]
  · iexists _; isplitr; · ipureintro; exact b.h10.read_unread _
    iexact H10
  isplitl [H11]
  · iexists _; isplitr; · ipureintro; exact b.h11.read_unread _
    iexact H11
  isplitl [H12]
  · iexists _; isplitr; · ipureintro; exact b.h12.read_unread _
    iexact H12
  isplitl [H13]
  · iexists _; isplitr; · ipureintro; exact b.h13.read_unread _
    iexact H13
  isplitl [H14]
  · iexists _; isplitr; · ipureintro; exact b.h14.read_unread _
    iexact H14
  isplitl [H15]
  · iexists _; isplitr; · ipureintro; exact b.h15.read_unread _
    iexact H15
  isplitl [H16]
  · iexists _; isplitr; · ipureintro; exact b.h16.read_unread _
    iexact H16
  isplitl [H17]
  · iexists _; isplitr; · ipureintro; exact b.h17.read_unread _
    iexact H17
  isplitl [H18]
  · iexists _; isplitr; · ipureintro; exact b.h18.read_unread _
    iexact H18
  isplitl [H19]
  · iexists _; isplitr; · ipureintro; exact b.h19.read_unread _
    iexact H19
  isplitl [H20]
  · iexists _; isplitr
    swap; · iexact H20
    ipureintro; exact read_store _ _ _ _ _ (by decide) (by
      unfold promptOut branches attnA; sl_unfold_words
      simp (disch := decide) only [↓skip, ↓four]
      simp (disch := decide) only [
        k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay65, k0_pay66, k0_pay67, k0_pay68, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay93, k0_pay94, k0_pay95, k0_pay96, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120,
        read4, read16, recast, inTurn_byFour, inTurn_bySixteen]
      simp (disch := decide) only [View.ld_unit_lit, View.readAt_eq_ld, Memref.IsWhole.read_unread])
  isplitl [H21]
  · iexists _; isplitr
    swap; · iexact H21
    ipureintro; exact read_store _ _ _ _ _ (by decide) (by
      unfold sampleOut; sl_unfold_words
      simp (disch := decide) only [View.ld_unit_lit, View.readAt_eq_ld, Memref.IsWhole.read_unread])
  iexists _; iexists _; isplitr; swap; · iexact H22
  ipureintro; rfl

set_option maxHeartbeats 40000000 in
/-- A body call at a later point: the same, the sample rows' output left as it was found (`s`). -/
theorem bodyB (c : Dev nD) (i : grid0.Coords) (b : Bufs) (hc : ¬isFirst i) (s : Vec F S32x1024 .f32) (x : Ins F) (E : Set ℕ) (K : PUnit → sProp 𝕄) :
    iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ owns (c : Thread nD τ) b.b14 fullShare x.x14
        ∗ owns (c : Thread nD τ) b.b15 fullShare x.x15
        ∗ owns (c : Thread nD τ) b.b16 fullShare x.x16
        ∗ owns (c : Thread nD τ) b.b17 fullShare x.x17
        ∗ owns (c : Thread nD τ) b.b18 fullShare x.x18
        ∗ owns (c : Thread nD τ) b.b19 fullShare x.x19
        ∗ (∃ d, owns (c : Thread nD τ) b.b20 fullShare d) ∗ owns (c : Thread nD τ) b.b21 fullShare s ∗ (∃ d, owns (c : Thread nD τ) b.b22 fullShare d)
        ∗ (iprop(owns (c : Thread nD τ) b.b0 fullShare x.x0
        ∗ owns (c : Thread nD τ) b.b1 fullShare x.x1
        ∗ owns (c : Thread nD τ) b.b2 fullShare x.x2
        ∗ owns (c : Thread nD τ) b.b3 fullShare x.x3
        ∗ owns (c : Thread nD τ) b.b4 fullShare x.x4
        ∗ owns (c : Thread nD τ) b.b5 fullShare x.x5
        ∗ owns (c : Thread nD τ) b.b6 fullShare x.x6
        ∗ owns (c : Thread nD τ) b.b7 fullShare x.x7
        ∗ owns (c : Thread nD τ) b.b8 fullShare x.x8
        ∗ owns (c : Thread nD τ) b.b9 fullShare x.x9
        ∗ owns (c : Thread nD τ) b.b10 fullShare x.x10
        ∗ owns (c : Thread nD τ) b.b11 fullShare x.x11
        ∗ owns (c : Thread nD τ) b.b12 fullShare x.x12
        ∗ owns (c : Thread nD τ) b.b13 fullShare x.x13
        ∗ owns (c : Thread nD τ) b.b14 fullShare x.x14
        ∗ owns (c : Thread nD τ) b.b15 fullShare x.x15
        ∗ owns (c : Thread nD τ) b.b16 fullShare x.x16
        ∗ owns (c : Thread nD τ) b.b17 fullShare x.x17
        ∗ owns (c : Thread nD τ) b.b18 fullShare x.x18
        ∗ owns (c : Thread nD τ) b.b19 fullShare x.x19
        ∗ owns (c : Thread nD τ) b.b20 fullShare (promptOut x) ∗ owns (c : Thread nD τ) b.b21 fullShare s ∗ (∃ d, owns (c : Thread nD τ) b.b22 fullShare d)) -∗ K ⟨⟩))
      ⊢ wp frame (wpE (defs₀ (F := F)) Variants.none c none) E (cc0_mix_out i b.b0 b.h0 b.b1 b.h1 b.b2 b.h2 b.b3 b.h3 b.b4 b.h4 b.b5 b.h5 b.b6 b.h6 b.b7 b.h7 b.b8 b.h8 b.b9 b.h9 b.b10 b.h10 b.b11 b.h11 b.b12 b.h12 b.b13 b.h13 b.b14 b.h14 b.b15 b.h15 b.b16 b.h16 b.b17 b.h17 b.b18 b.h18 b.b19 b.h19 b.b20 b.h20 b.b21 b.h21 b.b22 b.h22) K := by
  simp only [cc0_mix_out_eq_skeleton]; unfold cc0_mix_out_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%d22, %f22, -, H22⟩, Hk⟩
  obtain rfl := b.h0.eq_unread hf0; obtain rfl := b.h1.eq_unread hf1; obtain rfl := b.h2.eq_unread hf2; obtain rfl := b.h3.eq_unread hf3; obtain rfl := b.h4.eq_unread hf4; obtain rfl := b.h5.eq_unread hf5; obtain rfl := b.h6.eq_unread hf6; obtain rfl := b.h7.eq_unread hf7; obtain rfl := b.h8.eq_unread hf8; obtain rfl := b.h9.eq_unread hf9; obtain rfl := b.h10.eq_unread hf10; obtain rfl := b.h11.eq_unread hf11; obtain rfl := b.h12.eq_unread hf12; obtain rfl := b.h13.eq_unread hf13; obtain rfl := b.h14.eq_unread hf14; obtain rfl := b.h15.eq_unread hf15; obtain rfl := b.h16.eq_unread hf16; obtain rfl := b.h17.eq_unread hf17; obtain rfl := b.h18.eq_unread hf18; obtain rfl := b.h19.eq_unread hf19; obtain rfl := b.h21.eq_unread hf21
  sl_exec (disch := sl_exact hc)
  sl_step
  iapply Hk
  isplitl [H0]
  · iexists _; isplitr; · ipureintro; exact b.h0.read_unread _
    iexact H0
  isplitl [H1]
  · iexists _; isplitr; · ipureintro; exact b.h1.read_unread _
    iexact H1
  isplitl [H2]
  · iexists _; isplitr; · ipureintro; exact b.h2.read_unread _
    iexact H2
  isplitl [H3]
  · iexists _; isplitr; · ipureintro; exact b.h3.read_unread _
    iexact H3
  isplitl [H4]
  · iexists _; isplitr; · ipureintro; exact b.h4.read_unread _
    iexact H4
  isplitl [H5]
  · iexists _; isplitr; · ipureintro; exact b.h5.read_unread _
    iexact H5
  isplitl [H6]
  · iexists _; isplitr; · ipureintro; exact b.h6.read_unread _
    iexact H6
  isplitl [H7]
  · iexists _; isplitr; · ipureintro; exact b.h7.read_unread _
    iexact H7
  isplitl [H8]
  · iexists _; isplitr; · ipureintro; exact b.h8.read_unread _
    iexact H8
  isplitl [H9]
  · iexists _; isplitr; · ipureintro; exact b.h9.read_unread _
    iexact H9
  isplitl [H10]
  · iexists _; isplitr; · ipureintro; exact b.h10.read_unread _
    iexact H10
  isplitl [H11]
  · iexists _; isplitr; · ipureintro; exact b.h11.read_unread _
    iexact H11
  isplitl [H12]
  · iexists _; isplitr; · ipureintro; exact b.h12.read_unread _
    iexact H12
  isplitl [H13]
  · iexists _; isplitr; · ipureintro; exact b.h13.read_unread _
    iexact H13
  isplitl [H14]
  · iexists _; isplitr; · ipureintro; exact b.h14.read_unread _
    iexact H14
  isplitl [H15]
  · iexists _; isplitr; · ipureintro; exact b.h15.read_unread _
    iexact H15
  isplitl [H16]
  · iexists _; isplitr; · ipureintro; exact b.h16.read_unread _
    iexact H16
  isplitl [H17]
  · iexists _; isplitr; · ipureintro; exact b.h17.read_unread _
    iexact H17
  isplitl [H18]
  · iexists _; isplitr; · ipureintro; exact b.h18.read_unread _
    iexact H18
  isplitl [H19]
  · iexists _; isplitr; · ipureintro; exact b.h19.read_unread _
    iexact H19
  isplitl [H20]
  · iexists _; isplitr
    swap; · iexact H20
    ipureintro; exact read_store _ _ _ _ _ (by decide) (by
      unfold promptOut branches attnA; sl_unfold_words
      simp (disch := decide) only [↓skip, ↓four]
      simp (disch := decide) only [
        k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay65, k0_pay66, k0_pay67, k0_pay68, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay93, k0_pay94, k0_pay95, k0_pay96, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120,
        read4, read16, recast, inTurn_byFour, inTurn_bySixteen]
      simp (disch := decide) only [View.ld_unit_lit, View.readAt_eq_ld, Memref.IsWhole.read_unread])
  isplitl [H21]
  · iexists _; isplitr; · ipureintro; exact b.h21.read_unread _
    iexact H21
  iexists _; iexists _; isplitr; swap; · iexact H22
  ipureintro; rfl

end Cert.MixIdeal.Body

end
-- ==== Proof.MixIdealFrame.lean ====
/- The last call of the layer (`MixIdeal`): the pipeline's proof data, and the run that ends with every
   argument array unchanged.

   The sample rows' output (window 21) is stored at the first point alone and written back after the last. -/
module

public import proofs.«01_k».proof.Proof.Gen.MixIdeal.Frame
public import proofs.«01_k».proof.Proof.Gen.MixIdeal.Skeleton
public import proofs.«01_k».proof.Proof.MixIdealBody
public import Idealize.ShloMosaic.Lib.Pipeline.ValueKit
public import Idealize.ShloMosaic.Lib.Pipeline.TableIdle

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mix.Stage

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at a grid point. -/
abbrev bufs (t : Fin cfg0.N) : Bufs :=
  {b0 := win0_0.stage (cfg0.slots t 0), h0 := hstage0_0 ((cfg0.slots t 0).cast nbuf0_0),
   b1 := win0_1.stage (cfg0.slots t 1), h1 := hstage0_1 ((cfg0.slots t 1).cast nbuf0_1),
   b2 := win0_2.stage (cfg0.slots t 2), h2 := hstage0_2 ((cfg0.slots t 2).cast nbuf0_2),
   b3 := win0_3.stage (cfg0.slots t 3), h3 := hstage0_3 ((cfg0.slots t 3).cast nbuf0_3),
   b4 := win0_4.stage (cfg0.slots t 4), h4 := hstage0_4 ((cfg0.slots t 4).cast nbuf0_4),
   b5 := win0_5.stage (cfg0.slots t 5), h5 := hstage0_5 ((cfg0.slots t 5).cast nbuf0_5),
   b6 := win0_6.stage (cfg0.slots t 6), h6 := hstage0_6 ((cfg0.slots t 6).cast nbuf0_6),
   b7 := win0_7.stage (cfg0.slots t 7), h7 := hstage0_7 ((cfg0.slots t 7).cast nbuf0_7),
   b8 := win0_8.stage (cfg0.slots t 8), h8 := hstage0_8 ((cfg0.slots t 8).cast nbuf0_8),
   b9 := win0_9.stage (cfg0.slots t 9), h9 := hstage0_9 ((cfg0.slots t 9).cast nbuf0_9),
   b10 := win0_10.stage (cfg0.slots t 10), h10 := hstage0_10 ((cfg0.slots t 10).cast nbuf0_10),
   b11 := win0_11.stage (cfg0.slots t 11), h11 := hstage0_11 ((cfg0.slots t 11).cast nbuf0_11),
   b12 := win0_12.stage (cfg0.slots t 12), h12 := hstage0_12 ((cfg0.slots t 12).cast nbuf0_12),
   b13 := win0_13.stage (cfg0.slots t 13), h13 := hstage0_13 ((cfg0.slots t 13).cast nbuf0_13),
   b14 := win0_14.stage (cfg0.slots t 14), h14 := hstage0_14 ((cfg0.slots t 14).cast nbuf0_14),
   b15 := win0_15.stage (cfg0.slots t 15), h15 := hstage0_15 ((cfg0.slots t 15).cast nbuf0_15),
   b16 := win0_16.stage (cfg0.slots t 16), h16 := hstage0_16 ((cfg0.slots t 16).cast nbuf0_16),
   b17 := win0_17.stage (cfg0.slots t 17), h17 := hstage0_17 ((cfg0.slots t 17).cast nbuf0_17),
   b18 := win0_18.stage (cfg0.slots t 18), h18 := hstage0_18 ((cfg0.slots t 18).cast nbuf0_18),
   b19 := win0_19.stage (cfg0.slots t 19), h19 := hstage0_19 ((cfg0.slots t 19).cast nbuf0_19),
   b20 := win0_20.stage (cfg0.slots t 20), h20 := hstage0_20 ((cfg0.slots t 20).cast nbuf0_20),
   b21 := win0_21.stage (cfg0.slots t 21), h21 := hstage0_21 ((cfg0.slots t 21).cast nbuf0_21),
   b22 := Memref.whole cc0_scratch0, h22 := Memref.isWhole_whole _}

/-- What the inputs' buffers hold there. -/
abbrev ins (c : Dev nD) (t : Fin cfg0.N) : Ins F :=
  {x0 := iblk m c 0 t, x1 := iblk m c 1 t, x2 := iblk m c 2 t, x3 := iblk m c 3 t, x4 := iblk m c 4 t, x5 := iblk m c 5 t, x6 := iblk m c 6 t, x7 := iblk m c 7 t, x8 := iblk m c 8 t, x9 := iblk m c 9 t, x10 := iblk m c 10 t, x11 := iblk m c 11 t, x12 := iblk m c 12 t, x13 := iblk m c 13 t, x14 := iblk m c 14 t, x15 := iblk m c 15 t, x16 := iblk m c 16 t, x17 := iblk m c 17 t, x18 := iblk m c 18 t, x19 := iblk m c 19 t}

/-- The first grid point. -/
abbrev t0 : Fin cfg0.N := ⟨0, by rw [show cfg0.N = 64 from N_0]; decide⟩

/-- The pipeline's proof data: every input's buffer left at its block, every output's at what the body stores, the sample
    rows' output at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => promptOut (ins m c t)
    | ⟨21, _⟩ => sampleOut (ins m c t0)
    | ⟨_ + 22, h⟩ => absurd h (Nat.not_lt.2 (Nat.le_add_left _ _))
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by
  dsimp only [dats]

/-! What the body leaves of each output, and what each input's buffer holds when the body starts. -/
theorem after20 (c : Dev nD) (t : Fin cfg0.N) : (dats m 0 c).after 20 t = promptOut (ins m c t) := by dsimp only [dats]
/-- What window 21 holds after the body has run at a grid point. -/
theorem after21 (c : Dev nD) (t : Fin cfg0.N) : (dats m 0 c).after 21 t = sampleOut (ins m c t0) := by dsimp only [dats]
/-- What window 0 holds before the body runs at a grid point. -/
theorem before0 (c : Dev nD) (t : Fin cfg0.N) (d) : (dats m 0 c).before 0 t d = iblk m c 0 t :=
  before0_0_of m (dats m 0 c) (A_eq m c 0) (fun t => by dsimp only [dats]) t d
/-- What window 1 holds before the body runs at a grid point. -/
theorem before1 (c : Dev nD) (t : Fin cfg0.N) (d) : (dats m 0 c).before 1 t d = iblk m c 1 t :=
  before0_1_of m (dats m 0 c) (A_eq m c 1) (fun t => by dsimp only [dats]) t d
/-- What window 2 holds before the body runs at a grid point. -/
theorem before2 (c : Dev nD) (t : Fin cfg0.N) (d) : (dats m 0 c).before 2 t d = iblk m c 2 t :=
  before0_2_of m (dats m 0 c) (A_eq m c 2) (fun t => by dsimp only [dats]) t d
/-- What window 3 holds before the body runs at a grid point. -/
theorem before3 (c : Dev nD) (t : Fin cfg0.N) (d) : (dats m 0 c).before 3 t d = iblk m c 3 t :=
  before0_3_of m (dats m 0 c) (A_eq m c 3) (fun t => by dsimp only [dats]) t d
/-- What window 4 holds before the body runs at a grid point. -/
theorem before4 (c : Dev nD) (t : Fin cfg0.N) (d) : (dats m 0 c).before 4 t d = iblk m c 4 t :=
  before0_4_of m (dats m 0 c) (A_eq m c 4) (fun t => by dsimp only [dats]) t d
/-- What window 5 holds before the body runs at a grid point. -/
theorem before5 (c : Dev nD) (t : Fin cfg0.N) (d) : (dats m 0 c).before 5 t d = iblk m c 5 t :=
  before0_5_of m (dats m 0 c) (A_eq m c 5) (fun t => by dsimp only [dats]) t d
/-- What window 6 holds before the body runs at a grid point. -/
theorem before6 (c : Dev nD) (t : Fin cfg0.N) (d) : (dats m 0 c).before 6 t d = iblk m c 6 t :=
  before0_6_of m (dats m 0 c) (A_eq m c 6) (fun t => by dsimp only [dats]) t d
/-- What window 7 holds before the body runs at a grid point. -/
theorem before7 (c : Dev nD) (t : Fin cfg0.N) (d) : (dats m 0 c).before 7 t d = iblk m c 7 t :=
  before0_7_of m (dats m 0 c) (A_eq m c 7) (fun t => by dsimp only [dats]) t d
/-- What window 8 holds before the body runs at a grid point. -/
theorem before8 (c : Dev nD) (t : Fin cfg0.N) (d) : (dats m 0 c).before 8 t d = iblk m c 8 t :=
  before0_8_of m (dats m 0 c) (A_eq m c 8) (fun t => by dsimp only [dats]) t d
/-- What window 9 holds before the body runs at a grid point. -/
theorem before9 (c : Dev nD) (t : Fin cfg0.N) (d) : (dats m 0 c).before 9 t d = iblk m c 9 t :=
  before0_9_of m (dats m 0 c) (A_eq m c 9) (fun t => by dsimp only [dats]) t d
/-- What window 10 holds before the body runs at a grid point. -/
theorem before10 (c : Dev nD) (t : Fin cfg0.N) (d) : (dats m 0 c).before 10 t d = iblk m c 10 t :=
  before0_10_of m (dats m 0 c) (A_eq m c 10) (fun t => by dsimp only [dats]) t d
/-- What window 11 holds before the body runs at a grid point. -/
theorem before11 (c : Dev nD) (t : Fin cfg0.N) (d) : (dats m 0 c).before 11 t d = iblk m c 11 t :=
  before0_11_of m (dats m 0 c) (A_eq m c 11) (fun t => by dsimp only [dats]) t d
/-- What window 12 holds before the body runs at a grid point. -/
theorem before12 (c : Dev nD) (t : Fin cfg0.N) (d) : (dats m 0 c).before 12 t d = iblk m c 12 t :=
  before0_12_of m (dats m 0 c) (A_eq m c 12) (fun t => by dsimp only [dats]) t d
/-- What window 13 holds before the body runs at a grid point. -/
theorem before13 (c : Dev nD) (t : Fin cfg0.N) (d) : (dats m 0 c).before 13 t d = iblk m c 13 t :=
  before0_13_of m (dats m 0 c) (A_eq m c 13) (fun t => by dsimp only [dats]) t d
/-- What window 14 holds before the body runs at a grid point. -/
theorem before14 (c : Dev nD) (t : Fin cfg0.N) (d) : (dats m 0 c).before 14 t d = iblk m c 14 t :=
  before0_14_of m (dats m 0 c) (A_eq m c 14) (fun t => by dsimp only [dats]) t d
/-- What window 15 holds before the body runs at a grid point. -/
theorem before15 (c : Dev nD) (t : Fin cfg0.N) (d) : (dats m 0 c).before 15 t d = iblk m c 15 t :=
  before0_15_of m (dats m 0 c) (A_eq m c 15) (fun t => by dsimp only [dats]) t d
/-- What window 16 holds before the body runs at a grid point. -/
theorem before16 (c : Dev nD) (t : Fin cfg0.N) (d) : (dats m 0 c).before 16 t d = iblk m c 16 t :=
  before0_16_of m (dats m 0 c) (A_eq m c 16) (fun t => by dsimp only [dats]) t d
/-- What window 17 holds before the body runs at a grid point. -/
theorem before17 (c : Dev nD) (t : Fin cfg0.N) (d) : (dats m 0 c).before 17 t d = iblk m c 17 t :=
  before0_17_of m (dats m 0 c) (A_eq m c 17) (fun t => by dsimp only [dats]) t d
/-- What window 18 holds before the body runs at a grid point. -/
theorem before18 (c : Dev nD) (t : Fin cfg0.N) (d) : (dats m 0 c).before 18 t d = iblk m c 18 t :=
  before0_18_of m (dats m 0 c) (A_eq m c 18) (fun t => by dsimp only [dats]) t d
/-- What window 19 holds before the body runs at a grid point. -/
theorem before19 (c : Dev nD) (t : Fin cfg0.N) (d) : (dats m 0 c).before 19 t d = iblk m c 19 t :=
  before0_19_of m (dats m 0 c) (A_eq m c 19) (fun t => by dsimp only [dats]) t d

/-- What the body finds besides its windows: the scratch buffer at anything, and the random register. -/
theorem phi_eq (c : Dev nD) (t) : (dats m 0 c).Φ t
    = iprop((∃ d, owns (c : Thread nD τ) (Memref.whole cc0_scratch0 : Memref sig .tc .vmem S7x512x128 .f32) fullShare d) ∗ ∃ r, prngReg c r) := by
  show Pipeline.ΦA spec0 c = _
  unfold Pipeline.ΦA
  rw [scopedRest0_eq c]
  simp only [owns_whole]

/-- From the second point on the body leaves the sample rows' output alone. -/
theorem idle21 : ∀ t : Fin cfg0.N, t.val ≠ 0 → cfg0.idle 21 (grid0.coords t) = true := by decide +kernel
/-- The first point stores it. -/
theorem live21 : ∀ t : Fin cfg0.N, t.val = 0 → cfg0.idle 21 (grid0.coords t) = false := by decide +kernel
/-- It is written back after the last point only. -/
theorem flush21 : ∀ t : Fin cfg0.N, t.val + 1 < 64 → (cfg0.win 21).flush t = false := by decide +kernel

/-- From the second point on its buffer holds something stored since the region's entry. -/
theorem fresh21 : ∀ n : ℕ, n < 64 → n ≠ 0 → cfg0.fresh 21 n = false
  | 0, _, h => absurd rfl h
  | n + 1, hn, _ => by
    have hN : n < cfg0.N := by rw [show cfg0.N = 64 from N_0]; omega
    rw [Cfg.fresh_succ cfg0 21 n hN, flush21 ⟨n, hN⟩ (by simpa using hn)]
    by_cases h : n = 0
    · show (false || (cfg0.idle 21 (grid0.coords ⟨n, hN⟩) && _)) = false
      rw [live21 ⟨n, hN⟩ h]; rfl
    · rw [fresh21 n (by omega) h, Bool.and_false]; rfl

/-- So there it holds what the first point stored. -/
theorem before21 (c : Dev nD) (t : Fin cfg0.N) (ht : t.val ≠ 0) (d) :
    (dats m 0 c).before 21 t d = sampleOut (ins m c t0) := by
  have hN : t.val < 64 := lt_of_lt_of_eq t.isLt (show cfg0.N = 64 from N_0)
  rw [Dat.before_out_traj _ 21 rfl (fun _ _ => rfl) (fun t _ _ _ => by rw [after21, after21]) t.val t rfl d,
    if_neg (by rw [fresh21 t.val hN ht]; exact Bool.false_ne_true), after21]

/-- A window the body stores, or an input, is left at what the proof data says. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- The sample rows' output left as it was found is left as the proof data says. -/
theorem leaves21 (c : Dev nD) (t : Fin cfg0.N) (ht : t.val ≠ 0) :
    owns (c : Thread nD τ) (win0_21.stage (cfg0.slots t 21)) fullShare (sampleOut (ins m c t0))
      ⊢ (dats m 0 c).leavesExact 21 t := by
  unfold Dat.leavesExact
  rw [idle21 t ht]
  cases h : (cfg0.win 21).flush t
  · dsimp only
    iintro H
    iexists (sampleOut (ins m c t0))
    rw [before21 m c t ht]
    iexact H
  · dsimp only
    rw [after21]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19]
  rw [show (dats m 0 c).Φ t.succ = (dats m 0 c).Φ t.castSucc from rfl, phi_eq m c t.castSucc,
    show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 10 t rfl, leaves_live m c 11 t rfl, leaves_live m c 12 t rfl, leaves_live m c 13 t rfl, leaves_live m c 14 t rfl, leaves_live m c 15 t rfl, leaves_live m c 16 t rfl, leaves_live m c 17 t rfl, leaves_live m c 18 t rfl, leaves_live m c 19 t rfl, leaves_live m c 20 t rfl]
  by_cases h0 : t.val = 0
  · obtain rfl : t = t0 := Fin.ext h0
    rw [leaves_live m c 21 t0 (live21 t0 rfl)]
    iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (bodyA c (grid0.coords t0) (bufs t0) ((isFirst_iff t0).mpr rfl) (ins m c t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [Hs]; · iexact Hs
    iintro ⟨H0, H1, H2, H3, H4, H5, H6, H7, H8, H9, H10, H11, H12, H13, H14, H15, H16, H17, H18, H19, H20, H21, Hs⟩
    isplitl [Hs Hp]; · (isplitl [Hs]; · iexact Hs); iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · simp only [before21 m c t h0]
    iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (bodyB c (grid0.coords t) (bufs t) (fun h => h0 ((isFirst_iff t).mp h)) (sampleOut (ins m c t0)) (ins m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexact H21
    isplitl [Hs]; · iexact Hs
    iintro ⟨H0, H1, H2, H3, H4, H5, H6, H7, H8, H9, H10, H11, H12, H13, H14, H15, H16, H17, H18, H19, H20, H21, Hs⟩
    isplitl [Hs Hp]; · (isplitl [Hs]; · iexact Hs); iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iapply (leaves21 m c t h0); iexact H21

/-- The pipeline's body obligation. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- Every execution ends, each pipeline array at what the proof data says, every other buffer as the region found it, and
    every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) (run_main m ρ)) ((θ_run defs _ _).mono (fun _ h => h.2) (run_main_quiescent m ρ))

end Cert.MixIdeal.Body

end
-- ==== Proof.MixRow.lean ====
module

public import proofs.«01_k».proof.Proof.FfnRow

/-!
What the last call does to one row, over the extended reals: the three groups' outputs are joined by
their softmax denominators, the two branches are mixed into the row, the second half step follows, and
the last norm.
-/

@[expose] public section

noncomputable section

namespace Cert.Mix.Row

open Idealize.ShloMosaic
open Cert.Ffn.Row (normed halfStep)

/-- The greatest of the three logarithms. -/
def top (l0 l1 l2 : EReal) : EReal := max (max l0 l1) l2

/-- Two to the power of a logarithm over the greatest. -/
def weight (l t : EReal) : EReal := Ideal.exp2 (l - t)

/-- The weighted mean of the three groups' outputs. -/
def merged (l0 l1 l2 o0 o1 o2 : EReal) : EReal :=
  Ideal.div (weight l0 (top l0 l1 l2) * o0 + weight l1 (top l0 l1 l2) * o1 + weight l2 (top l0 l1 l2) * o2)
    (weight l0 (top l0 l1 l2) + weight l1 (top l0 l1 l2) + weight l2 (top l0 l1 l2))

/-- The row plus the product of the pooled branch and the gated attention branch with the output weight. -/
def mixed (x pool gate : Fin 1024 → EReal) (attn : Fin 256 → EReal) (wabr : Fin 256 → Fin 1024 → EReal)
    (wo : Fin 1024 → Fin 1024 → EReal) (j : Fin 1024) : EReal :=
  x j + ∑ k, (pool k + gate k * ∑ c, attn c * wabr c k) * wo k j

/-- The last norm of the second half step. -/
def finished (x g : Fin 1024 → EReal) (wg wu : Fin 1024 → Fin 2816 → EReal) (wd : Fin 2816 → Fin 1024 → EReal)
    (gf : Fin 1024 → EReal) (j : Fin 1024) : EReal :=
  normed (halfStep x g wg wu wd) gf j

/-- A residue stream's plane (batch, head pair, residue, row, lane) in token order: token `t` of a sequence is row
    `t / d` of the stream of residue `t % d`, and column `c` is lane `c % 128` of head pair `c / 128`. -/
def token (d r : Nat) (hd : 0 < d) (hr : r * d = 2048) (o : (⟨5, ![16, 2, d, r, 128]⟩ : Shape).Idx → EReal)
    (n : Fin 32768) (c : Fin 256) : EReal :=
  o (ix5 ⟨n.val / 2048, by omega⟩ ⟨c.val / 128, by omega⟩ ⟨n.val % 2048 % d, Nat.mod_lt _ hd⟩
    ⟨n.val % 2048 / d, Nat.div_lt_of_lt_mul (by rw [Nat.mul_comm, hr]; omega)⟩ ⟨c.val % 128, by omega⟩)

end Cert.Mix.Row
-- ==== Proof.MixRowWise.lean ====
module

public import proofs.«01_k».proof.Proof.MixIdealBody
public import proofs.«01_k».proof.Proof.MixRow
public import Idealize.ShloMosaic.Lib.Pointwise
public import Idealize.ShloMosaic.Lib.WordCmp

/-!
The values a step of the last call leaves, read row by row.
-/

@[expose] public section

set_option maxRecDepth 16384

noncomputable section

namespace Cert.MixIdeal.Body

open Cert.MixIdeal Cert.MixIdeal.Gen
open Idealize.ShloMosaic Idealize.ShloMosaic.TcCoe Idealize.ShloMosaic.Tactic
open Cert.Mix.Row Cert.Mix.Stage
open Cert.Ffn.Row (normed column gated halfStep sum_columns)

/-- The first head pair's plane of the undilated group, entry by entry. -/
theorem pair0_eq (o : Vec Ideal S1x2x1x512x128 .f32) :
    pair0 o = fun i => o (ix5 0 0 0 ⟨(i 3).val, (i 3).isLt⟩ ⟨(i 4).val, (i 4).isLt⟩) := by
  funext i
  unfold pair0
  refine congrArg o (funext fun a => Fin.ext ?_)
  have h0 : (i 0).val < 1 := (i 0).isLt
  have h1 : (i 1).val < 1 := (i 1).isLt
  have h2 : (i 2).val < 1 := (i 2).isLt
  match a with
  | ⟨0, _⟩ => show 0 + 1 * (i 0).val = 0; omega
  | ⟨1, _⟩ => show 0 + 1 * (i 1).val = 0; omega
  | ⟨2, _⟩ => show 0 + 1 * (i 2).val = 0; omega
  | ⟨3, _⟩ => show 0 + 1 * (i 3).val = (i 3).val; omega
  | ⟨4, _⟩ => show 0 + 1 * (i 4).val = (i 4).val; omega

/-- The second head pair's. -/
theorem pair1_eq (o : Vec Ideal S1x2x1x512x128 .f32) :
    pair1 o = fun i => o (ix5 0 1 0 ⟨(i 3).val, (i 3).isLt⟩ ⟨(i 4).val, (i 4).isLt⟩) := by
  funext i
  unfold pair1
  refine congrArg o (funext fun a => Fin.ext ?_)
  have h0 : (i 0).val < 1 := (i 0).isLt
  have h1 : (i 1).val < 1 := (i 1).isLt
  have h2 : (i 2).val < 1 := (i 2).isLt
  match a with
  | ⟨0, _⟩ => show 0 + 1 * (i 0).val = 0; omega
  | ⟨1, _⟩ => show 1 + 1 * (i 1).val = 1; omega
  | ⟨2, _⟩ => show 0 + 1 * (i 2).val = 0; omega
  | ⟨3, _⟩ => show 0 + 1 * (i 3).val = (i 3).val; omega
  | ⟨4, _⟩ => show 0 + 1 * (i 4).val = (i 4).val; omega

/-- Entry (row, lane) of a head pair's plane of each group of a tile, in token order. -/
def near (o : Vec Ideal S1x2x1x512x128 .f32) (h : Fin 2) (p : Fin 512) (c : Fin 128) : EReal := o (ix5 0 h 0 p c)
/-- The same of the group of four streams. -/
def fours (o : Vec Ideal S1x2x4x128x128 .f32) (h : Fin 2) (p : Fin 512) (c : Fin 128) : EReal :=
  o (ix5 0 h ⟨p.val % 4, by omega⟩ ⟨p.val / 4, by omega⟩ c)
/-- The same of the group of sixteen streams. -/
def sixteens (o : Vec Ideal S1x2x16x32x128 .f32) (h : Fin 2) (p : Fin 512) (c : Fin 128) : EReal :=
  o (ix5 0 h ⟨p.val % 16, by omega⟩ ⟨p.val / 16, by omega⟩ c)

/-- The merged attention output of a tile's row at a lane of a head pair. -/
def mergedAt (x : Ins Ideal) (h : Fin 2) (p : Fin 512) (c : Fin 128) : EReal :=
  merged (near x.x4 h p c) (fours x.x6 h p c) (sixteens x.x8 h p c) (near x.x3 h p c) (fours x.x5 h p c) (sixteens x.x7 h p c)

/-- The first head pair's attention columns. -/
theorem attnA_row (x : Ins Ideal) (p : Fin 512) (c : Fin 128) : attnA x (ix2 p c) = mergedAt x 0 p c := by
  unfold attnA
  rw [pair0_eq x.x3, pair0_eq x.x4]
  unfold k0_pay63 k0_pay6 k0_pay11 k0_pay34 k0_pay35 k0_pay40
  pointwise
  rfl

/-- A sum over the 256 columns is the sum over the first head pair's plus the sum over the second's. -/
theorem sum_lanes (f : Fin 256 → EReal) :
    ∑ c, f c = (∑ c : Fin 128, f ⟨c.val, by omega⟩) + ∑ c : Fin 128, f ⟨128 + c.val, by omega⟩ :=
  Fin.sum_univ_add (a := 128) (b := 128) f

/-- The two branches mixed, row by row. -/
theorem branches_row (x : Ins Ideal) (p : Fin 512) (k : Fin 1024) :
    branches x (ix2 p k) = x.x1 (ix2 p k) + x.x2 (ix2 p k)
      * ∑ c : Fin 256, mergedAt x ⟨c.val / 128, by omega⟩ p ⟨c.val % 128, by omega⟩ * x.x9 (ix2 c k) := by
  unfold branches
  rw [pair1_eq x.x3, pair1_eq x.x4]
  unfold k0_pay121 k0_pay64 k0_pay69 k0_pay91 k0_pay92 k0_pay97
  pointwise
  simp only [attnA_row]
  rw [sum_lanes]
  refine congrArg (fun s => x.x1 (ix2 p k) + x.x2 (ix2 p k) * s) (congrArg₂ (· + ·) ?_ ?_)
  · refine Finset.sum_congr rfl fun c _ => congrArg (· * _) ?_
    refine congrArg₂ (fun h l => mergedAt x h p l) (Fin.ext ?_) (Fin.ext ?_)
    · show 0 = c.val / 128
      omega
    · show c.val = c.val % 128
      omega
  · refine Finset.sum_congr rfl fun c _ => congrArg (· * _) ?_
    refine Eq.trans (b := mergedAt x 1 p c) rfl ?_
    refine congrArg₂ (fun h l => mergedAt x h p l) (Fin.ext ?_) (Fin.ext ?_)
    · show 1 = (128 + c.val) / 128
      omega
    · show c.val = (128 + c.val) % 128
      omega

/-- The first part of the columns. -/
theorem colsA_eq (w : Vec Ideal S1024x2816 .bf16) :
    colsA w = fun i => w (ix2 (i 0) ⟨(i 1).val, by have := (i 1).isLt; simp at this; omega⟩) := by
  funext i
  unfold colsA
  pointwise

/-- The last part of the columns. -/
theorem colsB_eq (w : Vec Ideal S1024x2816 .bf16) :
    colsB w = fun i => w (ix2 (i 0) ⟨1536 + (i 1).val, by have := (i 1).isLt; simp at this; omega⟩) := by
  funext i
  unfold colsB
  pointwise

/-- The first part of the rows. -/
theorem rowsA_eq (w : Vec Ideal S2816x1024 .bf16) :
    rowsA w = fun i => w (ix2 ⟨(i 0).val, by have := (i 0).isLt; simp at this; omega⟩ (i 1)) := by
  funext i
  unfold rowsA
  pointwise

/-- The last part of the rows. -/
theorem rowsB_eq (w : Vec Ideal S2816x1024 .bf16) :
    rowsB w = fun i => w (ix2 ⟨1536 + (i 0).val, by have := (i 0).isLt; simp at this; omega⟩ (i 1)) := by
  funext i
  unfold rowsB
  pointwise

/-- A tile's row of prompt activations with the mixed branches' product added. -/
def promptMixed (x : Ins Ideal) (p : Fin 512) : Fin 1024 → EReal :=
  mixed (fun k => x.x0 (ix2 p k)) (fun k => x.x1 (ix2 p k)) (fun k => x.x2 (ix2 p k))
    (fun c => mergedAt x ⟨c.val / 128, by omega⟩ p ⟨c.val % 128, by omega⟩) (fun c k => x.x9 (ix2 c k)) (fun k j => x.x10 (ix2 k j))

/-- The tile after the output product, row by row. -/
theorem mixed_row (x : Ins Ideal) (p : Fin 512) (j : Fin 1024) :
    k0_pay122 x.x0 (branches x) x.x10 (ix2 p j) = promptMixed x p j := by
  unfold k0_pay122 promptMixed mixed
  pointwise
  simp only [branches_row]

/-- It normed. -/
theorem mixedNormed (x : Ins Ideal) (p : Fin 512) (k : Fin 1024) :
    k0_pay123 x.x0 (branches x) x.x10 x.x11 (ix2 p k) = normed (promptMixed x p) (fun k => x.x11 (ix2 0 k)) k := by
  unfold k0_pay123 normed
  pointwise
  simp only [mixed_row]

/-- The tile after the second half step, row by row, the last norm still to come. -/
theorem promptOut_row (x : Ins Ideal) (p : Fin 512) (j : Fin 1024) :
    promptOut x (ix2 p j) = finished (promptMixed x p) (fun k => x.x11 (ix2 0 k)) (fun k c => x.x12 (ix2 k c))
      (fun k c => x.x13 (ix2 k c)) (fun c j => x.x14 (ix2 c j)) (fun k => x.x15 (ix2 0 k)) j := by
  unfold promptOut
  rw [colsA_eq x.x12, colsA_eq x.x13, colsB_eq x.x12, colsB_eq x.x13, rowsA_eq x.x14, rowsB_eq x.x14]
  unfold k0_pay1 k0_pay124 k0_pay125
  unfold finished normed halfStep
  simp only [sum_columns]
  unfold gated column
  pointwise
  simp only [mixedNormed, mixed_row]

/-- The sample rows with the mixed branches' product added. -/
def sampleMixed (x : Ins Ideal) (p : Fin 32) : Fin 1024 → EReal :=
  mixed (fun k => x.x16 (ix2 p k)) (fun k => x.x17 (ix2 p k)) (fun k => x.x18 (ix2 p k))
    (fun c => x.x19 (ix2 p c)) (fun c k => x.x9 (ix2 c k)) (fun k j => x.x10 (ix2 k j))

/-- The sample rows after the output product. -/
theorem sampleMixed_row (x : Ins Ideal) (p : Fin 32) (j : Fin 1024) :
    k0_pay2 x.x16 x.x17 x.x18 x.x19 x.x9 x.x10 (ix2 p j) = sampleMixed x p j := by
  unfold k0_pay2 sampleMixed mixed
  pointwise

/-- They normed. -/
theorem sampleMixedNormed (x : Ins Ideal) (p : Fin 32) (k : Fin 1024) :
    k0_pay3 x.x16 x.x17 x.x18 x.x19 x.x9 x.x10 x.x11 (ix2 p k) = normed (sampleMixed x p) (fun k => x.x11 (ix2 0 k)) k := by
  unfold k0_pay3 normed
  pointwise
  simp only [sampleMixed_row]

/-- The sample rows the first step leaves. -/
theorem sampleOut_row (x : Ins Ideal) (p : Fin 32) (j : Fin 1024) :
    sampleOut x (ix2 p j) = finished (sampleMixed x p) (fun k => x.x11 (ix2 0 k)) (fun k c => x.x12 (ix2 k c))
      (fun k c => x.x13 (ix2 k c)) (fun c j => x.x14 (ix2 c j)) (fun k => x.x15 (ix2 0 k)) j := by
  unfold sampleOut
  rw [colsA_eq x.x12, colsA_eq x.x13, colsB_eq x.x12, colsB_eq x.x13, rowsA_eq x.x14, rowsB_eq x.x14]
  unfold k0_pay5 k0_pay4
  unfold finished normed halfStep
  simp only [sum_columns]
  unfold gated column
  pointwise
  simp only [sampleMixedNormed, sampleMixed_row]

end Cert.MixIdeal.Body
-- ==== Proof.MixRef.lean ====
module

public import proofs.«01_k».proof.Proof.MixRow
public import proofs.«01_k».proof.Proof.Gen.MixRefIdeal.Read
public import Idealize.ShloMosaic.Lib.Pointwise
public import Idealize.ShloMosaic.Lib.WordCmp

/-!
The two results of the reference of the last call, read row by row.
-/

@[expose] public section

set_option maxRecDepth 16384

noncomputable section

namespace Cert.MixRefIdeal.Read

open Cert.MixRefIdeal Cert.MixRefIdeal.Gen
open Idealize.ShloMosaic Idealize.ShloMosaic.TcCoe Idealize.ShloMosaic.Tactic
open Cert.Mix.Row
open Cert.Ffn.Row (normed column gated halfStep gains promptRow)

variable (x0 : (⟨S32768x1024, .f32⟩ : BufTy).Contents (Elt Ideal)) (x1 x2 : (⟨S16x2048x1024, .f32⟩ : BufTy).Contents (Elt Ideal))
  (x3 x4 : (⟨S16x2x1x2048x128, .f32⟩ : BufTy).Contents (Elt Ideal)) (x5 x6 : (⟨S16x2x4x512x128, .f32⟩ : BufTy).Contents (Elt Ideal))
  (x7 x8 : (⟨S16x2x16x128x128, .f32⟩ : BufTy).Contents (Elt Ideal)) (x9 x10 x11 : (⟨S32x1024, .f32⟩ : BufTy).Contents (Elt Ideal))
  (x12 : (⟨S256x32, .f32⟩ : BufTy).Contents (Elt Ideal)) (x13 : (⟨S256x1024, .bf16⟩ : BufTy).Contents (Elt Ideal))
  (x14 : (⟨S1024x1024, .bf16⟩ : BufTy).Contents (Elt Ideal)) (x15 : (⟨S1x1024, .f32⟩ : BufTy).Contents (Elt Ideal))
  (x16 x17 : (⟨S1024x2816, .bf16⟩ : BufTy).Contents (Elt Ideal)) (x18 : (⟨S2816x1024, .bf16⟩ : BufTy).Contents (Elt Ideal))
  (x19 : (⟨S1024, .f32⟩ : BufTy).Contents (Elt Ideal))

/-- A plane of the undilated group in token order. -/
theorem tokens1 (o : (⟨S16x2x1x2048x128, .f32⟩ : BufTy).Contents (Elt Ideal)) (n : Fin 32768) (c : Fin 256) :
    val_main_v1 (F := Ideal) o (ix2 n c) = token 1 2048 (by decide) rfl o n c := by
  rw [val_main_v1_apply, val_main_v0_apply]
  unfold token
  refine congrArg o (funext fun a => Fin.ext ?_)
  have hn := n.isLt
  have hc := c.isLt
  match a with
  | ⟨0, _⟩ => show (n.val * 256 + c.val) / 524288 = n.val / 2048; omega
  | ⟨1, _⟩ => show (n.val * 256 + c.val) / 128 % 2 = c.val / 128; omega
  | ⟨2, _⟩ => show 0 = n.val % 2048 % 1; omega
  | ⟨3, _⟩ => show (n.val * 256 + c.val) / 256 % 2048 = n.val % 2048 / 1; omega
  | ⟨4, _⟩ => show (n.val * 256 + c.val) % 128 = c.val % 128; omega

/-- A plane of the group of four streams in token order. -/
theorem tokens4 (o : (⟨S16x2x4x512x128, .f32⟩ : BufTy).Contents (Elt Ideal)) (n : Fin 32768) (c : Fin 256) :
    val_main_v3 (F := Ideal) o (ix2 n c) = token 4 512 (by decide) rfl o n c := by
  rw [val_main_v3_apply, val_main_v2_apply]
  unfold token
  refine congrArg o (funext fun a => Fin.ext ?_)
  have hn := n.isLt
  have hc := c.isLt
  match a with
  | ⟨0, _⟩ => show (n.val * 256 + c.val) / 524288 = n.val / 2048; omega
  | ⟨1, _⟩ => show (n.val * 256 + c.val) / 128 % 2 = c.val / 128; omega
  | ⟨2, _⟩ => show (n.val * 256 + c.val) / 256 % 4 = n.val % 2048 % 4; omega
  | ⟨3, _⟩ => show (n.val * 256 + c.val) / 1024 % 512 = n.val % 2048 / 4; omega
  | ⟨4, _⟩ => show (n.val * 256 + c.val) % 128 = c.val % 128; omega

/-- A plane of the group of sixteen streams in token order. -/
theorem tokens16 (o : (⟨S16x2x16x128x128, .f32⟩ : BufTy).Contents (Elt Ideal)) (n : Fin 32768) (c : Fin 256) :
    val_main_v5 (F := Ideal) o (ix2 n c) = token 16 128 (by decide) rfl o n c := by
  rw [val_main_v5_apply, val_main_v4_apply]
  unfold token
  refine congrArg o (funext fun a => Fin.ext ?_)
  have hn := n.isLt
  have hc := c.isLt
  match a with
  | ⟨0, _⟩ => show (n.val * 256 + c.val) / 524288 = n.val / 2048; omega
  | ⟨1, _⟩ => show (n.val * 256 + c.val) / 128 % 2 = c.val / 128; omega
  | ⟨2, _⟩ => show (n.val * 256 + c.val) / 256 % 16 = n.val % 2048 % 16; omega
  | ⟨3, _⟩ => show (n.val * 256 + c.val) / 4096 % 128 = n.val % 2048 / 16; omega
  | ⟨4, _⟩ => show (n.val * 256 + c.val) % 128 = c.val % 128; omega

/-- The same planes read again. -/
theorem tokens1_again (o : (⟨S16x2x1x2048x128, .f32⟩ : BufTy).Contents (Elt Ideal)) (i) :
    val_main_v20 (F := Ideal) o i = val_main_v1 (F := Ideal) o i := rfl
/-- A plane of four residue streams in token order, read again. -/
theorem tokens4_again (o : (⟨S16x2x4x512x128, .f32⟩ : BufTy).Contents (Elt Ideal)) (i) :
    val_main_v23 (F := Ideal) o i = val_main_v3 (F := Ideal) o i := rfl
/-- A plane of sixteen residue streams in token order, read again. -/
theorem tokens16_again (o : (⟨S16x2x16x128x128, .f32⟩ : BufTy).Contents (Elt Ideal)) (i) :
    val_main_v27 (F := Ideal) o i = val_main_v5 (F := Ideal) o i := rfl

/-- The number two. -/
theorem two_bits : Ideal.ofBits FTy.f32 0x40000000#32 = ((2 : ℝ) : EReal) := by
  simp [Ideal.ofBits, Ideal.ieee, -EReal.coe_mul]; norm_num

/-- A power of two is the base-2 exponential. -/
theorem pow_two (x : EReal) : Ideal.pow (Ideal.ofBits FTy.f32 0x40000000#32) x = Ideal.exp2 x := by
  rw [two_bits]
  have h2 : ¬ (2 : ℝ) < 0 := by norm_num
  have h1 : (1 : ℝ) < 2 := by norm_num
  induction x using EReal.rec with
  | bot => exact (if_neg h2).trans (if_pos h1)
  | coe r => rfl
  | top => exact (if_neg h2).trans (if_pos h1)

/-- The merged attention output of token `n` at column `c`. -/
def attended (n : Fin 32768) (c : Fin 256) : EReal :=
  merged (token 1 2048 (by decide) rfl x4 n c) (token 4 512 (by decide) rfl x6 n c) (token 16 128 (by decide) rfl x8 n c)
    (token 1 2048 (by decide) rfl x3 n c) (token 4 512 (by decide) rfl x5 n c) (token 16 128 (by decide) rfl x7 n c)

/-- The reference's. -/
theorem attended_eq (n : Fin 32768) (c : Fin 256) :
    val_main_v30 (F := Ideal) x3 x4 x5 x6 x7 x8 (ix2 n c) = attended x3 x4 x5 x6 x7 x8 n c := by
  unfold val_main_v30 val_main_v29 val_main_v28 val_main_v25 val_main_v24 val_main_v21 val_main_v18 val_main_v17 val_main_v16
    val_main_v15 val_main_v14 val_main_v13 val_main_v12 val_main_v11 val_main_v10 val_main_v9 val_main_v8 val_main_v7 val_main_v6
    val_main_cst val_main_cst_0 val_main_cst_1
  pointwise
  simp only [tokens1_again, tokens4_again, tokens16_again, tokens1, tokens4, tokens16]
  simp only [pow_two]
  rfl

/-- The gains of the last norm. -/
def lastGains (k : Fin 1024) : EReal := x19 (ix1 k)

/-- The row of token `n` after the two branches are added. -/
def promptMixed (n : Fin 32768) (j : Fin 1024) : EReal :=
  mixed (fun k => x0 (ix2 n k)) (promptRow x1 n) (promptRow x2 n) (attended x3 x4 x5 x6 x7 x8 n)
    (fun c k => x13 (ix2 c k)) (fun k j => x14 (ix2 k j)) j

/-- The row of sample `n` after the two branches are added. -/
def sampleMixed (n : Fin 32) (j : Fin 1024) : EReal :=
  mixed (fun k => x9 (ix2 n k)) (fun k => x10 (ix2 n k)) (fun k => x11 (ix2 n k)) (fun c => x12 (ix2 c n))
    (fun c k => x13 (ix2 c k)) (fun k j => x14 (ix2 k j)) j

/-- The reference's row after the two branches. -/
theorem mixed_prompt (n : Fin 32768) (j : Fin 1024) :
    val_main_v39 (F := Ideal) x0 x1 x2 x3 x4 x5 x6 x7 x8 x13 x14 (ix2 n j) = promptMixed x0 x1 x2 x3 x4 x5 x6 x7 x8 x13 x14 n j := by
  unfold val_main_v39 val_main_v38 val_main_v37 val_main_v36 val_main_v35 val_main_v34 val_main_v33 val_main_v32 val_main_v31
  pointwise
  simp only [attended_eq]
  rfl

/-- The normed row. -/
theorem normed_prompt (n : Fin 32768) (k : Fin 1024) :
    val_main_v53 (F := Ideal) x0 x1 x2 x3 x4 x5 x6 x7 x8 x13 x14 x15 (ix2 n k) = normed (promptMixed x0 x1 x2 x3 x4 x5 x6 x7 x8 x13 x14 n) (gains x15) k := by
  unfold val_main_v53 val_main_v52 val_main_v51 val_main_v50 val_main_v49 val_main_v48 val_main_v47 val_main_v46 val_main_v45 val_main_v44 val_main_v43 val_main_v42 val_main_v41 val_main_v40 val_main_cst_2 val_main_cst_3 val_main_cst_4 normed gains
  pointwise
  simp only [mixed_prompt]

/-- The gated columns. -/
theorem gated_prompt (n : Fin 32768) (k : Fin 2816) :
    val_main_v59 (F := Ideal) x0 x1 x2 x3 x4 x5 x6 x7 x8 x13 x14 x15 x16 x17 (ix2 n k)
      = gated (promptMixed x0 x1 x2 x3 x4 x5 x6 x7 x8 x13 x14 n) (gains x15) (fun k c => x16 (ix2 k c)) (fun k c => x17 (ix2 k c)) k := by
  unfold val_main_v59 val_main_v58 val_main_v57 val_main_v56 val_main_call0_v5 val_main_call0_v4 val_main_call0_v3 val_main_call0_v2 val_main_call0_v1 val_main_call0_v0 val_main_call0_cst val_main_call0_cst_0 val_main_v55 val_main_v54 gated column
  pointwise
  simp only [normed_prompt]
  rfl

/-- The half step. -/
theorem half_prompt (n : Fin 32768) (j : Fin 1024) :
    val_main_v64 (F := Ideal) x0 x1 x2 x3 x4 x5 x6 x7 x8 x13 x14 x15 x16 x17 x18 (ix2 n j)
      = halfStep (promptMixed x0 x1 x2 x3 x4 x5 x6 x7 x8 x13 x14 n) (gains x15) (fun k c => x16 (ix2 k c)) (fun k c => x17 (ix2 k c)) (fun k c => x18 (ix2 k c)) j := by
  unfold val_main_v64 val_main_v63 val_main_v62 val_main_v61 val_main_v60 val_main_cst_5 halfStep
  pointwise
  simp only [gated_prompt, mixed_prompt]

/-- The prompt result. -/
theorem prompt_eq : val_main_v77 (F := Ideal) x0 x1 x2 x3 x4 x5 x6 x7 x8 x13 x14 x15 x16 x17 x18 x19
    = fun i => finished (promptMixed x0 x1 x2 x3 x4 x5 x6 x7 x8 x13 x14 (i 0)) (gains x15) (fun k c => x16 (ix2 k c)) (fun k c => x17 (ix2 k c)) (fun k c => x18 (ix2 k c)) (lastGains x19) (i 1) := by
  funext i
  obtain ⟨n, j, rfl⟩ : ∃ (n : Fin 32768) (j : Fin 1024), i = ix2 n j := ⟨i 0, i 1, eq_ix2 i⟩
  unfold val_main_v77 val_main_v76 val_main_v75 val_main_v74 val_main_v73 val_main_v72 val_main_v71 val_main_v70 val_main_v69 val_main_v68 val_main_v67 val_main_v66 val_main_v65 val_main_cst_6 val_main_cst_7 val_main_cst_8 finished normed lastGains
  pointwise
  simp only [half_prompt]

/-- The reference's row after the two branches. -/
theorem mixed_sample (n : Fin 32) (j : Fin 1024) :
    val_main_v85 (F := Ideal) x9 x10 x11 x12 x13 x14 (ix2 n j) = sampleMixed x9 x10 x11 x12 x13 x14 n j := by
  unfold val_main_v85 val_main_v84 val_main_v83 val_main_v82 val_main_v81 val_main_v80 val_main_v79 val_main_v78
  pointwise
  rfl

/-- The normed row. -/
theorem normed_sample (n : Fin 32) (k : Fin 1024) :
    val_main_v99 (F := Ideal) x9 x10 x11 x12 x13 x14 x15 (ix2 n k) = normed (sampleMixed x9 x10 x11 x12 x13 x14 n) (gains x15) k := by
  unfold val_main_v99 val_main_v98 val_main_v97 val_main_v96 val_main_v95 val_main_v94 val_main_v93 val_main_v92 val_main_v91 val_main_v90 val_main_v89 val_main_v88 val_main_v87 val_main_v86 val_main_cst_9 val_main_cst_10 val_main_cst_11 normed gains
  pointwise
  simp only [mixed_sample]

/-- The gated columns. -/
theorem gated_sample (n : Fin 32) (k : Fin 2816) :
    val_main_v105 (F := Ideal) x9 x10 x11 x12 x13 x14 x15 x16 x17 (ix2 n k)
      = gated (sampleMixed x9 x10 x11 x12 x13 x14 n) (gains x15) (fun k c => x16 (ix2 k c)) (fun k c => x17 (ix2 k c)) k := by
  unfold val_main_v105 val_main_v104 val_main_v103 val_main_v102 val_main_call1_v5 val_main_call1_v4 val_main_call1_v3 val_main_call1_v2 val_main_call1_v1 val_main_call1_v0 val_main_call1_cst val_main_call1_cst_0 val_main_v101 val_main_v100 gated column
  pointwise
  simp only [normed_sample]
  rfl

/-- The half step. -/
theorem half_sample (n : Fin 32) (j : Fin 1024) :
    val_main_v110 (F := Ideal) x9 x10 x11 x12 x13 x14 x15 x16 x17 x18 (ix2 n j)
      = halfStep (sampleMixed x9 x10 x11 x12 x13 x14 n) (gains x15) (fun k c => x16 (ix2 k c)) (fun k c => x17 (ix2 k c)) (fun k c => x18 (ix2 k c)) j := by
  unfold val_main_v110 val_main_v109 val_main_v108 val_main_v107 val_main_v106 val_main_cst_12 halfStep
  pointwise
  simp only [gated_sample, mixed_sample]

/-- The sample result. -/
theorem sample_eq : val_main_v123 (F := Ideal) x9 x10 x11 x12 x13 x14 x15 x16 x17 x18 x19
    = fun i => finished (sampleMixed x9 x10 x11 x12 x13 x14 (i 0)) (gains x15) (fun k c => x16 (ix2 k c)) (fun k c => x17 (ix2 k c)) (fun k c => x18 (ix2 k c)) (lastGains x19) (i 1) := by
  funext i
  obtain ⟨n, j, rfl⟩ : ∃ (n : Fin 32) (j : Fin 1024), i = ix2 n j := ⟨i 0, i 1, eq_ix2 i⟩
  unfold val_main_v123 val_main_v122 val_main_v121 val_main_v120 val_main_v119 val_main_v118 val_main_v117 val_main_v116 val_main_v115 val_main_v114 val_main_v113 val_main_v112 val_main_v111 val_main_cst_13 val_main_cst_14 val_main_cst_15 finished normed lastGains
  pointwise
  simp only [half_sample]

end Cert.MixRefIdeal.Read
-- ==== Proof.MixValue.lean ====
module

public import proofs.«01_k».proof.Proof.MixIdealFrame
public import proofs.«01_k».proof.Proof.MixRowWise
public import proofs.«01_k».proof.Proof.MixRef
public import Idealize.ShloMosaic.Lib.Claim
public import Idealize.ShloMosaic.Lib.Pipeline.ValueKit

/-!
The two results of the last call as functions of its arguments: a step's tile is 512 tokens of one sequence,
and the residue streams' planes are its own.
-/

@[expose] public section

set_option maxRecDepth 16384

noncomputable section

namespace Cert.MixIdeal.Body

open Cert.MixIdeal Cert.MixIdeal.Gen
open Idealize.ShloMosaic Idealize.ShloMosaic.TcCoe Idealize.ShloMosaic.Tactic
open Cert.Mix.Row
open Cert.Ffn.Row (normed column gated halfStep gains promptRow)
open Cert.MixRefIdeal.Read (attended lastGains)

variable (m : (ℓ : Loc nD τ sig) → Buf (Elt Ideal) ℓ)

/-- The block of window 0 at each grid point. -/
theorem idx0 : ∀ t : Fin cfg0.N, win0_0.index t = ![t.val, 0] := by decide +kernel
/-- The block of window 1 at each grid point. -/
theorem idx1 : ∀ t : Fin cfg0.N, win0_1.index t = ![t.val, 0] := by decide +kernel
/-- The block of window 2 at each grid point. -/
theorem idx2 : ∀ t : Fin cfg0.N, win0_2.index t = ![t.val, 0] := by decide +kernel
/-- The block of window 3 at each grid point. -/
theorem idx3 : ∀ t : Fin cfg0.N, win0_3.index t = ![t.val / 4, 0, 0, t.val % 4, 0] := by decide +kernel
/-- The block of window 4 at each grid point. -/
theorem idx4 : ∀ t : Fin cfg0.N, win0_4.index t = ![t.val / 4, 0, 0, t.val % 4, 0] := by decide +kernel
/-- The block of window 5 at each grid point. -/
theorem idx5 : ∀ t : Fin cfg0.N, win0_5.index t = ![t.val / 4, 0, 0, t.val % 4, 0] := by decide +kernel
/-- The block of window 6 at each grid point. -/
theorem idx6 : ∀ t : Fin cfg0.N, win0_6.index t = ![t.val / 4, 0, 0, t.val % 4, 0] := by decide +kernel
/-- The block of window 7 at each grid point. -/
theorem idx7 : ∀ t : Fin cfg0.N, win0_7.index t = ![t.val / 4, 0, 0, t.val % 4, 0] := by decide +kernel
/-- The block of window 8 at each grid point. -/
theorem idx8 : ∀ t : Fin cfg0.N, win0_8.index t = ![t.val / 4, 0, 0, t.val % 4, 0] := by decide +kernel
/-- The block of window 9 at each grid point. -/
theorem idx9 : ∀ t : Fin cfg0.N, win0_9.index t = ![0, 0] := by decide +kernel
/-- The block of window 10 at each grid point. -/
theorem idx10 : ∀ t : Fin cfg0.N, win0_10.index t = ![0, 0] := by decide +kernel
/-- The block of window 11 at each grid point. -/
theorem idx11 : ∀ t : Fin cfg0.N, win0_11.index t = ![0, 0] := by decide +kernel
/-- The block of window 12 at each grid point. -/
theorem idx12 : ∀ t : Fin cfg0.N, win0_12.index t = ![0, 0] := by decide +kernel
/-- The block of window 13 at each grid point. -/
theorem idx13 : ∀ t : Fin cfg0.N, win0_13.index t = ![0, 0] := by decide +kernel
/-- The block of window 14 at each grid point. -/
theorem idx14 : ∀ t : Fin cfg0.N, win0_14.index t = ![0, 0] := by decide +kernel
/-- The block of window 15 at each grid point. -/
theorem idx15 : ∀ t : Fin cfg0.N, win0_15.index t = ![0, 0] := by decide +kernel
/-- The block of window 16 at each grid point. -/
theorem idx16 : ∀ t : Fin cfg0.N, win0_16.index t = ![0, 0] := by decide +kernel
/-- The block of window 17 at each grid point. -/
theorem idx17 : ∀ t : Fin cfg0.N, win0_17.index t = ![0, 0] := by decide +kernel
/-- The block of window 18 at each grid point. -/
theorem idx18 : ∀ t : Fin cfg0.N, win0_18.index t = ![0, 0] := by decide +kernel
/-- The block of window 19 at each grid point. -/
theorem idx19 : ∀ t : Fin cfg0.N, win0_19.index t = ![0, 0] := by decide +kernel
/-- The block of window 20 at each grid point. -/
theorem idx20 : ∀ t : Fin cfg0.N, win0_20.index t = ![t.val, 0] := by decide +kernel
/-- The block of window 21 at each grid point. -/
theorem idx21 : ∀ t : Fin cfg0.N, win0_21.index t = ![0, 0] := by decide +kernel

/-- A row of a step's tile is a row of the batch. -/
theorem row_lt (t : Fin cfg0.N) (a : Fin 512) : 512 * t.val + a.val < 32768 := by
  have := t.isLt
  have : t.val < 64 := this
  omega

/-- A step's batch. -/
theorem batch_lt (t : Fin cfg0.N) : t.val / 4 < 16 := by
  have := t.isLt
  have : t.val < 64 := this
  omega

/-- A step's rows of the stream. -/
theorem iblk0 (c : Dev nD) (t : Fin cfg0.N) (a : Fin 512) (b : Fin 1024) :
    iblk m c 0 t (ix2 a b) = (m ((c : Thread nD τ).loc main_arg0)) (ix2 ⟨512 * t.val + a.val, row_lt t a⟩ b) := by
  unfold iblk
  entry_read
  blk_simp [idx0 t]
  pointwise
  blk_ext [idx0 t]

/-- Its rows of the pooled branch. -/
theorem iblk1 (c : Dev nD) (t : Fin cfg0.N) (a : Fin 512) (b : Fin 1024) :
    iblk m c 1 t (ix2 a b) = promptRow (m ((c : Thread nD τ).loc main_arg1)) ⟨512 * t.val + a.val, row_lt t a⟩ b := by
  unfold iblk
  entry_read
  blk_simp [idx1 t]
  pointwise
  unfold promptRow
  blk_ext [idx1 t]

/-- Its rows of the gates. -/
theorem iblk2 (c : Dev nD) (t : Fin cfg0.N) (a : Fin 512) (b : Fin 1024) :
    iblk m c 2 t (ix2 a b) = promptRow (m ((c : Thread nD τ).loc main_arg2)) ⟨512 * t.val + a.val, row_lt t a⟩ b := by
  unfold iblk
  entry_read
  blk_simp [idx2 t]
  pointwise
  unfold promptRow
  blk_ext [idx2 t]

/-- A step's planes of a group of 1 stream. -/
theorem iblk3 (c : Dev nD) (t : Fin cfg0.N) (h : Fin 2) (r : Fin 1) (k : Fin 512) (l : Fin 128) :
    iblk m c 3 t (ix5 0 h r k l)
      = (m ((c : Thread nD τ).loc main_arg3)) (ix5 ⟨t.val / 4, batch_lt t⟩ h r ⟨512 * (t.val % 4) + k.val, by omega⟩ l) := by
  unfold iblk
  entry_read
  refine congrArg (m ((c : Thread nD τ).loc main_arg3)) (funext fun a => Fin.ext ?_)
  match a with
  | ⟨0, _⟩ => blk_simp [idx3 t]; rfl
  | ⟨1, _⟩ => blk_simp [idx3 t]; try omega
  | ⟨2, _⟩ => blk_simp [idx3 t]; try omega
  | ⟨3, _⟩ =>
    blk_simp [idx3 t]
    show t.val % 4 * 512 + k.val = 512 * (t.val % 4) + k.val
    omega
  | ⟨4, _⟩ => blk_simp [idx3 t]; try omega

/-- A step's planes of a group of 1 stream. -/
theorem iblk4 (c : Dev nD) (t : Fin cfg0.N) (h : Fin 2) (r : Fin 1) (k : Fin 512) (l : Fin 128) :
    iblk m c 4 t (ix5 0 h r k l)
      = (m ((c : Thread nD τ).loc main_arg4)) (ix5 ⟨t.val / 4, batch_lt t⟩ h r ⟨512 * (t.val % 4) + k.val, by omega⟩ l) := by
  unfold iblk
  entry_read
  refine congrArg (m ((c : Thread nD τ).loc main_arg4)) (funext fun a => Fin.ext ?_)
  match a with
  | ⟨0, _⟩ => blk_simp [idx4 t]; rfl
  | ⟨1, _⟩ => blk_simp [idx4 t]; try omega
  | ⟨2, _⟩ => blk_simp [idx4 t]; try omega
  | ⟨3, _⟩ =>
    blk_simp [idx4 t]
    show t.val % 4 * 512 + k.val = 512 * (t.val % 4) + k.val
    omega
  | ⟨4, _⟩ => blk_simp [idx4 t]; try omega

/-- A step's planes of a group of 4 streams. -/
theorem iblk5 (c : Dev nD) (t : Fin cfg0.N) (h : Fin 2) (r : Fin 4) (k : Fin 128) (l : Fin 128) :
    iblk m c 5 t (ix5 0 h r k l)
      = (m ((c : Thread nD τ).loc main_arg5)) (ix5 ⟨t.val / 4, batch_lt t⟩ h r ⟨128 * (t.val % 4) + k.val, by omega⟩ l) := by
  unfold iblk
  entry_read
  refine congrArg (m ((c : Thread nD τ).loc main_arg5)) (funext fun a => Fin.ext ?_)
  match a with
  | ⟨0, _⟩ => blk_simp [idx5 t]; rfl
  | ⟨1, _⟩ => blk_simp [idx5 t]; try omega
  | ⟨2, _⟩ => blk_simp [idx5 t]; try omega
  | ⟨3, _⟩ =>
    blk_simp [idx5 t]
    show t.val % 4 * 128 + k.val = 128 * (t.val % 4) + k.val
    omega
  | ⟨4, _⟩ => blk_simp [idx5 t]; try omega

/-- A step's planes of a group of 4 streams. -/
theorem iblk6 (c : Dev nD) (t : Fin cfg0.N) (h : Fin 2) (r : Fin 4) (k : Fin 128) (l : Fin 128) :
    iblk m c 6 t (ix5 0 h r k l)
      = (m ((c : Thread nD τ).loc main_arg6)) (ix5 ⟨t.val / 4, batch_lt t⟩ h r ⟨128 * (t.val % 4) + k.val, by omega⟩ l) := by
  unfold iblk
  entry_read
  refine congrArg (m ((c : Thread nD τ).loc main_arg6)) (funext fun a => Fin.ext ?_)
  match a with
  | ⟨0, _⟩ => blk_simp [idx6 t]; rfl
  | ⟨1, _⟩ => blk_simp [idx6 t]; try omega
  | ⟨2, _⟩ => blk_simp [idx6 t]; try omega
  | ⟨3, _⟩ =>
    blk_simp [idx6 t]
    show t.val % 4 * 128 + k.val = 128 * (t.val % 4) + k.val
    omega
  | ⟨4, _⟩ => blk_simp [idx6 t]; try omega

/-- A step's planes of a group of 16 streams. -/
theorem iblk7 (c : Dev nD) (t : Fin cfg0.N) (h : Fin 2) (r : Fin 16) (k : Fin 32) (l : Fin 128) :
    iblk m c 7 t (ix5 0 h r k l)
      = (m ((c : Thread nD τ).loc main_arg7)) (ix5 ⟨t.val / 4, batch_lt t⟩ h r ⟨32 * (t.val % 4) + k.val, by omega⟩ l) := by
  unfold iblk
  entry_read
  refine congrArg (m ((c : Thread nD τ).loc main_arg7)) (funext fun a => Fin.ext ?_)
  match a with
  | ⟨0, _⟩ => blk_simp [idx7 t]; rfl
  | ⟨1, _⟩ => blk_simp [idx7 t]; try omega
  | ⟨2, _⟩ => blk_simp [idx7 t]; try omega
  | ⟨3, _⟩ =>
    blk_simp [idx7 t]
    show t.val % 4 * 32 + k.val = 32 * (t.val % 4) + k.val
    omega
  | ⟨4, _⟩ => blk_simp [idx7 t]; try omega

/-- A step's planes of a group of 16 streams. -/
theorem iblk8 (c : Dev nD) (t : Fin cfg0.N) (h : Fin 2) (r : Fin 16) (k : Fin 32) (l : Fin 128) :
    iblk m c 8 t (ix5 0 h r k l)
      = (m ((c : Thread nD τ).loc main_arg8)) (ix5 ⟨t.val / 4, batch_lt t⟩ h r ⟨32 * (t.val % 4) + k.val, by omega⟩ l) := by
  unfold iblk
  entry_read
  refine congrArg (m ((c : Thread nD τ).loc main_arg8)) (funext fun a => Fin.ext ?_)
  match a with
  | ⟨0, _⟩ => blk_simp [idx8 t]; rfl
  | ⟨1, _⟩ => blk_simp [idx8 t]; try omega
  | ⟨2, _⟩ => blk_simp [idx8 t]; try omega
  | ⟨3, _⟩ =>
    blk_simp [idx8 t]
    show t.val % 4 * 32 + k.val = 32 * (t.val % 4) + k.val
    omega
  | ⟨4, _⟩ => blk_simp [idx8 t]; try omega

/-- A weight. -/
theorem iblk9 (c : Dev nD) (t : Fin cfg0.N) (a : Fin 256) (b : Fin 1024) :
    iblk m c 9 t (ix2 a b) = (m ((c : Thread nD τ).loc main_arg13)) (ix2 a b) := by
  unfold iblk
  entry_read
  blk_simp [idx9 t]
  pointwise
  blk_ext [idx9 t]

/-- A weight. -/
theorem iblk10 (c : Dev nD) (t : Fin cfg0.N) (a : Fin 1024) (b : Fin 1024) :
    iblk m c 10 t (ix2 a b) = (m ((c : Thread nD τ).loc main_arg14)) (ix2 a b) := by
  unfold iblk
  entry_read
  blk_simp [idx10 t]
  pointwise
  blk_ext [idx10 t]

/-- The second half step's gains. -/
theorem iblk11 (c : Dev nD) (t : Fin cfg0.N) (a : Fin 1) (b : Fin 1024) :
    iblk m c 11 t (ix2 a b) = gains (m ((c : Thread nD τ).loc main_arg15)) b := by
  unfold iblk
  entry_read
  blk_simp [idx11 t]
  pointwise
  unfold gains
  blk_ext [idx11 t]

/-- A weight. -/
theorem iblk12 (c : Dev nD) (t : Fin cfg0.N) (a : Fin 1024) (b : Fin 2816) :
    iblk m c 12 t (ix2 a b) = (m ((c : Thread nD τ).loc main_arg16)) (ix2 a b) := by
  unfold iblk
  entry_read
  blk_simp [idx12 t]
  pointwise
  blk_ext [idx12 t]

/-- A weight. -/
theorem iblk13 (c : Dev nD) (t : Fin cfg0.N) (a : Fin 1024) (b : Fin 2816) :
    iblk m c 13 t (ix2 a b) = (m ((c : Thread nD τ).loc main_arg17)) (ix2 a b) := by
  unfold iblk
  entry_read
  blk_simp [idx13 t]
  pointwise
  blk_ext [idx13 t]

/-- A weight. -/
theorem iblk14 (c : Dev nD) (t : Fin cfg0.N) (a : Fin 2816) (b : Fin 1024) :
    iblk m c 14 t (ix2 a b) = (m ((c : Thread nD τ).loc main_arg18)) (ix2 a b) := by
  unfold iblk
  entry_read
  blk_simp [idx14 t]
  pointwise
  blk_ext [idx14 t]

/-- The last norm's gains. -/
theorem iblk15 (c : Dev nD) (t : Fin cfg0.N) (a : Fin 1) (b : Fin 1024) :
    iblk m c 15 t (ix2 a b) = lastGains (m ((c : Thread nD τ).loc main_arg19)) b := by
  unfold iblk
  entry_read
  blk_simp [idx15 t]
  pointwise
  unfold lastGains
  blk_ext [idx15 t]

/-- The sample's rows. -/
theorem iblk16 (c : Dev nD) (t : Fin cfg0.N) (a : Fin 32) (b : Fin 1024) :
    iblk m c 16 t (ix2 a b) = (m ((c : Thread nD τ).loc main_arg9)) (ix2 a b) := by
  unfold iblk
  entry_read
  blk_simp [idx16 t]
  pointwise
  blk_ext [idx16 t]

/-- The sample's rows. -/
theorem iblk17 (c : Dev nD) (t : Fin cfg0.N) (a : Fin 32) (b : Fin 1024) :
    iblk m c 17 t (ix2 a b) = (m ((c : Thread nD τ).loc main_arg10)) (ix2 a b) := by
  unfold iblk
  entry_read
  blk_simp [idx17 t]
  pointwise
  blk_ext [idx17 t]

/-- The sample's rows. -/
theorem iblk18 (c : Dev nD) (t : Fin cfg0.N) (a : Fin 32) (b : Fin 1024) :
    iblk m c 18 t (ix2 a b) = (m ((c : Thread nD τ).loc main_arg11)) (ix2 a b) := by
  unfold iblk
  entry_read
  blk_simp [idx18 t]
  pointwise
  blk_ext [idx18 t]

/-- The sample's attention, transposed. -/
theorem iblk19 (c : Dev nD) (t : Fin cfg0.N) (a : Fin 32) (b : Fin 256) :
    iblk m c 19 t (ix2 a b) = (m ((c : Thread nD τ).loc main_arg12)) (ix2 b a) := by
  unfold iblk
  entry_read
  blk_simp [idx19 t]
  pointwise
  blk_ext [idx19 t]

/-- A plane's entry at a row of the tile and a column is the token's. -/
theorem token4 (c : Dev nD) (t : Fin cfg0.N) (p : Fin 512) (l : Fin 256) :
    near (iblk m c 4 t) ⟨l.val / 128, by omega⟩ p ⟨l.val % 128, by omega⟩
      = token 1 2048 (by decide) rfl (m ((c : Thread nD τ).loc main_arg4)) ⟨512 * t.val + p.val, row_lt t p⟩ l := by
  unfold near token
  refine (iblk4 m c t _ _ _ _).trans (congrArg (m ((c : Thread nD τ).loc main_arg4)) (funext fun a => Fin.ext ?_))
  have ht := t.isLt
  have ht : t.val < 64 := ht
  have hp := p.isLt
  match a with
  | ⟨0, _⟩ => show t.val / 4 = (512 * t.val + p.val) / 2048; omega
  | ⟨1, _⟩ => rfl
  | ⟨2, _⟩ => show 0 = (512 * t.val + p.val) % 2048 % 1; omega
  | ⟨3, _⟩ => show 512 * (t.val % 4) + p.val = (512 * t.val + p.val) % 2048 / 1; omega
  | ⟨4, _⟩ => rfl

/-- A plane's entry at a row of the tile and a column is the token's. -/
theorem token3 (c : Dev nD) (t : Fin cfg0.N) (p : Fin 512) (l : Fin 256) :
    near (iblk m c 3 t) ⟨l.val / 128, by omega⟩ p ⟨l.val % 128, by omega⟩
      = token 1 2048 (by decide) rfl (m ((c : Thread nD τ).loc main_arg3)) ⟨512 * t.val + p.val, row_lt t p⟩ l := by
  unfold near token
  refine (iblk3 m c t _ _ _ _).trans (congrArg (m ((c : Thread nD τ).loc main_arg3)) (funext fun a => Fin.ext ?_))
  have ht := t.isLt
  have ht : t.val < 64 := ht
  have hp := p.isLt
  match a with
  | ⟨0, _⟩ => show t.val / 4 = (512 * t.val + p.val) / 2048; omega
  | ⟨1, _⟩ => rfl
  | ⟨2, _⟩ => show 0 = (512 * t.val + p.val) % 2048 % 1; omega
  | ⟨3, _⟩ => show 512 * (t.val % 4) + p.val = (512 * t.val + p.val) % 2048 / 1; omega
  | ⟨4, _⟩ => rfl

/-- A plane's entry at a row of the tile and a column is the token's. -/
theorem token6 (c : Dev nD) (t : Fin cfg0.N) (p : Fin 512) (l : Fin 256) :
    fours (iblk m c 6 t) ⟨l.val / 128, by omega⟩ p ⟨l.val % 128, by omega⟩
      = token 4 512 (by decide) rfl (m ((c : Thread nD τ).loc main_arg6)) ⟨512 * t.val + p.val, row_lt t p⟩ l := by
  unfold fours token
  refine (iblk6 m c t _ _ _ _).trans (congrArg (m ((c : Thread nD τ).loc main_arg6)) (funext fun a => Fin.ext ?_))
  have ht := t.isLt
  have ht : t.val < 64 := ht
  have hp := p.isLt
  match a with
  | ⟨0, _⟩ => show t.val / 4 = (512 * t.val + p.val) / 2048; omega
  | ⟨1, _⟩ => rfl
  | ⟨2, _⟩ => show p.val % 4 = (512 * t.val + p.val) % 2048 % 4; omega
  | ⟨3, _⟩ => show 128 * (t.val % 4) + p.val / 4 = (512 * t.val + p.val) % 2048 / 4; omega
  | ⟨4, _⟩ => rfl

/-- A plane's entry at a row of the tile and a column is the token's. -/
theorem token5 (c : Dev nD) (t : Fin cfg0.N) (p : Fin 512) (l : Fin 256) :
    fours (iblk m c 5 t) ⟨l.val / 128, by omega⟩ p ⟨l.val % 128, by omega⟩
      = token 4 512 (by decide) rfl (m ((c : Thread nD τ).loc main_arg5)) ⟨512 * t.val + p.val, row_lt t p⟩ l := by
  unfold fours token
  refine (iblk5 m c t _ _ _ _).trans (congrArg (m ((c : Thread nD τ).loc main_arg5)) (funext fun a => Fin.ext ?_))
  have ht := t.isLt
  have ht : t.val < 64 := ht
  have hp := p.isLt
  match a with
  | ⟨0, _⟩ => show t.val / 4 = (512 * t.val + p.val) / 2048; omega
  | ⟨1, _⟩ => rfl
  | ⟨2, _⟩ => show p.val % 4 = (512 * t.val + p.val) % 2048 % 4; omega
  | ⟨3, _⟩ => show 128 * (t.val % 4) + p.val / 4 = (512 * t.val + p.val) % 2048 / 4; omega
  | ⟨4, _⟩ => rfl

/-- A plane's entry at a row of the tile and a column is the token's. -/
theorem token8 (c : Dev nD) (t : Fin cfg0.N) (p : Fin 512) (l : Fin 256) :
    sixteens (iblk m c 8 t) ⟨l.val / 128, by omega⟩ p ⟨l.val % 128, by omega⟩
      = token 16 128 (by decide) rfl (m ((c : Thread nD τ).loc main_arg8)) ⟨512 * t.val + p.val, row_lt t p⟩ l := by
  unfold sixteens token
  refine (iblk8 m c t _ _ _ _).trans (congrArg (m ((c : Thread nD τ).loc main_arg8)) (funext fun a => Fin.ext ?_))
  have ht := t.isLt
  have ht : t.val < 64 := ht
  have hp := p.isLt
  match a with
  | ⟨0, _⟩ => show t.val / 4 = (512 * t.val + p.val) / 2048; omega
  | ⟨1, _⟩ => rfl
  | ⟨2, _⟩ => show p.val % 16 = (512 * t.val + p.val) % 2048 % 16; omega
  | ⟨3, _⟩ => show 32 * (t.val % 4) + p.val / 16 = (512 * t.val + p.val) % 2048 / 16; omega
  | ⟨4, _⟩ => rfl

/-- A plane's entry at a row of the tile and a column is the token's. -/
theorem token7 (c : Dev nD) (t : Fin cfg0.N) (p : Fin 512) (l : Fin 256) :
    sixteens (iblk m c 7 t) ⟨l.val / 128, by omega⟩ p ⟨l.val % 128, by omega⟩
      = token 16 128 (by decide) rfl (m ((c : Thread nD τ).loc main_arg7)) ⟨512 * t.val + p.val, row_lt t p⟩ l := by
  unfold sixteens token
  refine (iblk7 m c t _ _ _ _).trans (congrArg (m ((c : Thread nD τ).loc main_arg7)) (funext fun a => Fin.ext ?_))
  have ht := t.isLt
  have ht : t.val < 64 := ht
  have hp := p.isLt
  match a with
  | ⟨0, _⟩ => show t.val / 4 = (512 * t.val + p.val) / 2048; omega
  | ⟨1, _⟩ => rfl
  | ⟨2, _⟩ => show p.val % 16 = (512 * t.val + p.val) % 2048 % 16; omega
  | ⟨3, _⟩ => show 32 * (t.val % 4) + p.val / 16 = (512 * t.val + p.val) % 2048 / 16; omega
  | ⟨4, _⟩ => rfl

/-- The merged attention output of a tile's row is the token's. -/
theorem mergedAt_ins (c : Dev nD) (t : Fin cfg0.N) (p : Fin 512) (l : Fin 256) :
    mergedAt (ins m c t) ⟨l.val / 128, by omega⟩ p ⟨l.val % 128, by omega⟩
      = attended (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨512 * t.val + p.val, row_lt t p⟩ l := by
  unfold mergedAt attended
  rw [token3, token4, token5, token6, token7, token8]

/-- A tile's row after the branches is the token's. -/
theorem promptMixed_ins (c : Dev nD) (t : Fin cfg0.N) (p : Fin 512) :
    promptMixed (ins m c t) p = Cert.MixRefIdeal.Read.promptMixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) ⟨512 * t.val + p.val, row_lt t p⟩ := by
  funext j
  unfold promptMixed Cert.MixRefIdeal.Read.promptMixed mixed
  simp only [mergedAt_ins]
  simp only [iblk0, iblk1, iblk2, iblk9, iblk10]

/-- A sample's row after the branches. -/
theorem sampleMixed_ins (c : Dev nD) (t : Fin cfg0.N) (p : Fin 32) :
    sampleMixed (ins m c t) p = Cert.MixRefIdeal.Read.sampleMixed (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) p := by
  funext j
  unfold sampleMixed Cert.MixRefIdeal.Read.sampleMixed mixed
  simp only [iblk16, iblk17, iblk18, iblk19, iblk9, iblk10]

/-- The prompt result after the run. -/
theorem final20 (c : Dev nD) : (dats m 0 c).arrAt 20 cfg0.N
    = fun i : S32768x1024.Idx => finished (Cert.MixRefIdeal.Read.promptMixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (i 0)) (gains (m ((c : Thread nD τ).loc main_arg15)))
        (fun k c' => (m ((c : Thread nD τ).loc main_arg16)) (ix2 k c')) (fun k c' => (m ((c : Thread nD τ).loc main_arg17)) (ix2 k c')) (fun k c' => (m ((c : Thread nD τ).loc main_arg18)) (ix2 k c')) (lastGains (m ((c : Thread nD τ).loc main_arg19))) (i 1) := by
  refine (dats m 0 c).arrAt_eq_of_covers 20 _ (by decide +kernel) fun t hf y => ?_
  blk_simp
  rw [after20]
  obtain ⟨p, j, rfl⟩ : ∃ (p : Fin 512) (j : Fin 1024), y = ix2 p j := ⟨y 0, y 1, eq_ix2 y⟩
  refine (promptOut_row _ p j).trans ?_
  rw [promptMixed_ins]
  simp only [iblk11, iblk12, iblk13, iblk14, iblk15]
  congr 1
  · refine congrArg (Cert.MixRefIdeal.Read.promptMixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14))) (Fin.ext ?_)
    blk_simp [idx20 t]
    try dsimp only
    try omega
  · exact Fin.ext (by blk_simp [idx20 t]; try omega)

/-- The sample result after the run. -/
theorem final21 (c : Dev nD) : (dats m 0 c).arrAt 21 cfg0.N
    = fun i : S32x1024.Idx => finished (Cert.MixRefIdeal.Read.sampleMixed (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (i 0)) (gains (m ((c : Thread nD τ).loc main_arg15)))
        (fun k c' => (m ((c : Thread nD τ).loc main_arg16)) (ix2 k c')) (fun k c' => (m ((c : Thread nD τ).loc main_arg17)) (ix2 k c')) (fun k c' => (m ((c : Thread nD τ).loc main_arg18)) (ix2 k c')) (lastGains (m ((c : Thread nD τ).loc main_arg19))) (i 1) := by
  refine (dats m 0 c).arrAt_eq_of_covers 21 _ (by decide +kernel) fun t hf y => ?_
  blk_simp
  rw [after21]
  obtain ⟨p, j, rfl⟩ : ∃ (p : Fin 32) (j : Fin 1024), y = ix2 p j := ⟨y 0, y 1, eq_ix2 y⟩
  refine (sampleOut_row _ p j).trans ?_
  rw [sampleMixed_ins]
  simp only [iblk11, iblk12, iblk13, iblk14, iblk15]
  congr 1
  · refine congrArg (Cert.MixRefIdeal.Read.sampleMixed (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (Fin.ext ?_)
    blk_simp [idx21 t]
    try omega
  · exact Fin.ext (by blk_simp [idx21 t]; try omega)

end Cert.MixIdeal.Body
-- ==== Proof.MixClaims.lean ====
module

public import proofs.«01_k».proof.Defs
public import proofs.«01_k».proof.Proof.Gen.MixRefIdeal
public import proofs.«01_k».proof.Proof.Gen.MixRefIdeal.Run
public import proofs.«01_k».proof.Proof.MixValue
public import proofs.«01_k».proof.Proof.MixRef
public import Idealize.ShloMosaic.Adequacy
public import Idealize.ShloMosaic.Init

/-!
# The claims about the last call
-/

@[expose] public section
noncomputable section
namespace Cert.Mix.Row
open Idealize.ShloMosaic Idealize.SL.Sem

/-- The reference leaves its arguments and its semaphores as they were. -/
theorem reference_frame : Cert.quiescent_MixRefIdeal := fun m ρ _ =>
  (θ_run Cert.MixRefIdeal.defs _ _).mono
    (fun r h => ⟨fun c => (h c).2.2, sem_eq_zero_of_no_sems (by decide) r.2⟩)
    (Cert.MixRefIdeal.Value.run (F := Ideal) m ρ)

/-- The kernel's run: its two results by name, its arguments as they were. -/
theorem kernel_run (m : (ℓ : Loc Cert.MixIdeal.nD Cert.MixIdeal.τ Cert.MixIdeal.sig) → Buf (Elt Ideal) ℓ) (ρ : Dev Cert.MixIdeal.nD → PrngReg) :
    θ_run (Cert.MixIdeal.defs (F := Ideal)) (onTc (τ := Cert.MixIdeal.τ) (Cert.MixIdeal.main (F := Ideal))) ⟨m, fun _ => 0, ρ⟩ fun r => ∀ c : Dev Cert.MixIdeal.nD,
      r.2.mem ((c.tc : Thread Cert.MixIdeal.nD Cert.MixIdeal.τ).loc Cert.MixIdeal.main_v7_0) = (Cert.MixIdeal.Body.dats m 0 c).arrAt 20 Cert.MixIdeal.cfg0.N
      ∧ r.2.mem ((c.tc : Thread Cert.MixIdeal.nD Cert.MixIdeal.τ).loc Cert.MixIdeal.main_v7_1) = (Cert.MixIdeal.Body.dats m 0 c).arrAt 21 Cert.MixIdeal.cfg0.N
      ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19) :=
  (θ_run Cert.MixIdeal.defs _ _).mono
    (fun r h c => ⟨(h.1 c).1 20, (h.1 c).1 21, h.2.1 c⟩)
    (θ_run_and (Cert.MixIdeal.Body.run_main (F := Ideal) m ρ) (Cert.MixIdeal.Body.frame (F := Ideal) m ρ))

/-- The reference's run: its two results by name, its arguments as they were. -/
theorem reference_run (m : (ℓ : Loc Cert.MixRefIdeal.nD Cert.MixRefIdeal.τ Cert.MixRefIdeal.sig) → Buf (Elt Ideal) ℓ) (ρ : Dev Cert.MixRefIdeal.nD → PrngReg) :
    θ_run (Cert.MixRefIdeal.defs (F := Ideal)) (onTc (τ := Cert.MixRefIdeal.τ) (Cert.MixRefIdeal.main (F := Ideal))) ⟨m, fun _ => 0, ρ⟩ fun r => ∀ c : Dev Cert.MixRefIdeal.nD,
      r.2.mem ((c.tc : Thread Cert.MixRefIdeal.nD Cert.MixRefIdeal.τ).loc Cert.MixRefIdeal.main_v77) = Cert.MixRefIdeal.Read.val_main_v77 (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18)) (m ((c.tc : Thread Cert.MixRefIdeal.nD Cert.MixRefIdeal.τ).loc Cert.MixRefIdeal.main_arg19))
      ∧ r.2.mem ((c.tc : Thread Cert.MixRefIdeal.nD Cert.MixRefIdeal.τ).loc Cert.MixRefIdeal.main_v123) = Cert.MixRefIdeal.Read.val_main_v123 (F := Ideal) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18)) (m ((c.tc : Thread Cert.MixRefIdeal.nD Cert.MixRefIdeal.τ).loc Cert.MixRefIdeal.main_arg19))
      ∧ r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19) := by
  refine (θ_run Cert.MixRefIdeal.defs _ _).mono (fun _ h c => ?_) (Cert.MixRefIdeal.Value.run (F := Ideal) m ρ)
  obtain ⟨r0, r1, rest⟩ := h c
  exact ⟨r0.trans (Cert.MixRefIdeal.Read.val_main_v77_eq _), r1.trans (Cert.MixRefIdeal.Read.val_main_v123_eq _), rest⟩

/-- Result 0 is the same. -/
theorem same0 (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ) (c : Dev Cert.MixIdeal.nD)
    (a0 : m' ((c.tc : Thread Cert.MixRefIdeal.nD Cert.MixRefIdeal.τ).loc Cert.MixRefIdeal.main_arg0) = m ((c.tc : Thread Cert.MixIdeal.nD Cert.MixIdeal.τ).loc Cert.MixIdeal.main_arg0)) (a1 : m' ((c.tc : Thread Cert.MixRefIdeal.nD Cert.MixRefIdeal.τ).loc Cert.MixRefIdeal.main_arg1) = m ((c.tc : Thread Cert.MixIdeal.nD Cert.MixIdeal.τ).loc Cert.MixIdeal.main_arg1)) (a2 : m' ((c.tc : Thread Cert.MixRefIdeal.nD Cert.MixRefIdeal.τ).loc Cert.MixRefIdeal.main_arg2) = m ((c.tc : Thread Cert.MixIdeal.nD Cert.MixIdeal.τ).loc Cert.MixIdeal.main_arg2)) (a3 : m' ((c.tc : Thread Cert.MixRefIdeal.nD Cert.MixRefIdeal.τ).loc Cert.MixRefIdeal.main_arg3) = m ((c.tc : Thread Cert.MixIdeal.nD Cert.MixIdeal.τ).loc Cert.MixIdeal.main_arg3)) (a4 : m' ((c.tc : Thread Cert.MixRefIdeal.nD Cert.MixRefIdeal.τ).loc Cert.MixRefIdeal.main_arg4) = m ((c.tc : Thread Cert.MixIdeal.nD Cert.MixIdeal.τ).loc Cert.MixIdeal.main_arg4)) (a5 : m' ((c.tc : Thread Cert.MixRefIdeal.nD Cert.MixRefIdeal.τ).loc Cert.MixRefIdeal.main_arg5) = m ((c.tc : Thread Cert.MixIdeal.nD Cert.MixIdeal.τ).loc Cert.MixIdeal.main_arg5)) (a6 : m' ((c.tc : Thread Cert.MixRefIdeal.nD Cert.MixRefIdeal.τ).loc Cert.MixRefIdeal.main_arg6) = m ((c.tc : Thread Cert.MixIdeal.nD Cert.MixIdeal.τ).loc Cert.MixIdeal.main_arg6)) (a7 : m' ((c.tc : Thread Cert.MixRefIdeal.nD Cert.MixRefIdeal.τ).loc Cert.MixRefIdeal.main_arg7) = m ((c.tc : Thread Cert.MixIdeal.nD Cert.MixIdeal.τ).loc Cert.MixIdeal.main_arg7)) (a8 : m' ((c.tc : Thread Cert.MixRefIdeal.nD Cert.MixRefIdeal.τ).loc Cert.MixRefIdeal.main_arg8) = m ((c.tc : Thread Cert.MixIdeal.nD Cert.MixIdeal.τ).loc Cert.MixIdeal.main_arg8)) (a13 : m' ((c.tc : Thread Cert.MixRefIdeal.nD Cert.MixRefIdeal.τ).loc Cert.MixRefIdeal.main_arg13) = m ((c.tc : Thread Cert.MixIdeal.nD Cert.MixIdeal.τ).loc Cert.MixIdeal.main_arg13)) (a14 : m' ((c.tc : Thread Cert.MixRefIdeal.nD Cert.MixRefIdeal.τ).loc Cert.MixRefIdeal.main_arg14) = m ((c.tc : Thread Cert.MixIdeal.nD Cert.MixIdeal.τ).loc Cert.MixIdeal.main_arg14)) (a15 : m' ((c.tc : Thread Cert.MixRefIdeal.nD Cert.MixRefIdeal.τ).loc Cert.MixRefIdeal.main_arg15) = m ((c.tc : Thread Cert.MixIdeal.nD Cert.MixIdeal.τ).loc Cert.MixIdeal.main_arg15)) (a16 : m' ((c.tc : Thread Cert.MixRefIdeal.nD Cert.MixRefIdeal.τ).loc Cert.MixRefIdeal.main_arg16) = m ((c.tc : Thread Cert.MixIdeal.nD Cert.MixIdeal.τ).loc Cert.MixIdeal.main_arg16)) (a17 : m' ((c.tc : Thread Cert.MixRefIdeal.nD Cert.MixRefIdeal.τ).loc Cert.MixRefIdeal.main_arg17) = m ((c.tc : Thread Cert.MixIdeal.nD Cert.MixIdeal.τ).loc Cert.MixIdeal.main_arg17)) (a18 : m' ((c.tc : Thread Cert.MixRefIdeal.nD Cert.MixRefIdeal.τ).loc Cert.MixRefIdeal.main_arg18) = m ((c.tc : Thread Cert.MixIdeal.nD Cert.MixIdeal.τ).loc Cert.MixIdeal.main_arg18)) (a19 : m' ((c.tc : Thread Cert.MixRefIdeal.nD Cert.MixRefIdeal.τ).loc Cert.MixRefIdeal.main_arg19) = m ((c.tc : Thread Cert.MixIdeal.nD Cert.MixIdeal.τ).loc Cert.MixIdeal.main_arg19)) :
    Cert.MixRefIdeal.Read.val_main_v77 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg13)) (m' ((c.tc : Thread Cert.MixRefIdeal.nD Cert.MixRefIdeal.τ).loc Cert.MixRefIdeal.main_arg14)) (m' ((c.tc : Thread Cert.MixRefIdeal.nD Cert.MixRefIdeal.τ).loc Cert.MixRefIdeal.main_arg15)) (m' ((c.tc : Thread Cert.MixRefIdeal.nD Cert.MixRefIdeal.τ).loc Cert.MixRefIdeal.main_arg16)) (m' ((c.tc : Thread Cert.MixRefIdeal.nD Cert.MixRefIdeal.τ).loc Cert.MixRefIdeal.main_arg17)) (m' ((c.tc : Thread Cert.MixRefIdeal.nD Cert.MixRefIdeal.τ).loc Cert.MixRefIdeal.main_arg18)) (m' ((c.tc : Thread Cert.MixRefIdeal.nD Cert.MixRefIdeal.τ).loc Cert.MixRefIdeal.main_arg19))
      = (Cert.MixIdeal.Body.dats m 0 c).arrAt 20 Cert.MixIdeal.cfg0.N := by
  rw [a0, a1, a2, a3, a4, a5, a6, a7, a8, a13, a14, a15, a16, a17, a18, a19]
  exact (Cert.MixRefIdeal.Read.prompt_eq _ _ _ _ _ _ _ _ _ _ _ _ _ _ _ _).trans (Cert.MixIdeal.Body.final20 m c).symm

/-- Result 1 is the same. -/
theorem same1 (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ) (c : Dev Cert.MixIdeal.nD)
    (a9 : m' ((c.tc : Thread Cert.MixRefIdeal.nD Cert.MixRefIdeal.τ).loc Cert.MixRefIdeal.main_arg9) = m ((c.tc : Thread Cert.MixIdeal.nD Cert.MixIdeal.τ).loc Cert.MixIdeal.main_arg9)) (a10 : m' ((c.tc : Thread Cert.MixRefIdeal.nD Cert.MixRefIdeal.τ).loc Cert.MixRefIdeal.main_arg10) = m ((c.tc : Thread Cert.MixIdeal.nD Cert.MixIdeal.τ).loc Cert.MixIdeal.main_arg10)) (a11 : m' ((c.tc : Thread Cert.MixRefIdeal.nD Cert.MixRefIdeal.τ).loc Cert.MixRefIdeal.main_arg11) = m ((c.tc : Thread Cert.MixIdeal.nD Cert.MixIdeal.τ).loc Cert.MixIdeal.main_arg11)) (a12 : m' ((c.tc : Thread Cert.MixRefIdeal.nD Cert.MixRefIdeal.τ).loc Cert.MixRefIdeal.main_arg12) = m ((c.tc : Thread Cert.MixIdeal.nD Cert.MixIdeal.τ).loc Cert.MixIdeal.main_arg12)) (a13 : m' ((c.tc : Thread Cert.MixRefIdeal.nD Cert.MixRefIdeal.τ).loc Cert.MixRefIdeal.main_arg13) = m ((c.tc : Thread Cert.MixIdeal.nD Cert.MixIdeal.τ).loc Cert.MixIdeal.main_arg13)) (a14 : m' ((c.tc : Thread Cert.MixRefIdeal.nD Cert.MixRefIdeal.τ).loc Cert.MixRefIdeal.main_arg14) = m ((c.tc : Thread Cert.MixIdeal.nD Cert.MixIdeal.τ).loc Cert.MixIdeal.main_arg14)) (a15 : m' ((c.tc : Thread Cert.MixRefIdeal.nD Cert.MixRefIdeal.τ).loc Cert.MixRefIdeal.main_arg15) = m ((c.tc : Thread Cert.MixIdeal.nD Cert.MixIdeal.τ).loc Cert.MixIdeal.main_arg15)) (a16 : m' ((c.tc : Thread Cert.MixRefIdeal.nD Cert.MixRefIdeal.τ).loc Cert.MixRefIdeal.main_arg16) = m ((c.tc : Thread Cert.MixIdeal.nD Cert.MixIdeal.τ).loc Cert.MixIdeal.main_arg16)) (a17 : m' ((c.tc : Thread Cert.MixRefIdeal.nD Cert.MixRefIdeal.τ).loc Cert.MixRefIdeal.main_arg17) = m ((c.tc : Thread Cert.MixIdeal.nD Cert.MixIdeal.τ).loc Cert.MixIdeal.main_arg17)) (a18 : m' ((c.tc : Thread Cert.MixRefIdeal.nD Cert.MixRefIdeal.τ).loc Cert.MixRefIdeal.main_arg18) = m ((c.tc : Thread Cert.MixIdeal.nD Cert.MixIdeal.τ).loc Cert.MixIdeal.main_arg18)) (a19 : m' ((c.tc : Thread Cert.MixRefIdeal.nD Cert.MixRefIdeal.τ).loc Cert.MixRefIdeal.main_arg19) = m ((c.tc : Thread Cert.MixIdeal.nD Cert.MixIdeal.τ).loc Cert.MixIdeal.main_arg19)) :
    Cert.MixRefIdeal.Read.val_main_v123 (F := Ideal) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg12)) (m' ((c.tc : Thread Cert.MixRefIdeal.nD Cert.MixRefIdeal.τ).loc Cert.MixRefIdeal.main_arg13)) (m' ((c.tc : Thread Cert.MixRefIdeal.nD Cert.MixRefIdeal.τ).loc Cert.MixRefIdeal.main_arg14)) (m' ((c.tc : Thread Cert.MixRefIdeal.nD Cert.MixRefIdeal.τ).loc Cert.MixRefIdeal.main_arg15)) (m' ((c.tc : Thread Cert.MixRefIdeal.nD Cert.MixRefIdeal.τ).loc Cert.MixRefIdeal.main_arg16)) (m' ((c.tc : Thread Cert.MixRefIdeal.nD Cert.MixRefIdeal.τ).loc Cert.MixRefIdeal.main_arg17)) (m' ((c.tc : Thread Cert.MixRefIdeal.nD Cert.MixRefIdeal.τ).loc Cert.MixRefIdeal.main_arg18)) (m' ((c.tc : Thread Cert.MixRefIdeal.nD Cert.MixRefIdeal.τ).loc Cert.MixRefIdeal.main_arg19))
      = (Cert.MixIdeal.Body.dats m 0 c).arrAt 21 Cert.MixIdeal.cfg0.N := by
  rw [a9, a10, a11, a12, a13, a14, a15, a16, a17, a18, a19]
  exact (Cert.MixRefIdeal.Read.sample_eq _ _ _ _ _ _ _ _ _ _ _).trans (Cert.MixIdeal.Body.final21 m c).symm

set_option maxHeartbeats 4000000 in
/-- The two results of the kernel are the two results of the reference. -/
theorem algebraic : Cert.algebraic_MixIdeal_MixRefIdeal := by
  intro m ρ m' ρ' _ hagree
  refine ⟨fun c => (Cert.MixIdeal.Body.dats m 0 c).arrAt 20 Cert.MixIdeal.cfg0.N,
    fun c => (Cert.MixIdeal.Body.dats m 0 c).arrAt 21 Cert.MixIdeal.cfg0.N, kernel_run m ρ, ?_⟩
  refine (θ_run Cert.MixRefIdeal.defs _ _).mono (fun _ h c => ?_) (reference_run m' ρ')
  obtain ⟨r0, r1, rest⟩ := h c
  obtain ⟨a0, a1, a2, a3, a4, a5, a6, a7, a8, a9, a10, a11, a12, a13, a14, a15, a16, a17, a18, a19⟩ := hagree c
  exact ⟨r0.trans (same0 m m' c a0 a1 a2 a3 a4 a5 a6 a7 a8 a13 a14 a15 a16 a17 a18 a19),
    r1.trans (same1 m m' c a9 a10 a11 a12 a13 a14 a15 a16 a17 a18 a19), rest⟩

end Cert.Mix.Row
-- ==== Proof.lean ====
module

public import proofs.«01_k».proof.Defs
public import proofs.«01_k».proof.Proof.StepClaims
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.FfnFrame
public import proofs.«01_k».proof.Proof.FfnIdealFrame
public import proofs.«01_k».proof.Proof.FfnClaims
public import proofs.«01_k».proof.Proof.MixFrame
public import proofs.«01_k».proof.Proof.MixIdealFrame
public import proofs.«01_k».proof.Proof.MixClaims

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Mix.Gen.facts, Cert.MixIdeal.Gen.facts,
    Cert.MixRefIdeal.Gen.facts, Cert.Pre_finite_scores.Gen.facts,
    fun m ρ _ => Cert.Kernel.Gen.frame m ρ, fun m ρ _ => Cert.KernelIdeal.Gen.frame m ρ,
    fun m ρ _ => Cert.KernelIdeal.Gen.frame m ρ, Cert.Step.reference_frame, fun m ρ _ => Cert.Step.reference_frame m ρ trivial,
    fun m ρ _ => Cert.Ffn.Body.frame m ρ, fun m ρ _ => Cert.FfnIdeal.Body.frame m ρ, Cert.Ffn.Row.reference_frame,
    fun m ρ _ => Cert.Mix.Body.frame m ρ, fun m ρ _ => Cert.MixIdeal.Body.frame m ρ, Cert.Mix.Row.reference_frame,
    Cert.Step.preserves, Cert.Step.algebraic, trivial, Cert.Ffn.Row.algebraic, trivial, Cert.Mix.Row.algebraic⟩

end Cert.Proof

end
